-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S8x3x4096 : Shape := ⟨3, ![8, 3, 4096]⟩
abbrev S8x3x1024 : Shape := ⟨3, ![8, 3, 1024]⟩
abbrev S8x128x4096 : Shape := ⟨3, ![8, 128, 4096]⟩
abbrev S8x256x1024 : Shape := ⟨3, ![8, 256, 1024]⟩
abbrev S256x384 : Shape := ⟨2, ![256, 384]⟩
abbrev S256 : Shape := ⟨1, ![256]⟩
abbrev S256x256 : Shape := ⟨2, ![256, 256]⟩
abbrev S8x4096x3 : Shape := ⟨3, ![8, 4096, 3]⟩
abbrev S8x1024x3 : Shape := ⟨3, ![8, 1024, 3]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩

class Facts : Prop where
  transposes_S8x3x4096_S8x4096x3_0_2_1 : S8x3x4096.Transposes [0, 2, 1] S8x4096x3
  transposes_S8x3x1024_S8x1024x3_0_2_1 : S8x3x1024.Transposes [0, 2, 1] S8x1024x3
  transposes_S8x1024x3_S8x3x1024_0_2_1 : S8x1024x3.Transposes [0, 2, 1] S8x3x1024
  bcast_S_S8x4096x1024 : S_.BroadcastsInDim S8x4096x1024 (![] : Fin 0 → Fin S8x4096x1024.rank)
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  reducesTo_S8x1024x3_S8x1024_d2 : S8x1024x3.ReducesTo [2] S8x1024
  bcast_S8x1024_S8x1x1024_0_2 : S8x1024.BroadcastsInDim S8x1x1024 (![0, 2] : Fin 2 → Fin S8x1x1024.rank)
  bcast_S8x1x1024_S8x4096x1024_0_1_2 : S8x1x1024.BroadcastsInDim S8x4096x1024 (![0, 1, 2] : Fin 3 → Fin S8x4096x1024.rank)
  slices_S8x4096x1024_S8x4096x3_0_0_0 : S8x4096x1024.Slices ![0, 0, 0] S8x4096x3
  slices_S8x4096x1024_S8x4096x3_0_0_1 : S8x4096x1024.Slices ![0, 0, 1] S8x4096x3
  bcast_S_S8x3x4096 : S_.BroadcastsInDim S8x3x4096 (![] : Fin 0 → Fin S8x3x4096.rank)
  bcast_S_S8x3x1024 : S_.BroadcastsInDim S8x3x1024 (![] : Fin 0 → Fin S8x3x1024.rank)
  bcast_S_S8x128x4096 : S_.BroadcastsInDim S8x128x4096 (![] : Fin 0 → Fin S8x128x4096.rank)
  bcast_S_S8x256x1024 : S_.BroadcastsInDim S8x256x1024 (![] : Fin 0 → Fin S8x256x1024.rank)
  bcast_S_S256x384 : S_.BroadcastsInDim S256x384 (![] : Fin 0 → Fin S256x384.rank)
  bcast_S_S256 : S_.BroadcastsInDim S256 (![] : Fin 0 → Fin S256.rank)
  bcast_S_S256x256 : S_.BroadcastsInDim S256x256 (![] : Fin 0 → Fin S256x256.rank)
  dot_S8x4096x3_S8x3x1024_S8x4096x1024_2_1_1_2_0_0_wf : DotDims.WF S8x4096x3 S8x3x1024 S8x4096x1024 [2] [1] [1] [2] [0] [0]

variable [Facts]

variable {F : FTy → Type} [FloatOps F]
def dot_S8x4096x3_S8x3x1024_S8x4096x1024_2_1_1_2_0_0 : DotDims S8x4096x3 S8x3x1024 S8x4096x1024 where
  lhsContracting := [2]
  rhsContracting := [1]
  lhsNonContracting := [1]
  rhsNonContracting := [2]
  lhsBatch := [0]
  rhsBatch := [0]
  wf := dot_S8x4096x3_S8x3x1024_S8x4096x1024_2_1_1_2_0_0_wf
def comparator_f32_d2 : F .f32 → F .f32 → BitVec 1 :=
  fun l r =>
    let cst_13 := FloatOps.ofBits .f32 0x00000000#32
    let v53 := FloatOps.cmpf .oeq l cst_13
    let cst_14 := FloatOps.ofBits .f32 0x00000000#32
    let v54 := Scalar.select v53 cst_14 l
    let v55 := FloatOps.cmpf .une l l
    let cst_15 := FloatOps.ofBits .f32 0x7FC00000#32
    let v56 := Scalar.select v55 cst_15 v54
    let cst_16 := FloatOps.ofBits .f32 0x00000000#32
    let v57 := FloatOps.cmpf .oeq r cst_16
    let cst_17 := FloatOps.ofBits .f32 0x00000000#32
    let v58 := Scalar.select v57 cst_17 r
    let v59 := FloatOps.cmpf .une r r
    let cst_18 := FloatOps.ofBits .f32 0x7FC00000#32
    let v60 := Scalar.select v59 cst_18 v58
    let v61 := FloatOps.cmpfTotal .lt v56 v60
    v61

def fn_part2 {F : FTy → Type} [FloatOps F] (main_arg7 : FVec F S256 .f32) (main_arg8 : FVec F S256x256 .f32) (main_arg9 : FVec F S256 .f32) (main_arg10 : FVec F S256 .f32) (main_v19 : IVec S8x4096x3 1) (main_v22 : IVec S8x3x4096 1) (main_v25 : IVec S8x3x1024 1) (main_v28 : IVec S8x128x4096 1) (main_v31 : IVec S8x256x1024 1) (main_v34 : IVec S256x384 1) (main_v37 : IVec S256 1) (main_v38 : FVec F S256 .f32) : IVec S8x4096x3 1 × IVec S8x3x4096 1 × IVec S8x3x1024 1 × IVec S8x128x4096 1 × IVec S8x256x1024 1 × IVec S256x384 1 × IVec S256 1 × IVec S256 1 × IVec S256 1 × IVec S256x256 1 × IVec S256 1 × IVec S256 1 :=
  let main_cst_8 : FVec F S_ .f32 := constant S_ .f32 0x7F800000#32
  let main_v39 : FVec F S256 .f32 := broadcastInDim S256 ![] bcast_S_S256 main_cst_8
  let main_v40 : IVec S256 1 := cmpf .olt main_v38 main_v39
  let main_v41 : FVec F S256 .f32 := Host.absf main_arg7
  let main_cst_9 : FVec F S_ .f32 := constant S_ .f32 0x7F800000#32
  let main_v42 : FVec F S256 .f32 := broadcastInDim S256 ![] bcast_S_S256 main_cst_9
  let main_v43 : IVec S256 1 := cmpf .olt main_v41 main_v42
  let main_v44 : FVec F S256x256 .f32 := Host.absf main_arg8
  let main_cst_10 : FVec F S_ .f32 := constant S_ .f32 0x7F800000#32
  let main_v45 : FVec F S256x256 .f32 := broadcastInDim S256x256 ![] bcast_S_S256x256 main_cst_10
  let main_v46 : IVec S256x256 1 := cmpf .olt main_v44 main_v45
  let main_v47 : FVec F S256 .f32 := Host.absf main_arg9
  let main_cst_11 : FVec F S_ .f32 := constant S_ .f32 0x7F800000#32
  let main_v48 : FVec F S256 .f32 := broadcastInDim S256 ![] bcast_S_S256 main_cst_11
  let main_v49 : IVec S256 1 := cmpf .olt main_v47 main_v48
  let main_v50 : FVec F S256 .f32 := Host.absf main_arg10
  let main_cst_12 : FVec F S_ .f32 := constant S_ .f32 0x7F800000#32
  let main_v51 : FVec F S256 .f32 := broadcastInDim S256 ![] bcast_S_S256 main_cst_12
  let main_v52 : IVec S256 1 := cmpf .olt main_v50 main_v51
  (main_v19, main_v22, main_v25, main_v28, main_v31, main_v34, main_v37, main_v40, main_v43, main_v46, main_v49, main_v52)

def fn_part1 {F : FTy → Type} [FloatOps F] (main_arg1 : FVec F S8x3x1024 .f32) (main_arg2 : FVec F S8x128x4096 .f32) (main_arg3 : FVec F S8x256x1024 .f32) (main_arg4 : FVec F S256x384 .f32) (main_arg5 : FVec F S256 .f32) (main_arg6 : FVec F S256 .f32) (main_arg7 : FVec F S256 .f32) (main_arg8 : FVec F S256x256 .f32) (main_arg9 : FVec F S256 .f32) (main_arg10 : FVec F S256 .f32) (main_v19 : IVec S8x4096x3 1) (main_v20 : FVec F S8x3x4096 .f32) : IVec S8x4096x3 1 × IVec S8x3x4096 1 × IVec S8x3x1024 1 × IVec S8x128x4096 1 × IVec S8x256x1024 1 × IVec S256x384 1 × IVec S256 1 × IVec S256 1 × IVec S256 1 × IVec S256x256 1 × IVec S256 1 × IVec S256 1 :=
  let main_cst_2 : FVec F S_ .f32 := constant S_ .f32 0x7F800000#32
  let main_v21 : FVec F S8x3x4096 .f32 := broadcastInDim S8x3x4096 ![] bcast_S_S8x3x4096 main_cst_2
  let main_v22 : IVec S8x3x4096 1 := cmpf .olt main_v20 main_v21
  let main_v23 : FVec F S8x3x1024 .f32 := Host.absf main_arg1
  let main_cst_3 : FVec F S_ .f32 := constant S_ .f32 0x7F800000#32
  let main_v24 : FVec F S8x3x1024 .f32 := broadcastInDim S8x3x1024 ![] bcast_S_S8x3x1024 main_cst_3
  let main_v25 : IVec S8x3x1024 1 := cmpf .olt main_v23 main_v24
  let main_v26 : FVec F S8x128x4096 .f32 := Host.absf main_arg2
  let main_cst_4 : FVec F S_ .f32 := constant S_ .f32 0x7F800000#32
  let main_v27 : FVec F S8x128x4096 .f32 := broadcastInDim S8x128x4096 ![] bcast_S_S8x128x4096 main_cst_4
  let main_v28 : IVec S8x128x4096 1 := cmpf .olt main_v26 main_v27
  let main_v29 : FVec F S8x256x1024 .f32 := Host.absf main_arg3
  let main_cst_5 : FVec F S_ .f32 := constant S_ .f32 0x7F800000#32
  let main_v30 : FVec F S8x256x1024 .f32 := broadcastInDim S8x256x1024 ![] bcast_S_S8x256x1024 main_cst_5
  let main_v31 : IVec S8x256x1024 1 := cmpf .olt main_v29 main_v30
  let main_v32 : FVec F S256x384 .f32 := Host.absf main_arg4
  let main_cst_6 : FVec F S_ .f32 := constant S_ .f32 0x7F800000#32
  let main_v33 : FVec F S256x384 .f32 := broadcastInDim S256x384 ![] bcast_S_S256x384 main_cst_6
  let main_v34 : IVec S256x384 1 := cmpf .olt main_v32 main_v33
  let main_v35 : FVec F S256 .f32 := Host.absf main_arg5
  let main_cst_7 : FVec F S_ .f32 := constant S_ .f32 0x7F800000#32
  let main_v36 : FVec F S256 .f32 := broadcastInDim S256 ![] bcast_S_S256 main_cst_7
  let main_v37 : IVec S256 1 := cmpf .olt main_v35 main_v36
  let main_v38 : FVec F S256 .f32 := Host.absf main_arg6
  fn_part2 (F := F) main_arg7 main_arg8 main_arg9 main_arg10 main_v19 main_v22 main_v25 main_v28 main_v31 main_v34 main_v37 main_v38

def fn {F : FTy → Type} [FloatOps F] (main_arg0 : FVec F S8x3x4096 .f32) (main_arg1 : FVec F S8x3x1024 .f32) (main_arg2 : FVec F S8x128x4096 .f32) (main_arg3 : FVec F S8x256x1024 .f32) (main_arg4 : FVec F S256x384 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) : IVec S8x4096x3 1 × IVec S8x3x4096 1 × IVec S8x3x1024 1 × IVec S8x128x4096 1 × IVec S8x256x1024 1 × IVec S256x384 1 × IVec S256 1 × IVec S256 1 × IVec S256 1 × IVec S256x256 1 × IVec S256 1 × IVec S256 1 :=
  let main_v0 : FVec F S8x4096x3 .f32 := (transpose S8x4096x3 [0, 2, 1] · transposes_S8x3x4096_S8x4096x3_0_2_1) main_arg0
  let main_v1 : FVec F S8x1024x3 .f32 := (transpose S8x1024x3 [0, 2, 1] · transposes_S8x3x1024_S8x1024x3_0_2_1) main_arg1
  let main_v2 : FVec F S8x3x1024 .f32 := (transpose S8x3x1024 [0, 2, 1] · transposes_S8x1024x3_S8x3x1024_0_2_1) main_v1
  let main_v3 : FVec F S8x4096x1024 .f32 := (fun l r => Host.dotGeneral dot_S8x4096x3_S8x3x1024_S8x4096x1024_2_1_1_2_0_0 none l r) main_v0 main_v2
  let main_cst : FVec F S_ .f32 := constant S_ .f32 0xC0000000#32
  let main_v4 : FVec F S8x4096x1024 .f32 := broadcastInDim S8x4096x1024 ![] bcast_S_S8x4096x1024 main_cst
  let main_v5 : FVec F S8x4096x1024 .f32 := mulf main_v4 main_v3
  let main_v6 : FVec F S8x4096x3 .f32 := mulf main_v0 main_v0
  let main_cst_0 : FVec F S_ .f32 := constant S_ .f32 0x00000000#32
  let main_v7 : FVec F S8x4096 .f32 := (fun x v => Host.reduceAdd x v reducesTo_S8x4096x3_S8x4096_d2 h_S_) main_v6 main_cst_0
  let main_v8 : FVec F S8x4096x1 .f32 := broadcastInDim S8x4096x1 ![0, 1] bcast_S8x4096_S8x4096x1_0_1 main_v7
  let main_v9 : FVec F S8x4096x1024 .f32 := broadcastInDim S8x4096x1024 ![0, 1, 2] bcast_S8x4096x1_S8x4096x1024_0_1_2 main_v8
  let main_v10 : FVec F S8x4096x1024 .f32 := addf main_v5 main_v9
  let main_v11 : FVec F S8x1024x3 .f32 := mulf main_v1 main_v1
  let main_cst_1 : FVec F S_ .f32 := constant S_ .f32 0x00000000#32
  let main_v12 : FVec F S8x1024 .f32 := (fun x v => Host.reduceAdd x v reducesTo_S8x1024x3_S8x1024_d2 h_S_) main_v11 main_cst_1
  let main_v13 : FVec F S8x1x1024 .f32 := broadcastInDim S8x1x1024 ![0, 2] bcast_S8x1024_S8x1x1024_0_2 main_v12
  let main_v14 : FVec F S8x4096x1024 .f32 := broadcastInDim S8x4096x1024 ![0, 1, 2] bcast_S8x1x1024_S8x4096x1024_0_1_2 main_v13
  let main_v15 : FVec F S8x4096x1024 .f32 := addf main_v10 main_v14
  let main_v16 : FVec F S8x4096x1024 .f32 := (fun x => Host.sort S8x4096x1024 2 comparator_f32_d2 x) main_v15
  let main_v17 : FVec F S8x4096x3 .f32 := (extractStridedSlice S8x4096x3 ![0, 0, 0] · slices_S8x4096x1024_S8x4096x3_0_0_0) main_v16
  let main_v18 : FVec F S8x4096x3 .f32 := (extractStridedSlice S8x4096x3 ![0, 0, 1] · slices_S8x4096x1024_S8x4096x3_0_0_1) main_v16
  let main_v19 : IVec S8x4096x3 1 := cmpf .olt main_v17 main_v18
  let main_v20 : FVec F S8x3x4096 .f32 := Host.absf main_arg0
  fn_part1 (F := F) main_arg1 main_arg2 main_arg3 main_arg4 main_arg5 main_arg6 main_arg7 main_arg8 main_arg9 main_arg10 main_v19 main_v20
-- ==== Kernel.lean ====
abbrev S8x3x4096 : Shape := ⟨3, ![8, 3, 4096]⟩
abbrev S8x3x1024 : Shape := ⟨3, ![8, 3, 1024]⟩
abbrev S8x128x4096 : Shape := ⟨3, ![8, 128, 4096]⟩
abbrev S8x256x1024 : Shape := ⟨3, ![8, 256, 1024]⟩
abbrev S256x384 : Shape := ⟨2, ![256, 384]⟩
abbrev S256 : Shape := ⟨1, ![256]⟩
abbrev S256x256 : Shape := ⟨2, ![256, 256]⟩
abbrev S256x1 : Shape := ⟨2, ![256, 1]⟩
abbrev S1x256 : Shape := ⟨2, ![1, 256]⟩
abbrev S8x256x4096 : Shape := ⟨3, ![8, 256, 4096]⟩
abbrev S8x256 : Shape := ⟨2, ![8, 256]⟩
abbrev S1x3x4096 : Shape := ⟨3, ![1, 3, 4096]⟩
abbrev S1x3x1024 : Shape := ⟨3, ![1, 3, 1024]⟩
abbrev S1x128x4096 : Shape := ⟨3, ![1, 128, 4096]⟩
abbrev S1x256x1024 : Shape := ⟨3, ![1, 256, 1024]⟩
abbrev S1x256x4096 : Shape := ⟨3, ![1, 256, 4096]⟩
abbrev S3x4096 : Shape := ⟨2, ![3, 4096]⟩
abbrev S3x1024 : Shape := ⟨2, ![3, 1024]⟩
abbrev S1024x4096 : Shape := ⟨2, ![1024, 4096]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S8x4096 : Shape := ⟨2, ![8, 4096]⟩
abbrev S256x1024 : Shape := ⟨2, ![256, 1024]⟩
abbrev S256x4096 : Shape := ⟨2, ![256, 4096]⟩
abbrev S128x4096 : Shape := ⟨2, ![128, 4096]⟩
abbrev S256x128 : Shape := ⟨2, ![256, 128]⟩
abbrev S6x256 : Shape := ⟨2, ![6, 256]⟩

abbrev nBuf : Space → Nat
  | .hbm => 23
  | .vmem => 30
  | .smem => 0
  | _ => 0

abbrev bufTy : (tb : Table) → Fin (tcTables nBuf tb) → BufTy
  | .hbm, ⟨0, _⟩ => ⟨S8x3x4096, .f32⟩
  | .hbm, ⟨1, _⟩ => ⟨S8x3x1024, .f32⟩
  | .hbm, ⟨2, _⟩ => ⟨S8x128x4096, .f32⟩
  | .hbm, ⟨3, _⟩ => ⟨S8x256x1024, .f32⟩
  | .hbm, ⟨4, _⟩ => ⟨S256x384, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S8x256x4096, .bf16⟩
  | .hbm, ⟨19, _⟩ => ⟨S8x256, .f32⟩
  | .hbm, ⟨20, _⟩ => ⟨S8x256x4096, .bf16⟩
  | .hbm, ⟨21, _⟩ => ⟨S8x256, .f32⟩
  | .hbm, ⟨22, _⟩ => ⟨S8x256x4096, .f32⟩
  | .local _ .vmem, ⟨0, _⟩ => ⟨S1x3x4096, .f32⟩
  | .local _ .vmem, ⟨1, _⟩ => ⟨S1x3x4096, .f32⟩
  | .local _ .vmem, ⟨2, _⟩ => ⟨S1x3x1024, .f32⟩
  | .local _ .vmem, ⟨3, _⟩ => ⟨S1x3x1024, .f32⟩
  | .local _ .vmem, ⟨4, _⟩ => ⟨S1x128x4096, .f32⟩
  | .local _ .vmem, ⟨5, _⟩ => ⟨S1x128x4096, .f32⟩
  | .local _ .vmem, ⟨6, _⟩ => ⟨S1x256x1024, .f32⟩
  | .local _ .vmem, ⟨7, _⟩ => ⟨S1x256x1024, .f32⟩
  | .local _ .vmem, ⟨8, _⟩ => ⟨S256x384, .f32⟩
  | .local _ .vmem, ⟨9, _⟩ => ⟨S256x1, .f32⟩
  | .local _ .vmem, ⟨10, _⟩ => ⟨S1x256x4096, .bf16⟩
  | .local _ .vmem, ⟨11, _⟩ => ⟨S1x256x4096, .bf16⟩
  | .local _ .vmem, ⟨12, _⟩ => ⟨S8x256, .f32⟩
  | .local _ .vmem, ⟨13, _⟩ => ⟨S1x256x4096, .bf16⟩
  | .local _ .vmem, ⟨14, _⟩ => ⟨S1x256x4096, .bf16⟩
  | .local _ .vmem, ⟨15, _⟩ => ⟨S8x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | .local _ .vmem, ⟨19, _⟩ => ⟨S256x1, .f32⟩
  | .local _ .vmem, ⟨20, _⟩ => ⟨S1x256x4096, .bf16⟩
  | .local _ .vmem, ⟨21, _⟩ => ⟨S1x256x4096, .bf16⟩
  | .local _ .vmem, ⟨22, _⟩ => ⟨S8x256, .f32⟩
  | .local _ .vmem, ⟨23, _⟩ => ⟨S1x256x4096, .bf16⟩
  | .local _ .vmem, ⟨24, _⟩ => ⟨S1x256x4096, .bf16⟩
  | .local _ .vmem, ⟨25, _⟩ => ⟨S8x256, .f32⟩
  | .local _ .vmem, ⟨26, _⟩ => ⟨S1x256, .f32⟩
  | .local _ .vmem, ⟨27, _⟩ => ⟨S1x256, .f32⟩
  | .local _ .vmem, ⟨28, _⟩ => ⟨S1x256x4096, .f32⟩
  | .local _ .vmem, ⟨29, _⟩ => ⟨S1x256x4096, .f32⟩
  | _, _ => ⟨S8x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6_0 : Ref sig .tc := ⟨.hbm, 18, rfl⟩
abbrev main_call0_v6_1 : Ref sig .tc := ⟨.hbm, 19, rfl⟩
abbrev main_call0_v7_0 : Ref sig .tc := ⟨.hbm, 20, rfl⟩
abbrev main_call0_v7_1 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![8, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S8x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev grid2 : Pipeline.Grid := ⟨2, ![8, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x256x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S8x3x4096 : Shape := ⟨3, ![8, 3, 4096]⟩
abbrev S8x3x1024 : Shape := ⟨3, ![8, 3, 1024]⟩
abbrev S8x128x4096 : Shape := ⟨3, ![8, 128, 4096]⟩
abbrev S8x256x1024 : Shape := ⟨3, ![8, 256, 1024]⟩
abbrev S256x384 : Shape := ⟨2, ![256, 384]⟩
abbrev S256 : Shape := ⟨1, ![256]⟩
abbrev S256x256 : Shape := ⟨2, ![256, 256]⟩
abbrev S8x4096x3 : Shape := ⟨3, ![8, 4096, 3]⟩
abbrev S8x1024x3 : Shape := ⟨3, ![8, 1024, 3]⟩
abbrev S8x1024x256 : Shape := ⟨3, ![8, 1024, 256]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1x1024 : Shape := ⟨3, ![8, 1, 1024]⟩
abbrev S8 : Shape := ⟨1, ![8]⟩
abbrev S8x1x1 : Shape := ⟨3, ![8, 1, 1]⟩
abbrev S8x4096x3x1 : Shape := ⟨4, ![8, 4096, 3, 1]⟩
abbrev S8x4096x3x2 : Shape := ⟨4, ![8, 4096, 3, 2]⟩
abbrev S8x4096x3x256 : Shape := ⟨4, ![8, 4096, 3, 256]⟩
abbrev S8x4096x256 : Shape := ⟨3, ![8, 4096, 256]⟩
abbrev S8x4096x128 : Shape := ⟨3, ![8, 4096, 128]⟩
abbrev S8x4096x384 : Shape := ⟨3, ![8, 4096, 384]⟩
abbrev S8x384x4096 : Shape := ⟨3, ![8, 384, 4096]⟩
abbrev S8x256x4096 : Shape := ⟨3, ![8, 256, 4096]⟩
abbrev S1x256x1 : Shape := ⟨3, ![1, 256, 1]⟩

abbrev nBuf : Space → Nat
  | .hbm => 185
  | .vmem => 0
  | .smem => 0
  | _ => 0

abbrev hbmTy0_0 (i : Nat) : BufTy := match i % 128 with
  | 0 => ⟨S8x3x4096, .f32⟩
  | 1 => ⟨S8x3x1024, .f32⟩
  | 2 => ⟨S8x128x4096, .f32⟩
  | 3 => ⟨S8x256x1024, .f32⟩
  | 4 => ⟨S256x384, .f32⟩
  | 5 => ⟨S256, .f32⟩
  | 6 => ⟨S256, .f32⟩
  | 7 => ⟨S256, .f32⟩
  | 8 => ⟨S256x256, .f32⟩
  | 9 => ⟨S256, .f32⟩
  | 10 => ⟨S256, .f32⟩
  | 11 => ⟨S256, .f32⟩
  | 12 => ⟨S8x4096x3, .f32⟩
  | 13 => ⟨S8x1024x3, .f32⟩
  | 14 => ⟨S8x1024x256, .f32⟩
  | 15 => ⟨S8x3x1024, .f32⟩
  | 16 => ⟨S8x4096x1024, .f32⟩
  | 17 => ⟨S_, .f32⟩
  | 18 => ⟨S8x4096x1024, .f32⟩
  | 19 => ⟨S8x4096x1024, .f32⟩
  | 20 => ⟨S8x4096x3, .f32⟩
  | 21 => ⟨S_, .f32⟩
  | 22 => ⟨S8x4096, .f32⟩
  | 23 => ⟨S8x4096x1, .f32⟩
  | 24 => ⟨S8x4096x1024, .f32⟩
  | 25 => ⟨S8x4096x1024, .f32⟩
  | 26 => ⟨S8x1024x3, .f32⟩
  | 27 => ⟨S_, .f32⟩
  | 28 => ⟨S8x1024, .f32⟩
  | 29 => ⟨S8x1x1024, .f32⟩
  | 30 => ⟨S8x4096x1024, .f32⟩
  | 31 => ⟨S8x4096x1024, .f32⟩
  | 32 => ⟨S8x4096x1024, .i32⟩
  | 33 => ⟨S8x4096x1024, .f32⟩
  | 34 => ⟨S8x4096x1024, .i32⟩
  | 35 => ⟨S8x4096x3, .i32⟩
  | 36 => ⟨S8x4096x3, .f32⟩
  | 37 => ⟨S_, .f32⟩
  | 38 => ⟨S8x4096x3, .f32⟩
  | 39 => ⟨S8x4096x3, .i1⟩
  | 40 => ⟨S_, .f32⟩
  | 41 => ⟨S_, .f32⟩
  | 42 => ⟨S8x4096x3, .f32⟩
  | 43 => ⟨S8x4096x3, .f32⟩
  | 44 => ⟨S_, .f32⟩
  | 45 => ⟨S8x4096x3, .f32⟩
  | 46 => ⟨S8x4096x3, .f32⟩
  | 47 => ⟨S_, .f32⟩
  | 48 => ⟨S8x4096, .f32⟩
  | 49 => ⟨S8x4096x1, .f32⟩
  | 50 => ⟨S8x4096x3, .f32⟩
  | 51 => ⟨S8x4096x3, .f32⟩
  | 52 => ⟨S8, .i32⟩
  | 53 => ⟨S8x1x1, .i32⟩
  | 54 => ⟨S_, .i32⟩
  | 55 => ⟨S8x1x1, .i32⟩
  | 56 => ⟨S8x1x1, .i1⟩
  | 57 => ⟨S_, .i32⟩
  | 58 => ⟨S8x1x1, .i32⟩
  | 59 => ⟨S8x1x1, .i32⟩
  | 60 => ⟨S8x1x1, .i32⟩
  | 61 => ⟨S_, .i32⟩
  | 62 => ⟨S8x4096x3, .i32⟩
  | 63 => ⟨S8x4096x3, .i1⟩
  | 64 => ⟨S_, .i32⟩
  | 65 => ⟨S8x4096x3, .i32⟩
  | 66 => ⟨S8x4096x3, .i32⟩
  | 67 => ⟨S8x4096x3, .i32⟩
  | 68 => ⟨S8x4096x3, .i32⟩
  | 69 => ⟨S8x4096x3x1, .i32⟩
  | 70 => ⟨S8x4096x3x1, .i32⟩
  | 71 => ⟨S8x4096x3x2, .i32⟩
  | 72 => ⟨S8x4096x3x256, .f32⟩
  | 73 => ⟨S8x4096x3x1, .f32⟩
  | 74 => ⟨S8x4096x3x256, .f32⟩
  | 75 => ⟨S8x4096x3x256, .f32⟩
  | 76 => ⟨S_, .f32⟩
  | 77 => ⟨S8x4096x256, .f32⟩
  | 78 => ⟨S8x4096x128, .f32⟩
  | 79 => ⟨S8x4096x384, .f32⟩
  | 80 => ⟨S8x384x4096, .f32⟩
  | 81 => ⟨S8x4096x256, .f32⟩
  | 82 => ⟨S8x256x4096, .f32⟩
  | 83 => ⟨S1x256x1, .f32⟩
  | 84 => ⟨S8x256x4096, .f32⟩
  | 85 => ⟨S8x256x4096, .f32⟩
  | 86 => ⟨S_, .f32⟩
  | 87 => ⟨S256, .f32⟩
  | 88 => ⟨S1x256x1, .f32⟩
  | 89 => ⟨S_, .f32⟩
  | 90 => ⟨S1x256x1, .f32⟩
  | 91 => ⟨S1x256x1, .f32⟩
  | 92 => ⟨S_, .i32⟩
  | 93 => ⟨S_, .f32⟩
  | 94 => ⟨S256, .f32⟩
  | 95 => ⟨S1x256x1, .f32⟩
  | 96 => ⟨S_, .f32⟩
  | 97 => ⟨S1x256x1, .f32⟩
  | 98 => ⟨S1x256x1, .f32⟩
  | 99 => ⟨S8x256x4096, .f32⟩
  | 100 => ⟨S8x256x4096, .f32⟩
  | 101 => ⟨S8x256x4096, .f32⟩
  | 102 => ⟨S_, .f32⟩
  | 103 => ⟨S_, .f32⟩
  | 104 => ⟨S_, .f32⟩
  | 105 => ⟨S_, .f32⟩
  | 106 => ⟨S256, .f32⟩
  | 107 => ⟨S1x256x1, .f32⟩
  | 108 => ⟨S1x256x1, .f32⟩
  | 109 => ⟨S1x256x1, .f32⟩
  | 110 => ⟨S_, .f32⟩
  | 111 => ⟨S_, .i1⟩
  | 112 => ⟨S_, .f32⟩
  | 113 => ⟨S_, .f32⟩
  | 114 => ⟨S1x256x1, .f32⟩
  | 115 => ⟨S1x256x1, .f32⟩
  | 116 => ⟨S8x256x4096, .f32⟩
  | 117 => ⟨S8x256x4096, .f32⟩
  | 118 => ⟨S_, .f32⟩
  | 119 => ⟨S1x256x1, .f32⟩
  | 120 => ⟨S1x256x1, .f32⟩
  | 121 => ⟨S1x256x1, .f32⟩
  | 122 => ⟨S8x256x4096, .f32⟩
  | 123 => ⟨S8x256x4096, .f32⟩
  | 124 => ⟨S1x256x1, .f32⟩
  | 125 => ⟨S8x256x4096, .f32⟩
  | 126 => ⟨S8x256x4096, .f32⟩
  | 127 => ⟨S1x256x1, .f32⟩
  | _ => ⟨S8x3x4096, .f32⟩

abbrev hbmTy0_1 (i : Nat) : BufTy := match i % 128 with
  | 0 => ⟨S8x256x4096, .f32⟩
  | 1 => ⟨S8x256x4096, .f32⟩
  | 2 => ⟨S_, .f32⟩
  | 3 => ⟨S8x256x4096, .f32⟩
  | 4 => ⟨S8x256x4096, .f32⟩
  | 5 => ⟨S8x4096x256, .f32⟩
  | 6 => ⟨S8x256x4096, .f32⟩
  | 7 => ⟨S1x256x1, .f32⟩
  | 8 => ⟨S8x256x4096, .f32⟩
  | 9 => ⟨S8x256x4096, .f32⟩
  | 10 => ⟨S_, .f32⟩
  | 11 => ⟨S256, .f32⟩
  | 12 => ⟨S1x256x1, .f32⟩
  | 13 => ⟨S_, .f32⟩
  | 14 => ⟨S1x256x1, .f32⟩
  | 15 => ⟨S1x256x1, .f32⟩
  | 16 => ⟨S_, .i32⟩
  | 17 => ⟨S_, .f32⟩
  | 18 => ⟨S256, .f32⟩
  | 19 => ⟨S1x256x1, .f32⟩
  | 20 => ⟨S_, .f32⟩
  | 21 => ⟨S1x256x1, .f32⟩
  | 22 => ⟨S1x256x1, .f32⟩
  | 23 => ⟨S8x256x4096, .f32⟩
  | 24 => ⟨S8x256x4096, .f32⟩
  | 25 => ⟨S8x256x4096, .f32⟩
  | 26 => ⟨S_, .f32⟩
  | 27 => ⟨S_, .f32⟩
  | 28 => ⟨S_, .f32⟩
  | 29 => ⟨S_, .f32⟩
  | 30 => ⟨S256, .f32⟩
  | 31 => ⟨S1x256x1, .f32⟩
  | 32 => ⟨S1x256x1, .f32⟩
  | 33 => ⟨S1x256x1, .f32⟩
  | 34 => ⟨S_, .f32⟩
  | 35 => ⟨S_, .i1⟩
  | 36 => ⟨S_, .f32⟩
  | 37 => ⟨S_, .f32⟩
  | 38 => ⟨S1x256x1, .f32⟩
  | 39 => ⟨S1x256x1, .f32⟩
  | 40 => ⟨S8x256x4096, .f32⟩
  | 41 => ⟨S8x256x4096, .f32⟩
  | 42 => ⟨S_, .f32⟩
  | 43 => ⟨S1x256x1, .f32⟩
  | 44 => ⟨S1x256x1, .f32⟩
  | 45 => ⟨S1x256x1, .f32⟩
  | 46 => ⟨S8x256x4096, .f32⟩
  | 47 => ⟨S8x256x4096, .f32⟩
  | 48 => ⟨S1x256x1, .f32⟩
  | 49 => ⟨S8x256x4096, .f32⟩
  | 50 => ⟨S8x256x4096, .f32⟩
  | 51 => ⟨S1x256x1, .f32⟩
  | 52 => ⟨S8x256x4096, .f32⟩
  | 53 => ⟨S8x256x4096, .f32⟩
  | 54 => ⟨S_, .f32⟩
  | 55 => ⟨S8x256x4096, .f32⟩
  | 56 => ⟨S8x256x4096, .f32⟩
  | _ => ⟨S8x3x4096, .f32⟩

abbrev hbmTy (i : Nat) : BufTy := match i / 128 with
  | 0 => hbmTy0_0 i
  | 1 => hbmTy0_1 i
  | _ => ⟨S8x3x4096, .f32⟩

abbrev bufTy : (tb : Table) → Fin (tcTables nBuf tb) → BufTy
  | .hbm, ⟨i, _⟩ => hbmTy i
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_v0 : Ref sig .tc := ⟨.hbm, 32, rfl⟩
abbrev main_call0_v1_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_7 : Ref sig .tc := ⟨.hbm, 61, rfl⟩
abbrev main_v36 : Ref sig .tc := ⟨.hbm, 62, rfl⟩
abbrev main_v37 : Ref sig .tc := ⟨.hbm, 63, rfl⟩
abbrev main_c_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_c_12 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_cst_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_cst_1 : Ref sig .tc := ⟨.hbm, 103, rfl⟩
abbrev main_call2_v8 : Ref sig .tc := ⟨.hbm, 104, rfl⟩
abbrev main_call2_cst_2 : Ref sig .tc := ⟨.hbm, 105, rfl⟩
abbrev main_call2_v9 : Ref sig .tc := ⟨.hbm, 106, rfl⟩
abbrev main_call2_v10 : Ref sig .tc := ⟨.hbm, 107, rfl⟩
abbrev main_call2_v11 : Ref sig .tc := ⟨.hbm, 108, rfl⟩
abbrev main_call2_v12 : Ref sig .tc := ⟨.hbm, 109, rfl⟩
abbrev main_call2_cst_3 : Ref sig .tc := ⟨.hbm, 110, rfl⟩
abbrev main_call2_v13 : Ref sig .tc := ⟨.hbm, 111, rfl⟩
abbrev main_call2_cst_4 : Ref sig .tc := ⟨.hbm, 112, rfl⟩
abbrev main_call2_call0_v0 : Ref sig .tc := ⟨.hbm, 113, rfl⟩
abbrev main_call2_call0_v1 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_13 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_call3_cst : Ref sig .tc := ⟨.hbm, 130, rfl⟩
abbrev main_call3_v0 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_14 : Ref sig .tc := ⟨.hbm, 138, rfl⟩
abbrev main_v82 : Ref sig .tc := ⟨.hbm, 139, rfl⟩
abbrev main_v83 : Ref sig .tc := ⟨.hbm, 140, rfl⟩
abbrev main_cst_15 : Ref sig .tc := ⟨.hbm, 141, rfl⟩
abbrev main_v84 : Ref sig .tc := ⟨.hbm, 142, rfl⟩
abbrev main_v85 : Ref sig .tc := ⟨.hbm, 143, rfl⟩
abbrev main_c_16 : Ref sig .tc := ⟨.hbm, 144, rfl⟩
abbrev main_call4_cst : Ref sig .tc := ⟨.hbm, 145, rfl⟩
abbrev main_call4_v0 : Ref sig .tc := ⟨.hbm, 146, rfl⟩
abbrev main_call4_v1 : Ref sig .tc := ⟨.hbm, 147, rfl⟩
abbrev main_call4_cst_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_v5 : Ref sig .tc := ⟨.hbm, 152, rfl⟩
abbrev main_call4_v6 : Ref sig .tc := ⟨.hbm, 153, rfl⟩
abbrev main_call4_v7 : Ref sig .tc := ⟨.hbm, 154, rfl⟩
abbrev main_call4_cst_1 : Ref sig .tc := ⟨.hbm, 155, rfl⟩
abbrev main_call4_v8 : Ref sig .tc := ⟨.hbm, 156, rfl⟩
abbrev main_call4_cst_2 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_v12 : Ref sig .tc := ⟨.hbm, 161, rfl⟩
abbrev main_call4_cst_3 : Ref sig .tc := ⟨.hbm, 162, rfl⟩
abbrev main_call4_v13 : Ref sig .tc := ⟨.hbm, 163, rfl⟩
abbrev main_call4_cst_4 : Ref sig .tc := ⟨.hbm, 164, rfl⟩
abbrev main_call4_call0_v0 : Ref sig .tc := ⟨.hbm, 165, rfl⟩
abbrev main_call4_call0_v1 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_cst_17 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_call5_cst : Ref sig .tc := ⟨.hbm, 182, rfl⟩
abbrev main_call5_v0 : Ref sig .tc := ⟨.hbm, 183, rfl⟩
abbrev main_v100 : Ref sig .tc := ⟨.hbm, 184, rfl⟩

abbrev nD : Nat := 1
abbrev τ : Topo := Topo.v7x

variable {F : FTy → Type} [FloatOps F]
-- ==== Proof.KRun.lean ====
/- The kernel's whole run with its result array named: what the third call's final write back leaves there. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-- The carrier of the launch's assertions. -/
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run from `m` ends with the result array at the last thread state's contents and the arguments unchanged. -/
theorem run_value : θ_run defs (onTc (τ := τ) (main (F := F))) ⟨m, fun _ => 0, ρ⟩ (fun r => ∀ c : Dev nD,
      r.2.mem ((c.tc : Thread nD τ).loc main_v0) = W4 m ρ c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.Gen
-- ==== Proof.MinSteps.lean ====
/- The first call's running minima: 128 steps over the rows of the distance matrix, eight at a time, each step passing
   the larger of two values on from the least to the second least and from there to the third least. Every value the
   printed sequence names is the same step of one recursion. -/
module

public import proofs.«01_k».proof.Proof.Gen.KernelIdeal.Skeleton

@[expose] public section

set_option maxRecDepth 16384

noncomputable section

namespace Cert.KernelIdeal.Gen

open Idealize.ShloMosaic Idealize.SL.Sem

variable {F : FTy → Type} [FloatOps F]

/-- Eight rows from row `8 * k` on fit into the matrix, for `k < 128`. -/
theorem slab_fits {k : ℕ} (h : k < 128) : S1024x4096.Slices ![8 * k, 0] S8x4096 :=
  ⟨rfl, fun a => match a with
    | ⟨0, _⟩ => show 8 * k + 8 ≤ 1024 by omega
    | ⟨1, _⟩ => show 0 + 4096 ≤ 4096 by omega⟩

/-- Rows `8 * k .. 8 * k + 7` of the matrix. -/
def slab (D : FVec F S1024x4096 .f32) (k : ℕ) : FVec F S8x4096 .f32 :=
  if h : k < 128 then extractStridedSlice S8x4096 ![8 * k, 0] D (slab_fits h) else k0_pay4

/-- A slice of eight rows is the slab of that number. -/
theorem slab_eq (D : FVec F S1024x4096 .f32) (k : ℕ) (hk : k < 128) (h : S1024x4096.Slices ![8 * k, 0] S8x4096) :
    extractStridedSlice S8x4096 ![8 * k, 0] D h = slab D k := by
  unfold slab; rw [dif_pos hk]

/-- The least value of each lane after `k` steps. -/
def m1 (D : FVec F S1024x4096 .f32) : ℕ → FVec F S8x4096 .f32
  | 0 => k0_pay4
  | k + 1 => minimumf (m1 D k) (slab D k)

/-- What the least value passes on at step `k`. -/
def hi1 (D : FVec F S1024x4096 .f32) (k : ℕ) : FVec F S8x4096 .f32 := maximumf (m1 D k) (slab D k)

/-- The second least value of each lane after `k` steps. -/
def m2 (D : FVec F S1024x4096 .f32) : ℕ → FVec F S8x4096 .f32
  | 0 => k0_pay4
  | k + 1 => minimumf (m2 D k) (hi1 D k)

/-- What the second least value passes on at step `k`. -/
def hi2 (D : FVec F S1024x4096 .f32) (k : ℕ) : FVec F S8x4096 .f32 := maximumf (m2 D k) (hi1 D k)

/-- The third least value of each lane after `k` steps. -/
def m3 (D : FVec F S1024x4096 .f32) : ℕ → FVec F S8x4096 .f32
  | 0 => k0_pay4
  | k + 1 => minimumf (m3 D k) (hi2 D k)

/-- One step of the least value. -/
theorem m1_succ (D : FVec F S1024x4096 .f32) (k : ℕ) : m1 D (k + 1) = minimumf (m1 D k) (slab D k) := rfl
/-- One step of the second least value. -/
theorem m2_succ (D : FVec F S1024x4096 .f32) (k : ℕ) : m2 D (k + 1) = minimumf (m2 D k) (hi1 D k) := rfl
/-- One step of the third least value. -/
theorem m3_succ (D : FVec F S1024x4096 .f32) (k : ℕ) : m3 D (k + 1) = minimumf (m3 D k) (hi2 D k) := rfl
/-- Equal operands, equal minima. -/
theorem mn {a a' b b' : FVec F S8x4096 .f32} (h : a = a') (h' : b = b') : minimumf a b = minimumf a' b' := by rw [h, h']
/-- Equal operands, equal maxima. -/
theorem mx {a a' b b' : FVec F S8x4096 .f32} (h : a = a') (h' : b = b') : maximumf a b = maximumf a' b' := by rw [h, h']

/-- Rows 0..7. -/
theorem p5 (v0 : Vec F S1x3x4096 .f32) (v2 : Vec F S1x3x1024 .f32) : k0_pay5 v0 v2 = (slab (k0_pay2 v0 v2) 0) := slab_eq (k0_pay2 v0 v2) 0 (by decide) slices_S1024x4096_o0_0_S8x4096
/-- The larger of the least and the new rows, step 0. -/
theorem p6 (v0 : Vec F S1x3x4096 .f32) (v2 : Vec F S1x3x1024 .f32) : k0_pay6 v0 v2 = (hi1 (k0_pay2 v0 v2) 0) := mx rfl (p5 v0 v2)
/-- The least after 1 steps. -/
theorem p7 (v0 : Vec F S1x3x4096 .f32) (v2 : Vec F S1x3x1024 .f32) : k0_pay7 v0 v2 = (m1 (k0_pay2 v0 v2) 1) := (mn rfl (p5 v0 v2)).trans (m1_succ (k0_pay2 v0 v2) 0).symm
/-- The second least after 1 steps. -/
theorem p8 (v0 : Vec F S1x3x4096 .f32) (v2 : Vec F S1x3x1024 .f32) : k0_pay8 v0 v2 = (m2 (k0_pay2 v0 v2) 1) := (mn rfl (p6 v0 v2)).trans (m2_succ (k0_pay2 v0 v2) 0).symm
/-- The third least after 1 steps. -/
theorem p9 (v0 : Vec F S1x3x4096 .f32) (v2 : Vec F S1x3x1024 .f32) : k0_pay9 v0 v2 = (m3 (k0_pay2 v0 v2) 1) := (mn rfl (mx rfl (p6 v0 v2))).trans (m3_succ (k0_pay2 v0 v2) 0).symm
/-- Rows 8..15. -/
theorem p10 (v0 : Vec F S1x3x4096 .f32) (v2 : Vec F S1x3x1024 .f32) : k0_pay10 v0 v2 = (slab (k0_pay2 v0 v2) 1) := slab_eq (k0_pay2 v0 v2) 1 (by decide) slices_S1024x4096_o8_0_S8x4096
/-- The larger of the least and the new rows, step 1. -/
theorem p11 (v0 : Vec F S1x3x4096 .f32) (v2 : Vec F S1x3x1024 .f32) : k0_pay11 v0 v2 = (hi1 (k0_pay2 v0 v2) 1) := mx (p7 v0 v2) (p10 v0 v2)
/-- The least after 2 steps. -/
theorem p12 (v0 : Vec F S1x3x4096 .f32) (v2 : Vec F S1x3x1024 .f32) : k0_pay12 v0 v2 = (m1 (k0_pay2 v0 v2) 2) := (mn (p7 v0 v2) (p10 v0 v2)).trans (m1_succ (k0_pay2 v0 v2) 1).symm
/-- The value passed on to the third least, step 1. -/
theorem p13 (v0 : Vec F S1x3x4096 .f32) (v2 : Vec F S1x3x1024 .f32) : k0_pay13 v0 v2 = (hi2 (k0_pay2 v0 v2) 1) := mx (p8 v0 v2) (p11 v0 v2)
/-- The second least after 2 steps. -/
theorem p14 (v0 : Vec F S1x3x4096 .f32) (v2 : Vec F S1x3x1024 .f32) : k0_pay14 v0 v2 = (m2 (k0_pay2 v0 v2) 2) := (mn (p8 v0 v2) (p11 v0 v2)).trans (m2_succ (k0_pay2 v0 v2) 1).symm
/-- Rows 16..23. -/
theorem p15 (D : FVec F S1024x4096 .f32) : k0_pay15 D = (slab D 2) := slab_eq D 2 (by decide) slices_S1024x4096_o16_0_S8x4096
/-- The larger of the least and the new rows, step 2. -/
theorem p16 (D : FVec F S1024x4096 .f32) : k0_pay16 D (m1 D 2) = (hi1 D 2) := mx rfl (p15 D)
/-- The least after 3 steps. -/
theorem p17 (D : FVec F S1024x4096 .f32) : k0_pay17 D (m1 D 2) = (m1 D 3) := (mn rfl (p15 D)).trans (m1_succ D 2).symm
/-- The second least after 3 steps. -/
theorem p18 (D : FVec F S1024x4096 .f32) : k0_pay18 D (m1 D 2) (m2 D 2) = (m2 D 3) := (mn rfl (p16 D)).trans (m2_succ D 2).symm
/-- Rows 24..31. -/
theorem p19 (D : FVec F S1024x4096 .f32) : k0_pay19 D = (slab D 3) := slab_eq D 3 (by decide) slices_S1024x4096_o24_0_S8x4096
/-- The larger of the least and the new rows, step 3. -/
theorem p20 (D : FVec F S1024x4096 .f32) : k0_pay20 D (m1 D 2) = (hi1 D 3) := mx (p17 D) (p19 D)
/-- The least after 4 steps. -/
theorem p21 (D : FVec F S1024x4096 .f32) : k0_pay21 D (m1 D 2) = (m1 D 4) := (mn (p17 D) (p19 D)).trans (m1_succ D 3).symm
/-- The second least after 4 steps. -/
theorem p22 (D : FVec F S1024x4096 .f32) : k0_pay22 D (m1 D 2) (m2 D 2) = (m2 D 4) := (mn (p18 D) (p20 D)).trans (m2_succ D 3).symm
/-- Rows 32..39. -/
theorem p23 (D : FVec F S1024x4096 .f32) : k0_pay23 D = (slab D 4) := slab_eq D 4 (by decide) slices_S1024x4096_o32_0_S8x4096
/-- The larger of the least and the new rows, step 4. -/
theorem p24 (D : FVec F S1024x4096 .f32) : k0_pay24 D (m1 D 2) = (hi1 D 4) := mx (p21 D) (p23 D)
/-- The least after 5 steps. -/
theorem p25 (D : FVec F S1024x4096 .f32) : k0_pay25 D (m1 D 2) = (m1 D 5) := (mn (p21 D) (p23 D)).trans (m1_succ D 4).symm
/-- The second least after 5 steps. -/
theorem p26 (D : FVec F S1024x4096 .f32) : k0_pay26 D (m1 D 2) (m2 D 2) = (m2 D 5) := (mn (p22 D) (p24 D)).trans (m2_succ D 4).symm
/-- Rows 40..47. -/
theorem p27 (D : FVec F S1024x4096 .f32) : k0_pay27 D = (slab D 5) := slab_eq D 5 (by decide) slices_S1024x4096_o40_0_S8x4096
/-- The larger of the least and the new rows, step 5. -/
theorem p28 (D : FVec F S1024x4096 .f32) : k0_pay28 D (m1 D 2) = (hi1 D 5) := mx (p25 D) (p27 D)
/-- The least after 6 steps. -/
theorem p29 (D : FVec F S1024x4096 .f32) : k0_pay29 D (m1 D 2) = (m1 D 6) := (mn (p25 D) (p27 D)).trans (m1_succ D 5).symm
/-- The second least after 6 steps. -/
theorem p30 (D : FVec F S1024x4096 .f32) : k0_pay30 D (m1 D 2) (m2 D 2) = (m2 D 6) := (mn (p26 D) (p28 D)).trans (m2_succ D 5).symm
/-- Rows 48..55. -/
theorem p31 (D : FVec F S1024x4096 .f32) : k0_pay31 D = (slab D 6) := slab_eq D 6 (by decide) slices_S1024x4096_o48_0_S8x4096
/-- The larger of the least and the new rows, step 6. -/
theorem p32 (D : FVec F S1024x4096 .f32) : k0_pay32 D (m1 D 2) = (hi1 D 6) := mx (p29 D) (p31 D)
/-- The least after 7 steps. -/
theorem p33 (D : FVec F S1024x4096 .f32) : k0_pay33 D (m1 D 2) = (m1 D 7) := (mn (p29 D) (p31 D)).trans (m1_succ D 6).symm
/-- The second least after 7 steps. -/
theorem p34 (D : FVec F S1024x4096 .f32) : k0_pay34 D (m1 D 2) (m2 D 2) = (m2 D 7) := (mn (p30 D) (p32 D)).trans (m2_succ D 6).symm
/-- Rows 56..63. -/
theorem p35 (D : FVec F S1024x4096 .f32) : k0_pay35 D = (slab D 7) := slab_eq D 7 (by decide) slices_S1024x4096_o56_0_S8x4096
/-- The larger of the least and the new rows, step 7. -/
theorem p36 (D : FVec F S1024x4096 .f32) : k0_pay36 D (m1 D 2) = (hi1 D 7) := mx (p33 D) (p35 D)
/-- The least after 8 steps. -/
theorem p37 (D : FVec F S1024x4096 .f32) : k0_pay37 D (m1 D 2) = (m1 D 8) := (mn (p33 D) (p35 D)).trans (m1_succ D 7).symm
/-- The second least after 8 steps. -/
theorem p38 (D : FVec F S1024x4096 .f32) : k0_pay38 D (m1 D 2) (m2 D 2) = (m2 D 8) := (mn (p34 D) (p36 D)).trans (m2_succ D 7).symm
/-- Rows 64..71. -/
theorem p39 (D : FVec F S1024x4096 .f32) : k0_pay39 D = (slab D 8) := slab_eq D 8 (by decide) slices_S1024x4096_o64_0_S8x4096
/-- The larger of the least and the new rows, step 8. -/
theorem p40 (D : FVec F S1024x4096 .f32) : k0_pay40 D (m1 D 2) = (hi1 D 8) := mx (p37 D) (p39 D)
/-- The least after 9 steps. -/
theorem p41 (D : FVec F S1024x4096 .f32) : k0_pay41 D (m1 D 2) = (m1 D 9) := (mn (p37 D) (p39 D)).trans (m1_succ D 8).symm
/-- The second least after 9 steps. -/
theorem p42 (D : FVec F S1024x4096 .f32) : k0_pay42 D (m1 D 2) (m2 D 2) = (m2 D 9) := (mn (p38 D) (p40 D)).trans (m2_succ D 8).symm
/-- Rows 72..79. -/
theorem p43 (D : FVec F S1024x4096 .f32) : k0_pay43 D = (slab D 9) := slab_eq D 9 (by decide) slices_S1024x4096_o72_0_S8x4096
/-- The larger of the least and the new rows, step 9. -/
theorem p44 (D : FVec F S1024x4096 .f32) : k0_pay44 D (m1 D 2) = (hi1 D 9) := mx (p41 D) (p43 D)
/-- The least after 10 steps. -/
theorem p45 (D : FVec F S1024x4096 .f32) : k0_pay45 D (m1 D 2) = (m1 D 10) := (mn (p41 D) (p43 D)).trans (m1_succ D 9).symm
/-- The second least after 10 steps. -/
theorem p46 (D : FVec F S1024x4096 .f32) : k0_pay46 D (m1 D 2) (m2 D 2) = (m2 D 10) := (mn (p42 D) (p44 D)).trans (m2_succ D 9).symm
/-- Rows 80..87. -/
theorem p47 (D : FVec F S1024x4096 .f32) : k0_pay47 D = (slab D 10) := slab_eq D 10 (by decide) slices_S1024x4096_o80_0_S8x4096
/-- The larger of the least and the new rows, step 10. -/
theorem p48 (D : FVec F S1024x4096 .f32) : k0_pay48 D (m1 D 2) = (hi1 D 10) := mx (p45 D) (p47 D)
/-- The least after 11 steps. -/
theorem p49 (D : FVec F S1024x4096 .f32) : k0_pay49 D (m1 D 2) = (m1 D 11) := (mn (p45 D) (p47 D)).trans (m1_succ D 10).symm
/-- The second least after 11 steps. -/
theorem p50 (D : FVec F S1024x4096 .f32) : k0_pay50 D (m1 D 2) (m2 D 2) = (m2 D 11) := (mn (p46 D) (p48 D)).trans (m2_succ D 10).symm
/-- The third least after 11 steps. -/
theorem p51 (D : FVec F S1024x4096 .f32) : k0_pay51 D (m3 D 1) (m1 D 2) (hi2 D 1) (m2 D 2) = (m3 D 11) := (mn ((mn ((mn ((mn ((mn ((mn ((mn ((mn ((mn ((mn rfl rfl).trans (m3_succ D 1).symm) (mx rfl (p16 D))).trans (m3_succ D 2).symm) (mx (p18 D) (p20 D))).trans (m3_succ D 3).symm) (mx (p22 D) (p24 D))).trans (m3_succ D 4).symm) (mx (p26 D) (p28 D))).trans (m3_succ D 5).symm) (mx (p30 D) (p32 D))).trans (m3_succ D 6).symm) (mx (p34 D) (p36 D))).trans (m3_succ D 7).symm) (mx (p38 D) (p40 D))).trans (m3_succ D 8).symm) (mx (p42 D) (p44 D))).trans (m3_succ D 9).symm) (mx (p46 D) (p48 D))).trans (m3_succ D 10).symm
/-- Rows 88..95. -/
theorem p52 (D : FVec F S1024x4096 .f32) : k0_pay52 D = (slab D 11) := slab_eq D 11 (by decide) slices_S1024x4096_o88_0_S8x4096
/-- The larger of the least and the new rows, step 11. -/
theorem p53 (D : FVec F S1024x4096 .f32) : k0_pay53 D (m1 D 2) = (hi1 D 11) := mx (p49 D) (p52 D)
/-- The least after 12 steps. -/
theorem p54 (D : FVec F S1024x4096 .f32) : k0_pay54 D (m1 D 2) = (m1 D 12) := (mn (p49 D) (p52 D)).trans (m1_succ D 11).symm
/-- The value passed on to the third least, step 11. -/
theorem p55 (D : FVec F S1024x4096 .f32) : k0_pay55 D (m1 D 2) (m2 D 2) = (hi2 D 11) := mx (p50 D) (p53 D)
/-- The second least after 12 steps. -/
theorem p56 (D : FVec F S1024x4096 .f32) : k0_pay56 D (m1 D 2) (m2 D 2) = (m2 D 12) := (mn (p50 D) (p53 D)).trans (m2_succ D 11).symm
/-- Rows 96..103. -/
theorem p57 (D : FVec F S1024x4096 .f32) : k0_pay57 D = (slab D 12) := slab_eq D 12 (by decide) slices_S1024x4096_o96_0_S8x4096
/-- The larger of the least and the new rows, step 12. -/
theorem p58 (D : FVec F S1024x4096 .f32) : k0_pay58 D (m1 D 12) = (hi1 D 12) := mx rfl (p57 D)
/-- The least after 13 steps. -/
theorem p59 (D : FVec F S1024x4096 .f32) : k0_pay59 D (m1 D 12) = (m1 D 13) := (mn rfl (p57 D)).trans (m1_succ D 12).symm
/-- The second least after 13 steps. -/
theorem p60 (D : FVec F S1024x4096 .f32) : k0_pay60 D (m1 D 12) (m2 D 12) = (m2 D 13) := (mn rfl (p58 D)).trans (m2_succ D 12).symm
/-- Rows 104..111. -/
theorem p61 (D : FVec F S1024x4096 .f32) : k0_pay61 D = (slab D 13) := slab_eq D 13 (by decide) slices_S1024x4096_o104_0_S8x4096
/-- The larger of the least and the new rows, step 13. -/
theorem p62 (D : FVec F S1024x4096 .f32) : k0_pay62 D (m1 D 12) = (hi1 D 13) := mx (p59 D) (p61 D)
/-- The least after 14 steps. -/
theorem p63 (D : FVec F S1024x4096 .f32) : k0_pay63 D (m1 D 12) = (m1 D 14) := (mn (p59 D) (p61 D)).trans (m1_succ D 13).symm
/-- The second least after 14 steps. -/
theorem p64 (D : FVec F S1024x4096 .f32) : k0_pay64 D (m1 D 12) (m2 D 12) = (m2 D 14) := (mn (p60 D) (p62 D)).trans (m2_succ D 13).symm
/-- Rows 112..119. -/
theorem p65 (D : FVec F S1024x4096 .f32) : k0_pay65 D = (slab D 14) := slab_eq D 14 (by decide) slices_S1024x4096_o112_0_S8x4096
/-- The larger of the least and the new rows, step 14. -/
theorem p66 (D : FVec F S1024x4096 .f32) : k0_pay66 D (m1 D 12) = (hi1 D 14) := mx (p63 D) (p65 D)
/-- The least after 15 steps. -/
theorem p67 (D : FVec F S1024x4096 .f32) : k0_pay67 D (m1 D 12) = (m1 D 15) := (mn (p63 D) (p65 D)).trans (m1_succ D 14).symm
/-- The second least after 15 steps. -/
theorem p68 (D : FVec F S1024x4096 .f32) : k0_pay68 D (m1 D 12) (m2 D 12) = (m2 D 15) := (mn (p64 D) (p66 D)).trans (m2_succ D 14).symm
/-- Rows 120..127. -/
theorem p69 (D : FVec F S1024x4096 .f32) : k0_pay69 D = (slab D 15) := slab_eq D 15 (by decide) slices_S1024x4096_o120_0_S8x4096
/-- The larger of the least and the new rows, step 15. -/
theorem p70 (D : FVec F S1024x4096 .f32) : k0_pay70 D (m1 D 12) = (hi1 D 15) := mx (p67 D) (p69 D)
/-- The least after 16 steps. -/
theorem p71 (D : FVec F S1024x4096 .f32) : k0_pay71 D (m1 D 12) = (m1 D 16) := (mn (p67 D) (p69 D)).trans (m1_succ D 15).symm
/-- The second least after 16 steps. -/
theorem p72 (D : FVec F S1024x4096 .f32) : k0_pay72 D (m1 D 12) (m2 D 12) = (m2 D 16) := (mn (p68 D) (p70 D)).trans (m2_succ D 15).symm
/-- Rows 128..135. -/
theorem p73 (D : FVec F S1024x4096 .f32) : k0_pay73 D = (slab D 16) := slab_eq D 16 (by decide) slices_S1024x4096_o128_0_S8x4096
/-- The larger of the least and the new rows, step 16. -/
theorem p74 (D : FVec F S1024x4096 .f32) : k0_pay74 D (m1 D 12) = (hi1 D 16) := mx (p71 D) (p73 D)
/-- The least after 17 steps. -/
theorem p75 (D : FVec F S1024x4096 .f32) : k0_pay75 D (m1 D 12) = (m1 D 17) := (mn (p71 D) (p73 D)).trans (m1_succ D 16).symm
/-- The second least after 17 steps. -/
theorem p76 (D : FVec F S1024x4096 .f32) : k0_pay76 D (m1 D 12) (m2 D 12) = (m2 D 17) := (mn (p72 D) (p74 D)).trans (m2_succ D 16).symm
/-- Rows 136..143. -/
theorem p77 (D : FVec F S1024x4096 .f32) : k0_pay77 D = (slab D 17) := slab_eq D 17 (by decide) slices_S1024x4096_o136_0_S8x4096
/-- The larger of the least and the new rows, step 17. -/
theorem p78 (D : FVec F S1024x4096 .f32) : k0_pay78 D (m1 D 12) = (hi1 D 17) := mx (p75 D) (p77 D)
/-- The least after 18 steps. -/
theorem p79 (D : FVec F S1024x4096 .f32) : k0_pay79 D (m1 D 12) = (m1 D 18) := (mn (p75 D) (p77 D)).trans (m1_succ D 17).symm
/-- The second least after 18 steps. -/
theorem p80 (D : FVec F S1024x4096 .f32) : k0_pay80 D (m1 D 12) (m2 D 12) = (m2 D 18) := (mn (p76 D) (p78 D)).trans (m2_succ D 17).symm
/-- Rows 144..151. -/
theorem p81 (D : FVec F S1024x4096 .f32) : k0_pay81 D = (slab D 18) := slab_eq D 18 (by decide) slices_S1024x4096_o144_0_S8x4096
/-- The larger of the least and the new rows, step 18. -/
theorem p82 (D : FVec F S1024x4096 .f32) : k0_pay82 D (m1 D 12) = (hi1 D 18) := mx (p79 D) (p81 D)
/-- The least after 19 steps. -/
theorem p83 (D : FVec F S1024x4096 .f32) : k0_pay83 D (m1 D 12) = (m1 D 19) := (mn (p79 D) (p81 D)).trans (m1_succ D 18).symm
/-- The second least after 19 steps. -/
theorem p84 (D : FVec F S1024x4096 .f32) : k0_pay84 D (m1 D 12) (m2 D 12) = (m2 D 19) := (mn (p80 D) (p82 D)).trans (m2_succ D 18).symm
/-- Rows 152..159. -/
theorem p85 (D : FVec F S1024x4096 .f32) : k0_pay85 D = (slab D 19) := slab_eq D 19 (by decide) slices_S1024x4096_o152_0_S8x4096
/-- The larger of the least and the new rows, step 19. -/
theorem p86 (D : FVec F S1024x4096 .f32) : k0_pay86 D (m1 D 12) = (hi1 D 19) := mx (p83 D) (p85 D)
/-- The least after 20 steps. -/
theorem p87 (D : FVec F S1024x4096 .f32) : k0_pay87 D (m1 D 12) = (m1 D 20) := (mn (p83 D) (p85 D)).trans (m1_succ D 19).symm
/-- The second least after 20 steps. -/
theorem p88 (D : FVec F S1024x4096 .f32) : k0_pay88 D (m1 D 12) (m2 D 12) = (m2 D 20) := (mn (p84 D) (p86 D)).trans (m2_succ D 19).symm
/-- Rows 160..167. -/
theorem p89 (D : FVec F S1024x4096 .f32) : k0_pay89 D = (slab D 20) := slab_eq D 20 (by decide) slices_S1024x4096_o160_0_S8x4096
/-- The larger of the least and the new rows, step 20. -/
theorem p90 (D : FVec F S1024x4096 .f32) : k0_pay90 D (m1 D 12) = (hi1 D 20) := mx (p87 D) (p89 D)
/-- The least after 21 steps. -/
theorem p91 (D : FVec F S1024x4096 .f32) : k0_pay91 D (m1 D 12) = (m1 D 21) := (mn (p87 D) (p89 D)).trans (m1_succ D 20).symm
/-- The second least after 21 steps. -/
theorem p92 (D : FVec F S1024x4096 .f32) : k0_pay92 D (m1 D 12) (m2 D 12) = (m2 D 21) := (mn (p88 D) (p90 D)).trans (m2_succ D 20).symm
/-- The third least after 21 steps. -/
theorem p93 (D : FVec F S1024x4096 .f32) : k0_pay93 D (m3 D 11) (m1 D 12) (hi2 D 11) (m2 D 12) = (m3 D 21) := (mn ((mn ((mn ((mn ((mn ((mn ((mn ((mn ((mn ((mn rfl rfl).trans (m3_succ D 11).symm) (mx rfl (p58 D))).trans (m3_succ D 12).symm) (mx (p60 D) (p62 D))).trans (m3_succ D 13).symm) (mx (p64 D) (p66 D))).trans (m3_succ D 14).symm) (mx (p68 D) (p70 D))).trans (m3_succ D 15).symm) (mx (p72 D) (p74 D))).trans (m3_succ D 16).symm) (mx (p76 D) (p78 D))).trans (m3_succ D 17).symm) (mx (p80 D) (p82 D))).trans (m3_succ D 18).symm) (mx (p84 D) (p86 D))).trans (m3_succ D 19).symm) (mx (p88 D) (p90 D))).trans (m3_succ D 20).symm
/-- Rows 168..175. -/
theorem p94 (D : FVec F S1024x4096 .f32) : k0_pay94 D = (slab D 21) := slab_eq D 21 (by decide) slices_S1024x4096_o168_0_S8x4096
/-- The larger of the least and the new rows, step 21. -/
theorem p95 (D : FVec F S1024x4096 .f32) : k0_pay95 D (m1 D 12) = (hi1 D 21) := mx (p91 D) (p94 D)
/-- The least after 22 steps. -/
theorem p96 (D : FVec F S1024x4096 .f32) : k0_pay96 D (m1 D 12) = (m1 D 22) := (mn (p91 D) (p94 D)).trans (m1_succ D 21).symm
/-- The value passed on to the third least, step 21. -/
theorem p97 (D : FVec F S1024x4096 .f32) : k0_pay97 D (m1 D 12) (m2 D 12) = (hi2 D 21) := mx (p92 D) (p95 D)
/-- The second least after 22 steps. -/
theorem p98 (D : FVec F S1024x4096 .f32) : k0_pay98 D (m1 D 12) (m2 D 12) = (m2 D 22) := (mn (p92 D) (p95 D)).trans (m2_succ D 21).symm
/-- Rows 176..183. -/
theorem p99 (D : FVec F S1024x4096 .f32) : k0_pay99 D = (slab D 22) := slab_eq D 22 (by decide) slices_S1024x4096_o176_0_S8x4096
/-- The larger of the least and the new rows, step 22. -/
theorem p100 (D : FVec F S1024x4096 .f32) : k0_pay100 D (m1 D 22) = (hi1 D 22) := mx rfl (p99 D)
/-- The least after 23 steps. -/
theorem p101 (D : FVec F S1024x4096 .f32) : k0_pay101 D (m1 D 22) = (m1 D 23) := (mn rfl (p99 D)).trans (m1_succ D 22).symm
/-- The second least after 23 steps. -/
theorem p102 (D : FVec F S1024x4096 .f32) : k0_pay102 D (m1 D 22) (m2 D 22) = (m2 D 23) := (mn rfl (p100 D)).trans (m2_succ D 22).symm
/-- Rows 184..191. -/
theorem p103 (D : FVec F S1024x4096 .f32) : k0_pay103 D = (slab D 23) := slab_eq D 23 (by decide) slices_S1024x4096_o184_0_S8x4096
/-- The larger of the least and the new rows, step 23. -/
theorem p104 (D : FVec F S1024x4096 .f32) : k0_pay104 D (m1 D 22) = (hi1 D 23) := mx (p101 D) (p103 D)
/-- The least after 24 steps. -/
theorem p105 (D : FVec F S1024x4096 .f32) : k0_pay105 D (m1 D 22) = (m1 D 24) := (mn (p101 D) (p103 D)).trans (m1_succ D 23).symm
/-- The second least after 24 steps. -/
theorem p106 (D : FVec F S1024x4096 .f32) : k0_pay106 D (m1 D 22) (m2 D 22) = (m2 D 24) := (mn (p102 D) (p104 D)).trans (m2_succ D 23).symm
/-- Rows 192..199. -/
theorem p107 (D : FVec F S1024x4096 .f32) : k0_pay107 D = (slab D 24) := slab_eq D 24 (by decide) slices_S1024x4096_o192_0_S8x4096
/-- The larger of the least and the new rows, step 24. -/
theorem p108 (D : FVec F S1024x4096 .f32) : k0_pay108 D (m1 D 22) = (hi1 D 24) := mx (p105 D) (p107 D)
/-- The least after 25 steps. -/
theorem p109 (D : FVec F S1024x4096 .f32) : k0_pay109 D (m1 D 22) = (m1 D 25) := (mn (p105 D) (p107 D)).trans (m1_succ D 24).symm
/-- The second least after 25 steps. -/
theorem p110 (D : FVec F S1024x4096 .f32) : k0_pay110 D (m1 D 22) (m2 D 22) = (m2 D 25) := (mn (p106 D) (p108 D)).trans (m2_succ D 24).symm
/-- Rows 200..207. -/
theorem p111 (D : FVec F S1024x4096 .f32) : k0_pay111 D = (slab D 25) := slab_eq D 25 (by decide) slices_S1024x4096_o200_0_S8x4096
/-- The larger of the least and the new rows, step 25. -/
theorem p112 (D : FVec F S1024x4096 .f32) : k0_pay112 D (m1 D 22) = (hi1 D 25) := mx (p109 D) (p111 D)
/-- The least after 26 steps. -/
theorem p113 (D : FVec F S1024x4096 .f32) : k0_pay113 D (m1 D 22) = (m1 D 26) := (mn (p109 D) (p111 D)).trans (m1_succ D 25).symm
/-- The second least after 26 steps. -/
theorem p114 (D : FVec F S1024x4096 .f32) : k0_pay114 D (m1 D 22) (m2 D 22) = (m2 D 26) := (mn (p110 D) (p112 D)).trans (m2_succ D 25).symm
/-- Rows 208..215. -/
theorem p115 (D : FVec F S1024x4096 .f32) : k0_pay115 D = (slab D 26) := slab_eq D 26 (by decide) slices_S1024x4096_o208_0_S8x4096
/-- The larger of the least and the new rows, step 26. -/
theorem p116 (D : FVec F S1024x4096 .f32) : k0_pay116 D (m1 D 22) = (hi1 D 26) := mx (p113 D) (p115 D)
/-- The least after 27 steps. -/
theorem p117 (D : FVec F S1024x4096 .f32) : k0_pay117 D (m1 D 22) = (m1 D 27) := (mn (p113 D) (p115 D)).trans (m1_succ D 26).symm
/-- The second least after 27 steps. -/
theorem p118 (D : FVec F S1024x4096 .f32) : k0_pay118 D (m1 D 22) (m2 D 22) = (m2 D 27) := (mn (p114 D) (p116 D)).trans (m2_succ D 26).symm
/-- Rows 216..223. -/
theorem p119 (D : FVec F S1024x4096 .f32) : k0_pay119 D = (slab D 27) := slab_eq D 27 (by decide) slices_S1024x4096_o216_0_S8x4096
/-- The larger of the least and the new rows, step 27. -/
theorem p120 (D : FVec F S1024x4096 .f32) : k0_pay120 D (m1 D 22) = (hi1 D 27) := mx (p117 D) (p119 D)
/-- The least after 28 steps. -/
theorem p121 (D : FVec F S1024x4096 .f32) : k0_pay121 D (m1 D 22) = (m1 D 28) := (mn (p117 D) (p119 D)).trans (m1_succ D 27).symm
/-- The second least after 28 steps. -/
theorem p122 (D : FVec F S1024x4096 .f32) : k0_pay122 D (m1 D 22) (m2 D 22) = (m2 D 28) := (mn (p118 D) (p120 D)).trans (m2_succ D 27).symm
/-- Rows 224..231. -/
theorem p123 (D : FVec F S1024x4096 .f32) : k0_pay123 D = (slab D 28) := slab_eq D 28 (by decide) slices_S1024x4096_o224_0_S8x4096
/-- The larger of the least and the new rows, step 28. -/
theorem p124 (D : FVec F S1024x4096 .f32) : k0_pay124 D (m1 D 22) = (hi1 D 28) := mx (p121 D) (p123 D)
/-- The least after 29 steps. -/
theorem p125 (D : FVec F S1024x4096 .f32) : k0_pay125 D (m1 D 22) = (m1 D 29) := (mn (p121 D) (p123 D)).trans (m1_succ D 28).symm
/-- The second least after 29 steps. -/
theorem p126 (D : FVec F S1024x4096 .f32) : k0_pay126 D (m1 D 22) (m2 D 22) = (m2 D 29) := (mn (p122 D) (p124 D)).trans (m2_succ D 28).symm
/-- Rows 232..239. -/
theorem p127 (D : FVec F S1024x4096 .f32) : k0_pay127 D = (slab D 29) := slab_eq D 29 (by decide) slices_S1024x4096_o232_0_S8x4096
/-- The larger of the least and the new rows, step 29. -/
theorem p128 (D : FVec F S1024x4096 .f32) : k0_pay128 D (m1 D 22) = (hi1 D 29) := mx (p125 D) (p127 D)
/-- The least after 30 steps. -/
theorem p129 (D : FVec F S1024x4096 .f32) : k0_pay129 D (m1 D 22) = (m1 D 30) := (mn (p125 D) (p127 D)).trans (m1_succ D 29).symm
/-- The second least after 30 steps. -/
theorem p130 (D : FVec F S1024x4096 .f32) : k0_pay130 D (m1 D 22) (m2 D 22) = (m2 D 30) := (mn (p126 D) (p128 D)).trans (m2_succ D 29).symm
/-- Rows 240..247. -/
theorem p131 (D : FVec F S1024x4096 .f32) : k0_pay131 D = (slab D 30) := slab_eq D 30 (by decide) slices_S1024x4096_o240_0_S8x4096
/-- The larger of the least and the new rows, step 30. -/
theorem p132 (D : FVec F S1024x4096 .f32) : k0_pay132 D (m1 D 22) = (hi1 D 30) := mx (p129 D) (p131 D)
/-- The least after 31 steps. -/
theorem p133 (D : FVec F S1024x4096 .f32) : k0_pay133 D (m1 D 22) = (m1 D 31) := (mn (p129 D) (p131 D)).trans (m1_succ D 30).symm
/-- The second least after 31 steps. -/
theorem p134 (D : FVec F S1024x4096 .f32) : k0_pay134 D (m1 D 22) (m2 D 22) = (m2 D 31) := (mn (p130 D) (p132 D)).trans (m2_succ D 30).symm
/-- The third least after 31 steps. -/
theorem p135 (D : FVec F S1024x4096 .f32) : k0_pay135 D (m3 D 21) (m1 D 22) (hi2 D 21) (m2 D 22) = (m3 D 31) := (mn ((mn ((mn ((mn ((mn ((mn ((mn ((mn ((mn ((mn rfl rfl).trans (m3_succ D 21).symm) (mx rfl (p100 D))).trans (m3_succ D 22).symm) (mx (p102 D) (p104 D))).trans (m3_succ D 23).symm) (mx (p106 D) (p108 D))).trans (m3_succ D 24).symm) (mx (p110 D) (p112 D))).trans (m3_succ D 25).symm) (mx (p114 D) (p116 D))).trans (m3_succ D 26).symm) (mx (p118 D) (p120 D))).trans (m3_succ D 27).symm) (mx (p122 D) (p124 D))).trans (m3_succ D 28).symm) (mx (p126 D) (p128 D))).trans (m3_succ D 29).symm) (mx (p130 D) (p132 D))).trans (m3_succ D 30).symm
/-- Rows 248..255. -/
theorem p136 (D : FVec F S1024x4096 .f32) : k0_pay136 D = (slab D 31) := slab_eq D 31 (by decide) slices_S1024x4096_o248_0_S8x4096
/-- The larger of the least and the new rows, step 31. -/
theorem p137 (D : FVec F S1024x4096 .f32) : k0_pay137 D (m1 D 22) = (hi1 D 31) := mx (p133 D) (p136 D)
/-- The least after 32 steps. -/
theorem p138 (D : FVec F S1024x4096 .f32) : k0_pay138 D (m1 D 22) = (m1 D 32) := (mn (p133 D) (p136 D)).trans (m1_succ D 31).symm
/-- The value passed on to the third least, step 31. -/
theorem p139 (D : FVec F S1024x4096 .f32) : k0_pay139 D (m1 D 22) (m2 D 22) = (hi2 D 31) := mx (p134 D) (p137 D)
/-- The second least after 32 steps. -/
theorem p140 (D : FVec F S1024x4096 .f32) : k0_pay140 D (m1 D 22) (m2 D 22) = (m2 D 32) := (mn (p134 D) (p137 D)).trans (m2_succ D 31).symm
/-- Rows 256..263. -/
theorem p141 (D : FVec F S1024x4096 .f32) : k0_pay141 D = (slab D 32) := slab_eq D 32 (by decide) slices_S1024x4096_o256_0_S8x4096
/-- The larger of the least and the new rows, step 32. -/
theorem p142 (D : FVec F S1024x4096 .f32) : k0_pay142 D (m1 D 32) = (hi1 D 32) := mx rfl (p141 D)
/-- The least after 33 steps. -/
theorem p143 (D : FVec F S1024x4096 .f32) : k0_pay143 D (m1 D 32) = (m1 D 33) := (mn rfl (p141 D)).trans (m1_succ D 32).symm
/-- The second least after 33 steps. -/
theorem p144 (D : FVec F S1024x4096 .f32) : k0_pay144 D (m1 D 32) (m2 D 32) = (m2 D 33) := (mn rfl (p142 D)).trans (m2_succ D 32).symm
/-- Rows 264..271. -/
theorem p145 (D : FVec F S1024x4096 .f32) : k0_pay145 D = (slab D 33) := slab_eq D 33 (by decide) slices_S1024x4096_o264_0_S8x4096
/-- The larger of the least and the new rows, step 33. -/
theorem p146 (D : FVec F S1024x4096 .f32) : k0_pay146 D (m1 D 32) = (hi1 D 33) := mx (p143 D) (p145 D)
/-- The least after 34 steps. -/
theorem p147 (D : FVec F S1024x4096 .f32) : k0_pay147 D (m1 D 32) = (m1 D 34) := (mn (p143 D) (p145 D)).trans (m1_succ D 33).symm
/-- The second least after 34 steps. -/
theorem p148 (D : FVec F S1024x4096 .f32) : k0_pay148 D (m1 D 32) (m2 D 32) = (m2 D 34) := (mn (p144 D) (p146 D)).trans (m2_succ D 33).symm
/-- Rows 272..279. -/
theorem p149 (D : FVec F S1024x4096 .f32) : k0_pay149 D = (slab D 34) := slab_eq D 34 (by decide) slices_S1024x4096_o272_0_S8x4096
/-- The larger of the least and the new rows, step 34. -/
theorem p150 (D : FVec F S1024x4096 .f32) : k0_pay150 D (m1 D 32) = (hi1 D 34) := mx (p147 D) (p149 D)
/-- The least after 35 steps. -/
theorem p151 (D : FVec F S1024x4096 .f32) : k0_pay151 D (m1 D 32) = (m1 D 35) := (mn (p147 D) (p149 D)).trans (m1_succ D 34).symm
/-- The second least after 35 steps. -/
theorem p152 (D : FVec F S1024x4096 .f32) : k0_pay152 D (m1 D 32) (m2 D 32) = (m2 D 35) := (mn (p148 D) (p150 D)).trans (m2_succ D 34).symm
/-- Rows 280..287. -/
theorem p153 (D : FVec F S1024x4096 .f32) : k0_pay153 D = (slab D 35) := slab_eq D 35 (by decide) slices_S1024x4096_o280_0_S8x4096
/-- The larger of the least and the new rows, step 35. -/
theorem p154 (D : FVec F S1024x4096 .f32) : k0_pay154 D (m1 D 32) = (hi1 D 35) := mx (p151 D) (p153 D)
/-- The least after 36 steps. -/
theorem p155 (D : FVec F S1024x4096 .f32) : k0_pay155 D (m1 D 32) = (m1 D 36) := (mn (p151 D) (p153 D)).trans (m1_succ D 35).symm
/-- The second least after 36 steps. -/
theorem p156 (D : FVec F S1024x4096 .f32) : k0_pay156 D (m1 D 32) (m2 D 32) = (m2 D 36) := (mn (p152 D) (p154 D)).trans (m2_succ D 35).symm
/-- Rows 288..295. -/
theorem p157 (D : FVec F S1024x4096 .f32) : k0_pay157 D = (slab D 36) := slab_eq D 36 (by decide) slices_S1024x4096_o288_0_S8x4096
/-- The larger of the least and the new rows, step 36. -/
theorem p158 (D : FVec F S1024x4096 .f32) : k0_pay158 D (m1 D 32) = (hi1 D 36) := mx (p155 D) (p157 D)
/-- The least after 37 steps. -/
theorem p159 (D : FVec F S1024x4096 .f32) : k0_pay159 D (m1 D 32) = (m1 D 37) := (mn (p155 D) (p157 D)).trans (m1_succ D 36).symm
/-- The second least after 37 steps. -/
theorem p160 (D : FVec F S1024x4096 .f32) : k0_pay160 D (m1 D 32) (m2 D 32) = (m2 D 37) := (mn (p156 D) (p158 D)).trans (m2_succ D 36).symm
/-- Rows 296..303. -/
theorem p161 (D : FVec F S1024x4096 .f32) : k0_pay161 D = (slab D 37) := slab_eq D 37 (by decide) slices_S1024x4096_o296_0_S8x4096
/-- The larger of the least and the new rows, step 37. -/
theorem p162 (D : FVec F S1024x4096 .f32) : k0_pay162 D (m1 D 32) = (hi1 D 37) := mx (p159 D) (p161 D)
/-- The least after 38 steps. -/
theorem p163 (D : FVec F S1024x4096 .f32) : k0_pay163 D (m1 D 32) = (m1 D 38) := (mn (p159 D) (p161 D)).trans (m1_succ D 37).symm
/-- The second least after 38 steps. -/
theorem p164 (D : FVec F S1024x4096 .f32) : k0_pay164 D (m1 D 32) (m2 D 32) = (m2 D 38) := (mn (p160 D) (p162 D)).trans (m2_succ D 37).symm
/-- Rows 304..311. -/
theorem p165 (D : FVec F S1024x4096 .f32) : k0_pay165 D = (slab D 38) := slab_eq D 38 (by decide) slices_S1024x4096_o304_0_S8x4096
/-- The larger of the least and the new rows, step 38. -/
theorem p166 (D : FVec F S1024x4096 .f32) : k0_pay166 D (m1 D 32) = (hi1 D 38) := mx (p163 D) (p165 D)
/-- The least after 39 steps. -/
theorem p167 (D : FVec F S1024x4096 .f32) : k0_pay167 D (m1 D 32) = (m1 D 39) := (mn (p163 D) (p165 D)).trans (m1_succ D 38).symm
/-- The second least after 39 steps. -/
theorem p168 (D : FVec F S1024x4096 .f32) : k0_pay168 D (m1 D 32) (m2 D 32) = (m2 D 39) := (mn (p164 D) (p166 D)).trans (m2_succ D 38).symm
/-- Rows 312..319. -/
theorem p169 (D : FVec F S1024x4096 .f32) : k0_pay169 D = (slab D 39) := slab_eq D 39 (by decide) slices_S1024x4096_o312_0_S8x4096
/-- The larger of the least and the new rows, step 39. -/
theorem p170 (D : FVec F S1024x4096 .f32) : k0_pay170 D (m1 D 32) = (hi1 D 39) := mx (p167 D) (p169 D)
/-- The least after 40 steps. -/
theorem p171 (D : FVec F S1024x4096 .f32) : k0_pay171 D (m1 D 32) = (m1 D 40) := (mn (p167 D) (p169 D)).trans (m1_succ D 39).symm
/-- The second least after 40 steps. -/
theorem p172 (D : FVec F S1024x4096 .f32) : k0_pay172 D (m1 D 32) (m2 D 32) = (m2 D 40) := (mn (p168 D) (p170 D)).trans (m2_succ D 39).symm
/-- Rows 320..327. -/
theorem p173 (D : FVec F S1024x4096 .f32) : k0_pay173 D = (slab D 40) := slab_eq D 40 (by decide) slices_S1024x4096_o320_0_S8x4096
/-- The larger of the least and the new rows, step 40. -/
theorem p174 (D : FVec F S1024x4096 .f32) : k0_pay174 D (m1 D 32) = (hi1 D 40) := mx (p171 D) (p173 D)
/-- The least after 41 steps. -/
theorem p175 (D : FVec F S1024x4096 .f32) : k0_pay175 D (m1 D 32) = (m1 D 41) := (mn (p171 D) (p173 D)).trans (m1_succ D 40).symm
/-- The second least after 41 steps. -/
theorem p176 (D : FVec F S1024x4096 .f32) : k0_pay176 D (m1 D 32) (m2 D 32) = (m2 D 41) := (mn (p172 D) (p174 D)).trans (m2_succ D 40).symm
/-- The third least after 41 steps. -/
theorem p177 (D : FVec F S1024x4096 .f32) : k0_pay177 D (m3 D 31) (m1 D 32) (hi2 D 31) (m2 D 32) = (m3 D 41) := (mn ((mn ((mn ((mn ((mn ((mn ((mn ((mn ((mn ((mn rfl rfl).trans (m3_succ D 31).symm) (mx rfl (p142 D))).trans (m3_succ D 32).symm) (mx (p144 D) (p146 D))).trans (m3_succ D 33).symm) (mx (p148 D) (p150 D))).trans (m3_succ D 34).symm) (mx (p152 D) (p154 D))).trans (m3_succ D 35).symm) (mx (p156 D) (p158 D))).trans (m3_succ D 36).symm) (mx (p160 D) (p162 D))).trans (m3_succ D 37).symm) (mx (p164 D) (p166 D))).trans (m3_succ D 38).symm) (mx (p168 D) (p170 D))).trans (m3_succ D 39).symm) (mx (p172 D) (p174 D))).trans (m3_succ D 40).symm
/-- Rows 328..335. -/
theorem p178 (D : FVec F S1024x4096 .f32) : k0_pay178 D = (slab D 41) := slab_eq D 41 (by decide) slices_S1024x4096_o328_0_S8x4096
/-- The larger of the least and the new rows, step 41. -/
theorem p179 (D : FVec F S1024x4096 .f32) : k0_pay179 D (m1 D 32) = (hi1 D 41) := mx (p175 D) (p178 D)
/-- The least after 42 steps. -/
theorem p180 (D : FVec F S1024x4096 .f32) : k0_pay180 D (m1 D 32) = (m1 D 42) := (mn (p175 D) (p178 D)).trans (m1_succ D 41).symm
/-- The value passed on to the third least, step 41. -/
theorem p181 (D : FVec F S1024x4096 .f32) : k0_pay181 D (m1 D 32) (m2 D 32) = (hi2 D 41) := mx (p176 D) (p179 D)
/-- The second least after 42 steps. -/
theorem p182 (D : FVec F S1024x4096 .f32) : k0_pay182 D (m1 D 32) (m2 D 32) = (m2 D 42) := (mn (p176 D) (p179 D)).trans (m2_succ D 41).symm
/-- Rows 336..343. -/
theorem p183 (D : FVec F S1024x4096 .f32) : k0_pay183 D = (slab D 42) := slab_eq D 42 (by decide) slices_S1024x4096_o336_0_S8x4096
/-- The larger of the least and the new rows, step 42. -/
theorem p184 (D : FVec F S1024x4096 .f32) : k0_pay184 D (m1 D 42) = (hi1 D 42) := mx rfl (p183 D)
/-- The least after 43 steps. -/
theorem p185 (D : FVec F S1024x4096 .f32) : k0_pay185 D (m1 D 42) = (m1 D 43) := (mn rfl (p183 D)).trans (m1_succ D 42).symm
/-- The second least after 43 steps. -/
theorem p186 (D : FVec F S1024x4096 .f32) : k0_pay186 D (m1 D 42) (m2 D 42) = (m2 D 43) := (mn rfl (p184 D)).trans (m2_succ D 42).symm
/-- Rows 344..351. -/
theorem p187 (D : FVec F S1024x4096 .f32) : k0_pay187 D = (slab D 43) := slab_eq D 43 (by decide) slices_S1024x4096_o344_0_S8x4096
/-- The larger of the least and the new rows, step 43. -/
theorem p188 (D : FVec F S1024x4096 .f32) : k0_pay188 D (m1 D 42) = (hi1 D 43) := mx (p185 D) (p187 D)
/-- The least after 44 steps. -/
theorem p189 (D : FVec F S1024x4096 .f32) : k0_pay189 D (m1 D 42) = (m1 D 44) := (mn (p185 D) (p187 D)).trans (m1_succ D 43).symm
/-- The second least after 44 steps. -/
theorem p190 (D : FVec F S1024x4096 .f32) : k0_pay190 D (m1 D 42) (m2 D 42) = (m2 D 44) := (mn (p186 D) (p188 D)).trans (m2_succ D 43).symm
/-- Rows 352..359. -/
theorem p191 (D : FVec F S1024x4096 .f32) : k0_pay191 D = (slab D 44) := slab_eq D 44 (by decide) slices_S1024x4096_o352_0_S8x4096
/-- The larger of the least and the new rows, step 44. -/
theorem p192 (D : FVec F S1024x4096 .f32) : k0_pay192 D (m1 D 42) = (hi1 D 44) := mx (p189 D) (p191 D)
/-- The least after 45 steps. -/
theorem p193 (D : FVec F S1024x4096 .f32) : k0_pay193 D (m1 D 42) = (m1 D 45) := (mn (p189 D) (p191 D)).trans (m1_succ D 44).symm
/-- The second least after 45 steps. -/
theorem p194 (D : FVec F S1024x4096 .f32) : k0_pay194 D (m1 D 42) (m2 D 42) = (m2 D 45) := (mn (p190 D) (p192 D)).trans (m2_succ D 44).symm
/-- Rows 360..367. -/
theorem p195 (D : FVec F S1024x4096 .f32) : k0_pay195 D = (slab D 45) := slab_eq D 45 (by decide) slices_S1024x4096_o360_0_S8x4096
/-- The larger of the least and the new rows, step 45. -/
theorem p196 (D : FVec F S1024x4096 .f32) : k0_pay196 D (m1 D 42) = (hi1 D 45) := mx (p193 D) (p195 D)
/-- The least after 46 steps. -/
theorem p197 (D : FVec F S1024x4096 .f32) : k0_pay197 D (m1 D 42) = (m1 D 46) := (mn (p193 D) (p195 D)).trans (m1_succ D 45).symm
/-- The second least after 46 steps. -/
theorem p198 (D : FVec F S1024x4096 .f32) : k0_pay198 D (m1 D 42) (m2 D 42) = (m2 D 46) := (mn (p194 D) (p196 D)).trans (m2_succ D 45).symm
/-- Rows 368..375. -/
theorem p199 (D : FVec F S1024x4096 .f32) : k0_pay199 D = (slab D 46) := slab_eq D 46 (by decide) slices_S1024x4096_o368_0_S8x4096
/-- The larger of the least and the new rows, step 46. -/
theorem p200 (D : FVec F S1024x4096 .f32) : k0_pay200 D (m1 D 42) = (hi1 D 46) := mx (p197 D) (p199 D)
/-- The least after 47 steps. -/
theorem p201 (D : FVec F S1024x4096 .f32) : k0_pay201 D (m1 D 42) = (m1 D 47) := (mn (p197 D) (p199 D)).trans (m1_succ D 46).symm
/-- The second least after 47 steps. -/
theorem p202 (D : FVec F S1024x4096 .f32) : k0_pay202 D (m1 D 42) (m2 D 42) = (m2 D 47) := (mn (p198 D) (p200 D)).trans (m2_succ D 46).symm
/-- Rows 376..383. -/
theorem p203 (D : FVec F S1024x4096 .f32) : k0_pay203 D = (slab D 47) := slab_eq D 47 (by decide) slices_S1024x4096_o376_0_S8x4096
/-- The larger of the least and the new rows, step 47. -/
theorem p204 (D : FVec F S1024x4096 .f32) : k0_pay204 D (m1 D 42) = (hi1 D 47) := mx (p201 D) (p203 D)
/-- The least after 48 steps. -/
theorem p205 (D : FVec F S1024x4096 .f32) : k0_pay205 D (m1 D 42) = (m1 D 48) := (mn (p201 D) (p203 D)).trans (m1_succ D 47).symm
/-- The second least after 48 steps. -/
theorem p206 (D : FVec F S1024x4096 .f32) : k0_pay206 D (m1 D 42) (m2 D 42) = (m2 D 48) := (mn (p202 D) (p204 D)).trans (m2_succ D 47).symm
/-- Rows 384..391. -/
theorem p207 (D : FVec F S1024x4096 .f32) : k0_pay207 D = (slab D 48) := slab_eq D 48 (by decide) slices_S1024x4096_o384_0_S8x4096
/-- The larger of the least and the new rows, step 48. -/
theorem p208 (D : FVec F S1024x4096 .f32) : k0_pay208 D (m1 D 42) = (hi1 D 48) := mx (p205 D) (p207 D)
/-- The least after 49 steps. -/
theorem p209 (D : FVec F S1024x4096 .f32) : k0_pay209 D (m1 D 42) = (m1 D 49) := (mn (p205 D) (p207 D)).trans (m1_succ D 48).symm
/-- The second least after 49 steps. -/
theorem p210 (D : FVec F S1024x4096 .f32) : k0_pay210 D (m1 D 42) (m2 D 42) = (m2 D 49) := (mn (p206 D) (p208 D)).trans (m2_succ D 48).symm
/-- Rows 392..399. -/
theorem p211 (D : FVec F S1024x4096 .f32) : k0_pay211 D = (slab D 49) := slab_eq D 49 (by decide) slices_S1024x4096_o392_0_S8x4096
/-- The larger of the least and the new rows, step 49. -/
theorem p212 (D : FVec F S1024x4096 .f32) : k0_pay212 D (m1 D 42) = (hi1 D 49) := mx (p209 D) (p211 D)
/-- The least after 50 steps. -/
theorem p213 (D : FVec F S1024x4096 .f32) : k0_pay213 D (m1 D 42) = (m1 D 50) := (mn (p209 D) (p211 D)).trans (m1_succ D 49).symm
/-- The second least after 50 steps. -/
theorem p214 (D : FVec F S1024x4096 .f32) : k0_pay214 D (m1 D 42) (m2 D 42) = (m2 D 50) := (mn (p210 D) (p212 D)).trans (m2_succ D 49).symm
/-- Rows 400..407. -/
theorem p215 (D : FVec F S1024x4096 .f32) : k0_pay215 D = (slab D 50) := slab_eq D 50 (by decide) slices_S1024x4096_o400_0_S8x4096
/-- The larger of the least and the new rows, step 50. -/
theorem p216 (D : FVec F S1024x4096 .f32) : k0_pay216 D (m1 D 42) = (hi1 D 50) := mx (p213 D) (p215 D)
/-- The least after 51 steps. -/
theorem p217 (D : FVec F S1024x4096 .f32) : k0_pay217 D (m1 D 42) = (m1 D 51) := (mn (p213 D) (p215 D)).trans (m1_succ D 50).symm
/-- The second least after 51 steps. -/
theorem p218 (D : FVec F S1024x4096 .f32) : k0_pay218 D (m1 D 42) (m2 D 42) = (m2 D 51) := (mn (p214 D) (p216 D)).trans (m2_succ D 50).symm
/-- The third least after 51 steps. -/
theorem p219 (D : FVec F S1024x4096 .f32) : k0_pay219 D (m3 D 41) (m1 D 42) (hi2 D 41) (m2 D 42) = (m3 D 51) := (mn ((mn ((mn ((mn ((mn ((mn ((mn ((mn ((mn ((mn rfl rfl).trans (m3_succ D 41).symm) (mx rfl (p184 D))).trans (m3_succ D 42).symm) (mx (p186 D) (p188 D))).trans (m3_succ D 43).symm) (mx (p190 D) (p192 D))).trans (m3_succ D 44).symm) (mx (p194 D) (p196 D))).trans (m3_succ D 45).symm) (mx (p198 D) (p200 D))).trans (m3_succ D 46).symm) (mx (p202 D) (p204 D))).trans (m3_succ D 47).symm) (mx (p206 D) (p208 D))).trans (m3_succ D 48).symm) (mx (p210 D) (p212 D))).trans (m3_succ D 49).symm) (mx (p214 D) (p216 D))).trans (m3_succ D 50).symm
/-- Rows 408..415. -/
theorem p220 (D : FVec F S1024x4096 .f32) : k0_pay220 D = (slab D 51) := slab_eq D 51 (by decide) slices_S1024x4096_o408_0_S8x4096
/-- The larger of the least and the new rows, step 51. -/
theorem p221 (D : FVec F S1024x4096 .f32) : k0_pay221 D (m1 D 42) = (hi1 D 51) := mx (p217 D) (p220 D)
/-- The least after 52 steps. -/
theorem p222 (D : FVec F S1024x4096 .f32) : k0_pay222 D (m1 D 42) = (m1 D 52) := (mn (p217 D) (p220 D)).trans (m1_succ D 51).symm
/-- The value passed on to the third least, step 51. -/
theorem p223 (D : FVec F S1024x4096 .f32) : k0_pay223 D (m1 D 42) (m2 D 42) = (hi2 D 51) := mx (p218 D) (p221 D)
/-- The second least after 52 steps. -/
theorem p224 (D : FVec F S1024x4096 .f32) : k0_pay224 D (m1 D 42) (m2 D 42) = (m2 D 52) := (mn (p218 D) (p221 D)).trans (m2_succ D 51).symm
/-- Rows 416..423. -/
theorem p225 (D : FVec F S1024x4096 .f32) : k0_pay225 D = (slab D 52) := slab_eq D 52 (by decide) slices_S1024x4096_o416_0_S8x4096
/-- The larger of the least and the new rows, step 52. -/
theorem p226 (D : FVec F S1024x4096 .f32) : k0_pay226 D (m1 D 52) = (hi1 D 52) := mx rfl (p225 D)
/-- The least after 53 steps. -/
theorem p227 (D : FVec F S1024x4096 .f32) : k0_pay227 D (m1 D 52) = (m1 D 53) := (mn rfl (p225 D)).trans (m1_succ D 52).symm
/-- The second least after 53 steps. -/
theorem p228 (D : FVec F S1024x4096 .f32) : k0_pay228 D (m1 D 52) (m2 D 52) = (m2 D 53) := (mn rfl (p226 D)).trans (m2_succ D 52).symm
/-- Rows 424..431. -/
theorem p229 (D : FVec F S1024x4096 .f32) : k0_pay229 D = (slab D 53) := slab_eq D 53 (by decide) slices_S1024x4096_o424_0_S8x4096
/-- The larger of the least and the new rows, step 53. -/
theorem p230 (D : FVec F S1024x4096 .f32) : k0_pay230 D (m1 D 52) = (hi1 D 53) := mx (p227 D) (p229 D)
/-- The least after 54 steps. -/
theorem p231 (D : FVec F S1024x4096 .f32) : k0_pay231 D (m1 D 52) = (m1 D 54) := (mn (p227 D) (p229 D)).trans (m1_succ D 53).symm
/-- The second least after 54 steps. -/
theorem p232 (D : FVec F S1024x4096 .f32) : k0_pay232 D (m1 D 52) (m2 D 52) = (m2 D 54) := (mn (p228 D) (p230 D)).trans (m2_succ D 53).symm
/-- Rows 432..439. -/
theorem p233 (D : FVec F S1024x4096 .f32) : k0_pay233 D = (slab D 54) := slab_eq D 54 (by decide) slices_S1024x4096_o432_0_S8x4096
/-- The larger of the least and the new rows, step 54. -/
theorem p234 (D : FVec F S1024x4096 .f32) : k0_pay234 D (m1 D 52) = (hi1 D 54) := mx (p231 D) (p233 D)
/-- The least after 55 steps. -/
theorem p235 (D : FVec F S1024x4096 .f32) : k0_pay235 D (m1 D 52) = (m1 D 55) := (mn (p231 D) (p233 D)).trans (m1_succ D 54).symm
/-- The second least after 55 steps. -/
theorem p236 (D : FVec F S1024x4096 .f32) : k0_pay236 D (m1 D 52) (m2 D 52) = (m2 D 55) := (mn (p232 D) (p234 D)).trans (m2_succ D 54).symm
/-- Rows 440..447. -/
theorem p237 (D : FVec F S1024x4096 .f32) : k0_pay237 D = (slab D 55) := slab_eq D 55 (by decide) slices_S1024x4096_o440_0_S8x4096
/-- The larger of the least and the new rows, step 55. -/
theorem p238 (D : FVec F S1024x4096 .f32) : k0_pay238 D (m1 D 52) = (hi1 D 55) := mx (p235 D) (p237 D)
/-- The least after 56 steps. -/
theorem p239 (D : FVec F S1024x4096 .f32) : k0_pay239 D (m1 D 52) = (m1 D 56) := (mn (p235 D) (p237 D)).trans (m1_succ D 55).symm
/-- The second least after 56 steps. -/
theorem p240 (D : FVec F S1024x4096 .f32) : k0_pay240 D (m1 D 52) (m2 D 52) = (m2 D 56) := (mn (p236 D) (p238 D)).trans (m2_succ D 55).symm
/-- Rows 448..455. -/
theorem p241 (D : FVec F S1024x4096 .f32) : k0_pay241 D = (slab D 56) := slab_eq D 56 (by decide) slices_S1024x4096_o448_0_S8x4096
/-- The larger of the least and the new rows, step 56. -/
theorem p242 (D : FVec F S1024x4096 .f32) : k0_pay242 D (m1 D 52) = (hi1 D 56) := mx (p239 D) (p241 D)
/-- The least after 57 steps. -/
theorem p243 (D : FVec F S1024x4096 .f32) : k0_pay243 D (m1 D 52) = (m1 D 57) := (mn (p239 D) (p241 D)).trans (m1_succ D 56).symm
/-- The second least after 57 steps. -/
theorem p244 (D : FVec F S1024x4096 .f32) : k0_pay244 D (m1 D 52) (m2 D 52) = (m2 D 57) := (mn (p240 D) (p242 D)).trans (m2_succ D 56).symm
/-- Rows 456..463. -/
theorem p245 (D : FVec F S1024x4096 .f32) : k0_pay245 D = (slab D 57) := slab_eq D 57 (by decide) slices_S1024x4096_o456_0_S8x4096
/-- The larger of the least and the new rows, step 57. -/
theorem p246 (D : FVec F S1024x4096 .f32) : k0_pay246 D (m1 D 52) = (hi1 D 57) := mx (p243 D) (p245 D)
/-- The least after 58 steps. -/
theorem p247 (D : FVec F S1024x4096 .f32) : k0_pay247 D (m1 D 52) = (m1 D 58) := (mn (p243 D) (p245 D)).trans (m1_succ D 57).symm
/-- The second least after 58 steps. -/
theorem p248 (D : FVec F S1024x4096 .f32) : k0_pay248 D (m1 D 52) (m2 D 52) = (m2 D 58) := (mn (p244 D) (p246 D)).trans (m2_succ D 57).symm
/-- Rows 464..471. -/
theorem p249 (D : FVec F S1024x4096 .f32) : k0_pay249 D = (slab D 58) := slab_eq D 58 (by decide) slices_S1024x4096_o464_0_S8x4096
/-- The larger of the least and the new rows, step 58. -/
theorem p250 (D : FVec F S1024x4096 .f32) : k0_pay250 D (m1 D 52) = (hi1 D 58) := mx (p247 D) (p249 D)
/-- The least after 59 steps. -/
theorem p251 (D : FVec F S1024x4096 .f32) : k0_pay251 D (m1 D 52) = (m1 D 59) := (mn (p247 D) (p249 D)).trans (m1_succ D 58).symm
/-- The second least after 59 steps. -/
theorem p252 (D : FVec F S1024x4096 .f32) : k0_pay252 D (m1 D 52) (m2 D 52) = (m2 D 59) := (mn (p248 D) (p250 D)).trans (m2_succ D 58).symm
/-- Rows 472..479. -/
theorem p253 (D : FVec F S1024x4096 .f32) : k0_pay253 D = (slab D 59) := slab_eq D 59 (by decide) slices_S1024x4096_o472_0_S8x4096
/-- The larger of the least and the new rows, step 59. -/
theorem p254 (D : FVec F S1024x4096 .f32) : k0_pay254 D (m1 D 52) = (hi1 D 59) := mx (p251 D) (p253 D)
/-- The least after 60 steps. -/
theorem p255 (D : FVec F S1024x4096 .f32) : k0_pay255 D (m1 D 52) = (m1 D 60) := (mn (p251 D) (p253 D)).trans (m1_succ D 59).symm
/-- The second least after 60 steps. -/
theorem p256 (D : FVec F S1024x4096 .f32) : k0_pay256 D (m1 D 52) (m2 D 52) = (m2 D 60) := (mn (p252 D) (p254 D)).trans (m2_succ D 59).symm
/-- Rows 480..487. -/
theorem p257 (D : FVec F S1024x4096 .f32) : k0_pay257 D = (slab D 60) := slab_eq D 60 (by decide) slices_S1024x4096_o480_0_S8x4096
/-- The larger of the least and the new rows, step 60. -/
theorem p258 (D : FVec F S1024x4096 .f32) : k0_pay258 D (m1 D 52) = (hi1 D 60) := mx (p255 D) (p257 D)
/-- The least after 61 steps. -/
theorem p259 (D : FVec F S1024x4096 .f32) : k0_pay259 D (m1 D 52) = (m1 D 61) := (mn (p255 D) (p257 D)).trans (m1_succ D 60).symm
/-- The second least after 61 steps. -/
theorem p260 (D : FVec F S1024x4096 .f32) : k0_pay260 D (m1 D 52) (m2 D 52) = (m2 D 61) := (mn (p256 D) (p258 D)).trans (m2_succ D 60).symm
/-- The third least after 61 steps. -/
theorem p261 (D : FVec F S1024x4096 .f32) : k0_pay261 D (m3 D 51) (m1 D 52) (hi2 D 51) (m2 D 52) = (m3 D 61) := (mn ((mn ((mn ((mn ((mn ((mn ((mn ((mn ((mn ((mn rfl rfl).trans (m3_succ D 51).symm) (mx rfl (p226 D))).trans (m3_succ D 52).symm) (mx (p228 D) (p230 D))).trans (m3_succ D 53).symm) (mx (p232 D) (p234 D))).trans (m3_succ D 54).symm) (mx (p236 D) (p238 D))).trans (m3_succ D 55).symm) (mx (p240 D) (p242 D))).trans (m3_succ D 56).symm) (mx (p244 D) (p246 D))).trans (m3_succ D 57).symm) (mx (p248 D) (p250 D))).trans (m3_succ D 58).symm) (mx (p252 D) (p254 D))).trans (m3_succ D 59).symm) (mx (p256 D) (p258 D))).trans (m3_succ D 60).symm
/-- Rows 488..495. -/
theorem p262 (D : FVec F S1024x4096 .f32) : k0_pay262 D = (slab D 61) := slab_eq D 61 (by decide) slices_S1024x4096_o488_0_S8x4096
/-- The larger of the least and the new rows, step 61. -/
theorem p263 (D : FVec F S1024x4096 .f32) : k0_pay263 D (m1 D 52) = (hi1 D 61) := mx (p259 D) (p262 D)
/-- The least after 62 steps. -/
theorem p264 (D : FVec F S1024x4096 .f32) : k0_pay264 D (m1 D 52) = (m1 D 62) := (mn (p259 D) (p262 D)).trans (m1_succ D 61).symm
/-- The value passed on to the third least, step 61. -/
theorem p265 (D : FVec F S1024x4096 .f32) : k0_pay265 D (m1 D 52) (m2 D 52) = (hi2 D 61) := mx (p260 D) (p263 D)
/-- The second least after 62 steps. -/
theorem p266 (D : FVec F S1024x4096 .f32) : k0_pay266 D (m1 D 52) (m2 D 52) = (m2 D 62) := (mn (p260 D) (p263 D)).trans (m2_succ D 61).symm
/-- Rows 496..503. -/
theorem p267 (D : FVec F S1024x4096 .f32) : k0_pay267 D = (slab D 62) := slab_eq D 62 (by decide) slices_S1024x4096_o496_0_S8x4096
/-- The larger of the least and the new rows, step 62. -/
theorem p268 (D : FVec F S1024x4096 .f32) : k0_pay268 D (m1 D 62) = (hi1 D 62) := mx rfl (p267 D)
/-- The least after 63 steps. -/
theorem p269 (D : FVec F S1024x4096 .f32) : k0_pay269 D (m1 D 62) = (m1 D 63) := (mn rfl (p267 D)).trans (m1_succ D 62).symm
/-- The second least after 63 steps. -/
theorem p270 (D : FVec F S1024x4096 .f32) : k0_pay270 D (m1 D 62) (m2 D 62) = (m2 D 63) := (mn rfl (p268 D)).trans (m2_succ D 62).symm
/-- Rows 504..511. -/
theorem p271 (D : FVec F S1024x4096 .f32) : k0_pay271 D = (slab D 63) := slab_eq D 63 (by decide) slices_S1024x4096_o504_0_S8x4096
/-- The larger of the least and the new rows, step 63. -/
theorem p272 (D : FVec F S1024x4096 .f32) : k0_pay272 D (m1 D 62) = (hi1 D 63) := mx (p269 D) (p271 D)
/-- The least after 64 steps. -/
theorem p273 (D : FVec F S1024x4096 .f32) : k0_pay273 D (m1 D 62) = (m1 D 64) := (mn (p269 D) (p271 D)).trans (m1_succ D 63).symm
/-- The second least after 64 steps. -/
theorem p274 (D : FVec F S1024x4096 .f32) : k0_pay274 D (m1 D 62) (m2 D 62) = (m2 D 64) := (mn (p270 D) (p272 D)).trans (m2_succ D 63).symm
/-- Rows 512..519. -/
theorem p275 (D : FVec F S1024x4096 .f32) : k0_pay275 D = (slab D 64) := slab_eq D 64 (by decide) slices_S1024x4096_o512_0_S8x4096
/-- The larger of the least and the new rows, step 64. -/
theorem p276 (D : FVec F S1024x4096 .f32) : k0_pay276 D (m1 D 62) = (hi1 D 64) := mx (p273 D) (p275 D)
/-- The least after 65 steps. -/
theorem p277 (D : FVec F S1024x4096 .f32) : k0_pay277 D (m1 D 62) = (m1 D 65) := (mn (p273 D) (p275 D)).trans (m1_succ D 64).symm
/-- The second least after 65 steps. -/
theorem p278 (D : FVec F S1024x4096 .f32) : k0_pay278 D (m1 D 62) (m2 D 62) = (m2 D 65) := (mn (p274 D) (p276 D)).trans (m2_succ D 64).symm
/-- Rows 520..527. -/
theorem p279 (D : FVec F S1024x4096 .f32) : k0_pay279 D = (slab D 65) := slab_eq D 65 (by decide) slices_S1024x4096_o520_0_S8x4096
/-- The larger of the least and the new rows, step 65. -/
theorem p280 (D : FVec F S1024x4096 .f32) : k0_pay280 D (m1 D 62) = (hi1 D 65) := mx (p277 D) (p279 D)
/-- The least after 66 steps. -/
theorem p281 (D : FVec F S1024x4096 .f32) : k0_pay281 D (m1 D 62) = (m1 D 66) := (mn (p277 D) (p279 D)).trans (m1_succ D 65).symm
/-- The second least after 66 steps. -/
theorem p282 (D : FVec F S1024x4096 .f32) : k0_pay282 D (m1 D 62) (m2 D 62) = (m2 D 66) := (mn (p278 D) (p280 D)).trans (m2_succ D 65).symm
/-- Rows 528..535. -/
theorem p283 (D : FVec F S1024x4096 .f32) : k0_pay283 D = (slab D 66) := slab_eq D 66 (by decide) slices_S1024x4096_o528_0_S8x4096
/-- The larger of the least and the new rows, step 66. -/
theorem p284 (D : FVec F S1024x4096 .f32) : k0_pay284 D (m1 D 62) = (hi1 D 66) := mx (p281 D) (p283 D)
/-- The least after 67 steps. -/
theorem p285 (D : FVec F S1024x4096 .f32) : k0_pay285 D (m1 D 62) = (m1 D 67) := (mn (p281 D) (p283 D)).trans (m1_succ D 66).symm
/-- The second least after 67 steps. -/
theorem p286 (D : FVec F S1024x4096 .f32) : k0_pay286 D (m1 D 62) (m2 D 62) = (m2 D 67) := (mn (p282 D) (p284 D)).trans (m2_succ D 66).symm
/-- Rows 536..543. -/
theorem p287 (D : FVec F S1024x4096 .f32) : k0_pay287 D = (slab D 67) := slab_eq D 67 (by decide) slices_S1024x4096_o536_0_S8x4096
/-- The larger of the least and the new rows, step 67. -/
theorem p288 (D : FVec F S1024x4096 .f32) : k0_pay288 D (m1 D 62) = (hi1 D 67) := mx (p285 D) (p287 D)
/-- The least after 68 steps. -/
theorem p289 (D : FVec F S1024x4096 .f32) : k0_pay289 D (m1 D 62) = (m1 D 68) := (mn (p285 D) (p287 D)).trans (m1_succ D 67).symm
/-- The second least after 68 steps. -/
theorem p290 (D : FVec F S1024x4096 .f32) : k0_pay290 D (m1 D 62) (m2 D 62) = (m2 D 68) := (mn (p286 D) (p288 D)).trans (m2_succ D 67).symm
/-- Rows 544..551. -/
theorem p291 (D : FVec F S1024x4096 .f32) : k0_pay291 D = (slab D 68) := slab_eq D 68 (by decide) slices_S1024x4096_o544_0_S8x4096
/-- The larger of the least and the new rows, step 68. -/
theorem p292 (D : FVec F S1024x4096 .f32) : k0_pay292 D (m1 D 62) = (hi1 D 68) := mx (p289 D) (p291 D)
/-- The least after 69 steps. -/
theorem p293 (D : FVec F S1024x4096 .f32) : k0_pay293 D (m1 D 62) = (m1 D 69) := (mn (p289 D) (p291 D)).trans (m1_succ D 68).symm
/-- The second least after 69 steps. -/
theorem p294 (D : FVec F S1024x4096 .f32) : k0_pay294 D (m1 D 62) (m2 D 62) = (m2 D 69) := (mn (p290 D) (p292 D)).trans (m2_succ D 68).symm
/-- Rows 552..559. -/
theorem p295 (D : FVec F S1024x4096 .f32) : k0_pay295 D = (slab D 69) := slab_eq D 69 (by decide) slices_S1024x4096_o552_0_S8x4096
/-- The larger of the least and the new rows, step 69. -/
theorem p296 (D : FVec F S1024x4096 .f32) : k0_pay296 D (m1 D 62) = (hi1 D 69) := mx (p293 D) (p295 D)
/-- The least after 70 steps. -/
theorem p297 (D : FVec F S1024x4096 .f32) : k0_pay297 D (m1 D 62) = (m1 D 70) := (mn (p293 D) (p295 D)).trans (m1_succ D 69).symm
/-- The second least after 70 steps. -/
theorem p298 (D : FVec F S1024x4096 .f32) : k0_pay298 D (m1 D 62) (m2 D 62) = (m2 D 70) := (mn (p294 D) (p296 D)).trans (m2_succ D 69).symm
/-- Rows 560..567. -/
theorem p299 (D : FVec F S1024x4096 .f32) : k0_pay299 D = (slab D 70) := slab_eq D 70 (by decide) slices_S1024x4096_o560_0_S8x4096
/-- The larger of the least and the new rows, step 70. -/
theorem p300 (D : FVec F S1024x4096 .f32) : k0_pay300 D (m1 D 62) = (hi1 D 70) := mx (p297 D) (p299 D)
/-- The least after 71 steps. -/
theorem p301 (D : FVec F S1024x4096 .f32) : k0_pay301 D (m1 D 62) = (m1 D 71) := (mn (p297 D) (p299 D)).trans (m1_succ D 70).symm
/-- The second least after 71 steps. -/
theorem p302 (D : FVec F S1024x4096 .f32) : k0_pay302 D (m1 D 62) (m2 D 62) = (m2 D 71) := (mn (p298 D) (p300 D)).trans (m2_succ D 70).symm
/-- The third least after 71 steps. -/
theorem p303 (D : FVec F S1024x4096 .f32) : k0_pay303 D (m3 D 61) (m1 D 62) (hi2 D 61) (m2 D 62) = (m3 D 71) := (mn ((mn ((mn ((mn ((mn ((mn ((mn ((mn ((mn ((mn rfl rfl).trans (m3_succ D 61).symm) (mx rfl (p268 D))).trans (m3_succ D 62).symm) (mx (p270 D) (p272 D))).trans (m3_succ D 63).symm) (mx (p274 D) (p276 D))).trans (m3_succ D 64).symm) (mx (p278 D) (p280 D))).trans (m3_succ D 65).symm) (mx (p282 D) (p284 D))).trans (m3_succ D 66).symm) (mx (p286 D) (p288 D))).trans (m3_succ D 67).symm) (mx (p290 D) (p292 D))).trans (m3_succ D 68).symm) (mx (p294 D) (p296 D))).trans (m3_succ D 69).symm) (mx (p298 D) (p300 D))).trans (m3_succ D 70).symm
/-- Rows 568..575. -/
theorem p304 (D : FVec F S1024x4096 .f32) : k0_pay304 D = (slab D 71) := slab_eq D 71 (by decide) slices_S1024x4096_o568_0_S8x4096
/-- The larger of the least and the new rows, step 71. -/
theorem p305 (D : FVec F S1024x4096 .f32) : k0_pay305 D (m1 D 62) = (hi1 D 71) := mx (p301 D) (p304 D)
/-- The least after 72 steps. -/
theorem p306 (D : FVec F S1024x4096 .f32) : k0_pay306 D (m1 D 62) = (m1 D 72) := (mn (p301 D) (p304 D)).trans (m1_succ D 71).symm
/-- The value passed on to the third least, step 71. -/
theorem p307 (D : FVec F S1024x4096 .f32) : k0_pay307 D (m1 D 62) (m2 D 62) = (hi2 D 71) := mx (p302 D) (p305 D)
/-- The second least after 72 steps. -/
theorem p308 (D : FVec F S1024x4096 .f32) : k0_pay308 D (m1 D 62) (m2 D 62) = (m2 D 72) := (mn (p302 D) (p305 D)).trans (m2_succ D 71).symm
/-- Rows 576..583. -/
theorem p309 (D : FVec F S1024x4096 .f32) : k0_pay309 D = (slab D 72) := slab_eq D 72 (by decide) slices_S1024x4096_o576_0_S8x4096
/-- The larger of the least and the new rows, step 72. -/
theorem p310 (D : FVec F S1024x4096 .f32) : k0_pay310 D (m1 D 72) = (hi1 D 72) := mx rfl (p309 D)
/-- The least after 73 steps. -/
theorem p311 (D : FVec F S1024x4096 .f32) : k0_pay311 D (m1 D 72) = (m1 D 73) := (mn rfl (p309 D)).trans (m1_succ D 72).symm
/-- The second least after 73 steps. -/
theorem p312 (D : FVec F S1024x4096 .f32) : k0_pay312 D (m1 D 72) (m2 D 72) = (m2 D 73) := (mn rfl (p310 D)).trans (m2_succ D 72).symm
/-- Rows 584..591. -/
theorem p313 (D : FVec F S1024x4096 .f32) : k0_pay313 D = (slab D 73) := slab_eq D 73 (by decide) slices_S1024x4096_o584_0_S8x4096
/-- The larger of the least and the new rows, step 73. -/
theorem p314 (D : FVec F S1024x4096 .f32) : k0_pay314 D (m1 D 72) = (hi1 D 73) := mx (p311 D) (p313 D)
/-- The least after 74 steps. -/
theorem p315 (D : FVec F S1024x4096 .f32) : k0_pay315 D (m1 D 72) = (m1 D 74) := (mn (p311 D) (p313 D)).trans (m1_succ D 73).symm
/-- The second least after 74 steps. -/
theorem p316 (D : FVec F S1024x4096 .f32) : k0_pay316 D (m1 D 72) (m2 D 72) = (m2 D 74) := (mn (p312 D) (p314 D)).trans (m2_succ D 73).symm
/-- Rows 592..599. -/
theorem p317 (D : FVec F S1024x4096 .f32) : k0_pay317 D = (slab D 74) := slab_eq D 74 (by decide) slices_S1024x4096_o592_0_S8x4096
/-- The larger of the least and the new rows, step 74. -/
theorem p318 (D : FVec F S1024x4096 .f32) : k0_pay318 D (m1 D 72) = (hi1 D 74) := mx (p315 D) (p317 D)
/-- The least after 75 steps. -/
theorem p319 (D : FVec F S1024x4096 .f32) : k0_pay319 D (m1 D 72) = (m1 D 75) := (mn (p315 D) (p317 D)).trans (m1_succ D 74).symm
/-- The second least after 75 steps. -/
theorem p320 (D : FVec F S1024x4096 .f32) : k0_pay320 D (m1 D 72) (m2 D 72) = (m2 D 75) := (mn (p316 D) (p318 D)).trans (m2_succ D 74).symm
/-- Rows 600..607. -/
theorem p321 (D : FVec F S1024x4096 .f32) : k0_pay321 D = (slab D 75) := slab_eq D 75 (by decide) slices_S1024x4096_o600_0_S8x4096
/-- The larger of the least and the new rows, step 75. -/
theorem p322 (D : FVec F S1024x4096 .f32) : k0_pay322 D (m1 D 72) = (hi1 D 75) := mx (p319 D) (p321 D)
/-- The least after 76 steps. -/
theorem p323 (D : FVec F S1024x4096 .f32) : k0_pay323 D (m1 D 72) = (m1 D 76) := (mn (p319 D) (p321 D)).trans (m1_succ D 75).symm
/-- The second least after 76 steps. -/
theorem p324 (D : FVec F S1024x4096 .f32) : k0_pay324 D (m1 D 72) (m2 D 72) = (m2 D 76) := (mn (p320 D) (p322 D)).trans (m2_succ D 75).symm
/-- Rows 608..615. -/
theorem p325 (D : FVec F S1024x4096 .f32) : k0_pay325 D = (slab D 76) := slab_eq D 76 (by decide) slices_S1024x4096_o608_0_S8x4096
/-- The larger of the least and the new rows, step 76. -/
theorem p326 (D : FVec F S1024x4096 .f32) : k0_pay326 D (m1 D 72) = (hi1 D 76) := mx (p323 D) (p325 D)
/-- The least after 77 steps. -/
theorem p327 (D : FVec F S1024x4096 .f32) : k0_pay327 D (m1 D 72) = (m1 D 77) := (mn (p323 D) (p325 D)).trans (m1_succ D 76).symm
/-- The second least after 77 steps. -/
theorem p328 (D : FVec F S1024x4096 .f32) : k0_pay328 D (m1 D 72) (m2 D 72) = (m2 D 77) := (mn (p324 D) (p326 D)).trans (m2_succ D 76).symm
/-- Rows 616..623. -/
theorem p329 (D : FVec F S1024x4096 .f32) : k0_pay329 D = (slab D 77) := slab_eq D 77 (by decide) slices_S1024x4096_o616_0_S8x4096
/-- The larger of the least and the new rows, step 77. -/
theorem p330 (D : FVec F S1024x4096 .f32) : k0_pay330 D (m1 D 72) = (hi1 D 77) := mx (p327 D) (p329 D)
/-- The least after 78 steps. -/
theorem p331 (D : FVec F S1024x4096 .f32) : k0_pay331 D (m1 D 72) = (m1 D 78) := (mn (p327 D) (p329 D)).trans (m1_succ D 77).symm
/-- The second least after 78 steps. -/
theorem p332 (D : FVec F S1024x4096 .f32) : k0_pay332 D (m1 D 72) (m2 D 72) = (m2 D 78) := (mn (p328 D) (p330 D)).trans (m2_succ D 77).symm
/-- Rows 624..631. -/
theorem p333 (D : FVec F S1024x4096 .f32) : k0_pay333 D = (slab D 78) := slab_eq D 78 (by decide) slices_S1024x4096_o624_0_S8x4096
/-- The larger of the least and the new rows, step 78. -/
theorem p334 (D : FVec F S1024x4096 .f32) : k0_pay334 D (m1 D 72) = (hi1 D 78) := mx (p331 D) (p333 D)
/-- The least after 79 steps. -/
theorem p335 (D : FVec F S1024x4096 .f32) : k0_pay335 D (m1 D 72) = (m1 D 79) := (mn (p331 D) (p333 D)).trans (m1_succ D 78).symm
/-- The second least after 79 steps. -/
theorem p336 (D : FVec F S1024x4096 .f32) : k0_pay336 D (m1 D 72) (m2 D 72) = (m2 D 79) := (mn (p332 D) (p334 D)).trans (m2_succ D 78).symm
/-- Rows 632..639. -/
theorem p337 (D : FVec F S1024x4096 .f32) : k0_pay337 D = (slab D 79) := slab_eq D 79 (by decide) slices_S1024x4096_o632_0_S8x4096
/-- The larger of the least and the new rows, step 79. -/
theorem p338 (D : FVec F S1024x4096 .f32) : k0_pay338 D (m1 D 72) = (hi1 D 79) := mx (p335 D) (p337 D)
/-- The least after 80 steps. -/
theorem p339 (D : FVec F S1024x4096 .f32) : k0_pay339 D (m1 D 72) = (m1 D 80) := (mn (p335 D) (p337 D)).trans (m1_succ D 79).symm
/-- The second least after 80 steps. -/
theorem p340 (D : FVec F S1024x4096 .f32) : k0_pay340 D (m1 D 72) (m2 D 72) = (m2 D 80) := (mn (p336 D) (p338 D)).trans (m2_succ D 79).symm
/-- Rows 640..647. -/
theorem p341 (D : FVec F S1024x4096 .f32) : k0_pay341 D = (slab D 80) := slab_eq D 80 (by decide) slices_S1024x4096_o640_0_S8x4096
/-- The larger of the least and the new rows, step 80. -/
theorem p342 (D : FVec F S1024x4096 .f32) : k0_pay342 D (m1 D 72) = (hi1 D 80) := mx (p339 D) (p341 D)
/-- The least after 81 steps. -/
theorem p343 (D : FVec F S1024x4096 .f32) : k0_pay343 D (m1 D 72) = (m1 D 81) := (mn (p339 D) (p341 D)).trans (m1_succ D 80).symm
/-- The second least after 81 steps. -/
theorem p344 (D : FVec F S1024x4096 .f32) : k0_pay344 D (m1 D 72) (m2 D 72) = (m2 D 81) := (mn (p340 D) (p342 D)).trans (m2_succ D 80).symm
/-- The third least after 81 steps. -/
theorem p345 (D : FVec F S1024x4096 .f32) : k0_pay345 D (m3 D 71) (m1 D 72) (hi2 D 71) (m2 D 72) = (m3 D 81) := (mn ((mn ((mn ((mn ((mn ((mn ((mn ((mn ((mn ((mn rfl rfl).trans (m3_succ D 71).symm) (mx rfl (p310 D))).trans (m3_succ D 72).symm) (mx (p312 D) (p314 D))).trans (m3_succ D 73).symm) (mx (p316 D) (p318 D))).trans (m3_succ D 74).symm) (mx (p320 D) (p322 D))).trans (m3_succ D 75).symm) (mx (p324 D) (p326 D))).trans (m3_succ D 76).symm) (mx (p328 D) (p330 D))).trans (m3_succ D 77).symm) (mx (p332 D) (p334 D))).trans (m3_succ D 78).symm) (mx (p336 D) (p338 D))).trans (m3_succ D 79).symm) (mx (p340 D) (p342 D))).trans (m3_succ D 80).symm
/-- Rows 648..655. -/
theorem p346 (D : FVec F S1024x4096 .f32) : k0_pay346 D = (slab D 81) := slab_eq D 81 (by decide) slices_S1024x4096_o648_0_S8x4096
/-- The larger of the least and the new rows, step 81. -/
theorem p347 (D : FVec F S1024x4096 .f32) : k0_pay347 D (m1 D 72) = (hi1 D 81) := mx (p343 D) (p346 D)
/-- The least after 82 steps. -/
theorem p348 (D : FVec F S1024x4096 .f32) : k0_pay348 D (m1 D 72) = (m1 D 82) := (mn (p343 D) (p346 D)).trans (m1_succ D 81).symm
/-- The value passed on to the third least, step 81. -/
theorem p349 (D : FVec F S1024x4096 .f32) : k0_pay349 D (m1 D 72) (m2 D 72) = (hi2 D 81) := mx (p344 D) (p347 D)
/-- The second least after 82 steps. -/
theorem p350 (D : FVec F S1024x4096 .f32) : k0_pay350 D (m1 D 72) (m2 D 72) = (m2 D 82) := (mn (p344 D) (p347 D)).trans (m2_succ D 81).symm
/-- Rows 656..663. -/
theorem p351 (D : FVec F S1024x4096 .f32) : k0_pay351 D = (slab D 82) := slab_eq D 82 (by decide) slices_S1024x4096_o656_0_S8x4096
/-- The larger of the least and the new rows, step 82. -/
theorem p352 (D : FVec F S1024x4096 .f32) : k0_pay352 D (m1 D 82) = (hi1 D 82) := mx rfl (p351 D)
/-- The least after 83 steps. -/
theorem p353 (D : FVec F S1024x4096 .f32) : k0_pay353 D (m1 D 82) = (m1 D 83) := (mn rfl (p351 D)).trans (m1_succ D 82).symm
/-- The second least after 83 steps. -/
theorem p354 (D : FVec F S1024x4096 .f32) : k0_pay354 D (m1 D 82) (m2 D 82) = (m2 D 83) := (mn rfl (p352 D)).trans (m2_succ D 82).symm
/-- Rows 664..671. -/
theorem p355 (D : FVec F S1024x4096 .f32) : k0_pay355 D = (slab D 83) := slab_eq D 83 (by decide) slices_S1024x4096_o664_0_S8x4096
/-- The larger of the least and the new rows, step 83. -/
theorem p356 (D : FVec F S1024x4096 .f32) : k0_pay356 D (m1 D 82) = (hi1 D 83) := mx (p353 D) (p355 D)
/-- The least after 84 steps. -/
theorem p357 (D : FVec F S1024x4096 .f32) : k0_pay357 D (m1 D 82) = (m1 D 84) := (mn (p353 D) (p355 D)).trans (m1_succ D 83).symm
/-- The second least after 84 steps. -/
theorem p358 (D : FVec F S1024x4096 .f32) : k0_pay358 D (m1 D 82) (m2 D 82) = (m2 D 84) := (mn (p354 D) (p356 D)).trans (m2_succ D 83).symm
/-- Rows 672..679. -/
theorem p359 (D : FVec F S1024x4096 .f32) : k0_pay359 D = (slab D 84) := slab_eq D 84 (by decide) slices_S1024x4096_o672_0_S8x4096
/-- The larger of the least and the new rows, step 84. -/
theorem p360 (D : FVec F S1024x4096 .f32) : k0_pay360 D (m1 D 82) = (hi1 D 84) := mx (p357 D) (p359 D)
/-- The least after 85 steps. -/
theorem p361 (D : FVec F S1024x4096 .f32) : k0_pay361 D (m1 D 82) = (m1 D 85) := (mn (p357 D) (p359 D)).trans (m1_succ D 84).symm
/-- The second least after 85 steps. -/
theorem p362 (D : FVec F S1024x4096 .f32) : k0_pay362 D (m1 D 82) (m2 D 82) = (m2 D 85) := (mn (p358 D) (p360 D)).trans (m2_succ D 84).symm
/-- Rows 680..687. -/
theorem p363 (D : FVec F S1024x4096 .f32) : k0_pay363 D = (slab D 85) := slab_eq D 85 (by decide) slices_S1024x4096_o680_0_S8x4096
/-- The larger of the least and the new rows, step 85. -/
theorem p364 (D : FVec F S1024x4096 .f32) : k0_pay364 D (m1 D 82) = (hi1 D 85) := mx (p361 D) (p363 D)
/-- The least after 86 steps. -/
theorem p365 (D : FVec F S1024x4096 .f32) : k0_pay365 D (m1 D 82) = (m1 D 86) := (mn (p361 D) (p363 D)).trans (m1_succ D 85).symm
/-- The second least after 86 steps. -/
theorem p366 (D : FVec F S1024x4096 .f32) : k0_pay366 D (m1 D 82) (m2 D 82) = (m2 D 86) := (mn (p362 D) (p364 D)).trans (m2_succ D 85).symm
/-- Rows 688..695. -/
theorem p367 (D : FVec F S1024x4096 .f32) : k0_pay367 D = (slab D 86) := slab_eq D 86 (by decide) slices_S1024x4096_o688_0_S8x4096
/-- The larger of the least and the new rows, step 86. -/
theorem p368 (D : FVec F S1024x4096 .f32) : k0_pay368 D (m1 D 82) = (hi1 D 86) := mx (p365 D) (p367 D)
/-- The least after 87 steps. -/
theorem p369 (D : FVec F S1024x4096 .f32) : k0_pay369 D (m1 D 82) = (m1 D 87) := (mn (p365 D) (p367 D)).trans (m1_succ D 86).symm
/-- The second least after 87 steps. -/
theorem p370 (D : FVec F S1024x4096 .f32) : k0_pay370 D (m1 D 82) (m2 D 82) = (m2 D 87) := (mn (p366 D) (p368 D)).trans (m2_succ D 86).symm
/-- Rows 696..703. -/
theorem p371 (D : FVec F S1024x4096 .f32) : k0_pay371 D = (slab D 87) := slab_eq D 87 (by decide) slices_S1024x4096_o696_0_S8x4096
/-- The larger of the least and the new rows, step 87. -/
theorem p372 (D : FVec F S1024x4096 .f32) : k0_pay372 D (m1 D 82) = (hi1 D 87) := mx (p369 D) (p371 D)
/-- The least after 88 steps. -/
theorem p373 (D : FVec F S1024x4096 .f32) : k0_pay373 D (m1 D 82) = (m1 D 88) := (mn (p369 D) (p371 D)).trans (m1_succ D 87).symm
/-- The second least after 88 steps. -/
theorem p374 (D : FVec F S1024x4096 .f32) : k0_pay374 D (m1 D 82) (m2 D 82) = (m2 D 88) := (mn (p370 D) (p372 D)).trans (m2_succ D 87).symm
/-- Rows 704..711. -/
theorem p375 (D : FVec F S1024x4096 .f32) : k0_pay375 D = (slab D 88) := slab_eq D 88 (by decide) slices_S1024x4096_o704_0_S8x4096
/-- The larger of the least and the new rows, step 88. -/
theorem p376 (D : FVec F S1024x4096 .f32) : k0_pay376 D (m1 D 82) = (hi1 D 88) := mx (p373 D) (p375 D)
/-- The least after 89 steps. -/
theorem p377 (D : FVec F S1024x4096 .f32) : k0_pay377 D (m1 D 82) = (m1 D 89) := (mn (p373 D) (p375 D)).trans (m1_succ D 88).symm
/-- The second least after 89 steps. -/
theorem p378 (D : FVec F S1024x4096 .f32) : k0_pay378 D (m1 D 82) (m2 D 82) = (m2 D 89) := (mn (p374 D) (p376 D)).trans (m2_succ D 88).symm
/-- Rows 712..719. -/
theorem p379 (D : FVec F S1024x4096 .f32) : k0_pay379 D = (slab D 89) := slab_eq D 89 (by decide) slices_S1024x4096_o712_0_S8x4096
/-- The larger of the least and the new rows, step 89. -/
theorem p380 (D : FVec F S1024x4096 .f32) : k0_pay380 D (m1 D 82) = (hi1 D 89) := mx (p377 D) (p379 D)
/-- The least after 90 steps. -/
theorem p381 (D : FVec F S1024x4096 .f32) : k0_pay381 D (m1 D 82) = (m1 D 90) := (mn (p377 D) (p379 D)).trans (m1_succ D 89).symm
/-- The second least after 90 steps. -/
theorem p382 (D : FVec F S1024x4096 .f32) : k0_pay382 D (m1 D 82) (m2 D 82) = (m2 D 90) := (mn (p378 D) (p380 D)).trans (m2_succ D 89).symm
/-- Rows 720..727. -/
theorem p383 (D : FVec F S1024x4096 .f32) : k0_pay383 D = (slab D 90) := slab_eq D 90 (by decide) slices_S1024x4096_o720_0_S8x4096
/-- The larger of the least and the new rows, step 90. -/
theorem p384 (D : FVec F S1024x4096 .f32) : k0_pay384 D (m1 D 82) = (hi1 D 90) := mx (p381 D) (p383 D)
/-- The least after 91 steps. -/
theorem p385 (D : FVec F S1024x4096 .f32) : k0_pay385 D (m1 D 82) = (m1 D 91) := (mn (p381 D) (p383 D)).trans (m1_succ D 90).symm
/-- The second least after 91 steps. -/
theorem p386 (D : FVec F S1024x4096 .f32) : k0_pay386 D (m1 D 82) (m2 D 82) = (m2 D 91) := (mn (p382 D) (p384 D)).trans (m2_succ D 90).symm
/-- The third least after 91 steps. -/
theorem p387 (D : FVec F S1024x4096 .f32) : k0_pay387 D (m3 D 81) (m1 D 82) (hi2 D 81) (m2 D 82) = (m3 D 91) := (mn ((mn ((mn ((mn ((mn ((mn ((mn ((mn ((mn ((mn rfl rfl).trans (m3_succ D 81).symm) (mx rfl (p352 D))).trans (m3_succ D 82).symm) (mx (p354 D) (p356 D))).trans (m3_succ D 83).symm) (mx (p358 D) (p360 D))).trans (m3_succ D 84).symm) (mx (p362 D) (p364 D))).trans (m3_succ D 85).symm) (mx (p366 D) (p368 D))).trans (m3_succ D 86).symm) (mx (p370 D) (p372 D))).trans (m3_succ D 87).symm) (mx (p374 D) (p376 D))).trans (m3_succ D 88).symm) (mx (p378 D) (p380 D))).trans (m3_succ D 89).symm) (mx (p382 D) (p384 D))).trans (m3_succ D 90).symm
/-- Rows 728..735. -/
theorem p388 (D : FVec F S1024x4096 .f32) : k0_pay388 D = (slab D 91) := slab_eq D 91 (by decide) slices_S1024x4096_o728_0_S8x4096
/-- The larger of the least and the new rows, step 91. -/
theorem p389 (D : FVec F S1024x4096 .f32) : k0_pay389 D (m1 D 82) = (hi1 D 91) := mx (p385 D) (p388 D)
/-- The least after 92 steps. -/
theorem p390 (D : FVec F S1024x4096 .f32) : k0_pay390 D (m1 D 82) = (m1 D 92) := (mn (p385 D) (p388 D)).trans (m1_succ D 91).symm
/-- The value passed on to the third least, step 91. -/
theorem p391 (D : FVec F S1024x4096 .f32) : k0_pay391 D (m1 D 82) (m2 D 82) = (hi2 D 91) := mx (p386 D) (p389 D)
/-- The second least after 92 steps. -/
theorem p392 (D : FVec F S1024x4096 .f32) : k0_pay392 D (m1 D 82) (m2 D 82) = (m2 D 92) := (mn (p386 D) (p389 D)).trans (m2_succ D 91).symm
/-- Rows 736..743. -/
theorem p393 (D : FVec F S1024x4096 .f32) : k0_pay393 D = (slab D 92) := slab_eq D 92 (by decide) slices_S1024x4096_o736_0_S8x4096
/-- The larger of the least and the new rows, step 92. -/
theorem p394 (D : FVec F S1024x4096 .f32) : k0_pay394 D (m1 D 92) = (hi1 D 92) := mx rfl (p393 D)
/-- The least after 93 steps. -/
theorem p395 (D : FVec F S1024x4096 .f32) : k0_pay395 D (m1 D 92) = (m1 D 93) := (mn rfl (p393 D)).trans (m1_succ D 92).symm
/-- The second least after 93 steps. -/
theorem p396 (D : FVec F S1024x4096 .f32) : k0_pay396 D (m1 D 92) (m2 D 92) = (m2 D 93) := (mn rfl (p394 D)).trans (m2_succ D 92).symm
/-- Rows 744..751. -/
theorem p397 (D : FVec F S1024x4096 .f32) : k0_pay397 D = (slab D 93) := slab_eq D 93 (by decide) slices_S1024x4096_o744_0_S8x4096
/-- The larger of the least and the new rows, step 93. -/
theorem p398 (D : FVec F S1024x4096 .f32) : k0_pay398 D (m1 D 92) = (hi1 D 93) := mx (p395 D) (p397 D)
/-- The least after 94 steps. -/
theorem p399 (D : FVec F S1024x4096 .f32) : k0_pay399 D (m1 D 92) = (m1 D 94) := (mn (p395 D) (p397 D)).trans (m1_succ D 93).symm
/-- The second least after 94 steps. -/
theorem p400 (D : FVec F S1024x4096 .f32) : k0_pay400 D (m1 D 92) (m2 D 92) = (m2 D 94) := (mn (p396 D) (p398 D)).trans (m2_succ D 93).symm
/-- Rows 752..759. -/
theorem p401 (D : FVec F S1024x4096 .f32) : k0_pay401 D = (slab D 94) := slab_eq D 94 (by decide) slices_S1024x4096_o752_0_S8x4096
/-- The larger of the least and the new rows, step 94. -/
theorem p402 (D : FVec F S1024x4096 .f32) : k0_pay402 D (m1 D 92) = (hi1 D 94) := mx (p399 D) (p401 D)
/-- The least after 95 steps. -/
theorem p403 (D : FVec F S1024x4096 .f32) : k0_pay403 D (m1 D 92) = (m1 D 95) := (mn (p399 D) (p401 D)).trans (m1_succ D 94).symm
/-- The second least after 95 steps. -/
theorem p404 (D : FVec F S1024x4096 .f32) : k0_pay404 D (m1 D 92) (m2 D 92) = (m2 D 95) := (mn (p400 D) (p402 D)).trans (m2_succ D 94).symm
/-- Rows 760..767. -/
theorem p405 (D : FVec F S1024x4096 .f32) : k0_pay405 D = (slab D 95) := slab_eq D 95 (by decide) slices_S1024x4096_o760_0_S8x4096
/-- The larger of the least and the new rows, step 95. -/
theorem p406 (D : FVec F S1024x4096 .f32) : k0_pay406 D (m1 D 92) = (hi1 D 95) := mx (p403 D) (p405 D)
/-- The least after 96 steps. -/
theorem p407 (D : FVec F S1024x4096 .f32) : k0_pay407 D (m1 D 92) = (m1 D 96) := (mn (p403 D) (p405 D)).trans (m1_succ D 95).symm
/-- The second least after 96 steps. -/
theorem p408 (D : FVec F S1024x4096 .f32) : k0_pay408 D (m1 D 92) (m2 D 92) = (m2 D 96) := (mn (p404 D) (p406 D)).trans (m2_succ D 95).symm
/-- Rows 768..775. -/
theorem p409 (D : FVec F S1024x4096 .f32) : k0_pay409 D = (slab D 96) := slab_eq D 96 (by decide) slices_S1024x4096_o768_0_S8x4096
/-- The larger of the least and the new rows, step 96. -/
theorem p410 (D : FVec F S1024x4096 .f32) : k0_pay410 D (m1 D 92) = (hi1 D 96) := mx (p407 D) (p409 D)
/-- The least after 97 steps. -/
theorem p411 (D : FVec F S1024x4096 .f32) : k0_pay411 D (m1 D 92) = (m1 D 97) := (mn (p407 D) (p409 D)).trans (m1_succ D 96).symm
/-- The second least after 97 steps. -/
theorem p412 (D : FVec F S1024x4096 .f32) : k0_pay412 D (m1 D 92) (m2 D 92) = (m2 D 97) := (mn (p408 D) (p410 D)).trans (m2_succ D 96).symm
/-- Rows 776..783. -/
theorem p413 (D : FVec F S1024x4096 .f32) : k0_pay413 D = (slab D 97) := slab_eq D 97 (by decide) slices_S1024x4096_o776_0_S8x4096
/-- The larger of the least and the new rows, step 97. -/
theorem p414 (D : FVec F S1024x4096 .f32) : k0_pay414 D (m1 D 92) = (hi1 D 97) := mx (p411 D) (p413 D)
/-- The least after 98 steps. -/
theorem p415 (D : FVec F S1024x4096 .f32) : k0_pay415 D (m1 D 92) = (m1 D 98) := (mn (p411 D) (p413 D)).trans (m1_succ D 97).symm
/-- The second least after 98 steps. -/
theorem p416 (D : FVec F S1024x4096 .f32) : k0_pay416 D (m1 D 92) (m2 D 92) = (m2 D 98) := (mn (p412 D) (p414 D)).trans (m2_succ D 97).symm
/-- Rows 784..791. -/
theorem p417 (D : FVec F S1024x4096 .f32) : k0_pay417 D = (slab D 98) := slab_eq D 98 (by decide) slices_S1024x4096_o784_0_S8x4096
/-- The larger of the least and the new rows, step 98. -/
theorem p418 (D : FVec F S1024x4096 .f32) : k0_pay418 D (m1 D 92) = (hi1 D 98) := mx (p415 D) (p417 D)
/-- The least after 99 steps. -/
theorem p419 (D : FVec F S1024x4096 .f32) : k0_pay419 D (m1 D 92) = (m1 D 99) := (mn (p415 D) (p417 D)).trans (m1_succ D 98).symm
/-- The second least after 99 steps. -/
theorem p420 (D : FVec F S1024x4096 .f32) : k0_pay420 D (m1 D 92) (m2 D 92) = (m2 D 99) := (mn (p416 D) (p418 D)).trans (m2_succ D 98).symm
/-- Rows 792..799. -/
theorem p421 (D : FVec F S1024x4096 .f32) : k0_pay421 D = (slab D 99) := slab_eq D 99 (by decide) slices_S1024x4096_o792_0_S8x4096
/-- The larger of the least and the new rows, step 99. -/
theorem p422 (D : FVec F S1024x4096 .f32) : k0_pay422 D (m1 D 92) = (hi1 D 99) := mx (p419 D) (p421 D)
/-- The least after 100 steps. -/
theorem p423 (D : FVec F S1024x4096 .f32) : k0_pay423 D (m1 D 92) = (m1 D 100) := (mn (p419 D) (p421 D)).trans (m1_succ D 99).symm
/-- The second least after 100 steps. -/
theorem p424 (D : FVec F S1024x4096 .f32) : k0_pay424 D (m1 D 92) (m2 D 92) = (m2 D 100) := (mn (p420 D) (p422 D)).trans (m2_succ D 99).symm
/-- Rows 800..807. -/
theorem p425 (D : FVec F S1024x4096 .f32) : k0_pay425 D = (slab D 100) := slab_eq D 100 (by decide) slices_S1024x4096_o800_0_S8x4096
/-- The larger of the least and the new rows, step 100. -/
theorem p426 (D : FVec F S1024x4096 .f32) : k0_pay426 D (m1 D 92) = (hi1 D 100) := mx (p423 D) (p425 D)
/-- The least after 101 steps. -/
theorem p427 (D : FVec F S1024x4096 .f32) : k0_pay427 D (m1 D 92) = (m1 D 101) := (mn (p423 D) (p425 D)).trans (m1_succ D 100).symm
/-- The second least after 101 steps. -/
theorem p428 (D : FVec F S1024x4096 .f32) : k0_pay428 D (m1 D 92) (m2 D 92) = (m2 D 101) := (mn (p424 D) (p426 D)).trans (m2_succ D 100).symm
/-- The third least after 101 steps. -/
theorem p429 (D : FVec F S1024x4096 .f32) : k0_pay429 D (m3 D 91) (m1 D 92) (hi2 D 91) (m2 D 92) = (m3 D 101) := (mn ((mn ((mn ((mn ((mn ((mn ((mn ((mn ((mn ((mn rfl rfl).trans (m3_succ D 91).symm) (mx rfl (p394 D))).trans (m3_succ D 92).symm) (mx (p396 D) (p398 D))).trans (m3_succ D 93).symm) (mx (p400 D) (p402 D))).trans (m3_succ D 94).symm) (mx (p404 D) (p406 D))).trans (m3_succ D 95).symm) (mx (p408 D) (p410 D))).trans (m3_succ D 96).symm) (mx (p412 D) (p414 D))).trans (m3_succ D 97).symm) (mx (p416 D) (p418 D))).trans (m3_succ D 98).symm) (mx (p420 D) (p422 D))).trans (m3_succ D 99).symm) (mx (p424 D) (p426 D))).trans (m3_succ D 100).symm
/-- Rows 808..815. -/
theorem p430 (D : FVec F S1024x4096 .f32) : k0_pay430 D = (slab D 101) := slab_eq D 101 (by decide) slices_S1024x4096_o808_0_S8x4096
/-- The larger of the least and the new rows, step 101. -/
theorem p431 (D : FVec F S1024x4096 .f32) : k0_pay431 D (m1 D 92) = (hi1 D 101) := mx (p427 D) (p430 D)
/-- The least after 102 steps. -/
theorem p432 (D : FVec F S1024x4096 .f32) : k0_pay432 D (m1 D 92) = (m1 D 102) := (mn (p427 D) (p430 D)).trans (m1_succ D 101).symm
/-- The value passed on to the third least, step 101. -/
theorem p433 (D : FVec F S1024x4096 .f32) : k0_pay433 D (m1 D 92) (m2 D 92) = (hi2 D 101) := mx (p428 D) (p431 D)
/-- The second least after 102 steps. -/
theorem p434 (D : FVec F S1024x4096 .f32) : k0_pay434 D (m1 D 92) (m2 D 92) = (m2 D 102) := (mn (p428 D) (p431 D)).trans (m2_succ D 101).symm
/-- Rows 816..823. -/
theorem p435 (D : FVec F S1024x4096 .f32) : k0_pay435 D = (slab D 102) := slab_eq D 102 (by decide) slices_S1024x4096_o816_0_S8x4096
/-- The larger of the least and the new rows, step 102. -/
theorem p436 (D : FVec F S1024x4096 .f32) : k0_pay436 D (m1 D 102) = (hi1 D 102) := mx rfl (p435 D)
/-- The least after 103 steps. -/
theorem p437 (D : FVec F S1024x4096 .f32) : k0_pay437 D (m1 D 102) = (m1 D 103) := (mn rfl (p435 D)).trans (m1_succ D 102).symm
/-- The second least after 103 steps. -/
theorem p438 (D : FVec F S1024x4096 .f32) : k0_pay438 D (m1 D 102) (m2 D 102) = (m2 D 103) := (mn rfl (p436 D)).trans (m2_succ D 102).symm
/-- Rows 824..831. -/
theorem p439 (D : FVec F S1024x4096 .f32) : k0_pay439 D = (slab D 103) := slab_eq D 103 (by decide) slices_S1024x4096_o824_0_S8x4096
/-- The larger of the least and the new rows, step 103. -/
theorem p440 (D : FVec F S1024x4096 .f32) : k0_pay440 D (m1 D 102) = (hi1 D 103) := mx (p437 D) (p439 D)
/-- The least after 104 steps. -/
theorem p441 (D : FVec F S1024x4096 .f32) : k0_pay441 D (m1 D 102) = (m1 D 104) := (mn (p437 D) (p439 D)).trans (m1_succ D 103).symm
/-- The second least after 104 steps. -/
theorem p442 (D : FVec F S1024x4096 .f32) : k0_pay442 D (m1 D 102) (m2 D 102) = (m2 D 104) := (mn (p438 D) (p440 D)).trans (m2_succ D 103).symm
/-- Rows 832..839. -/
theorem p443 (D : FVec F S1024x4096 .f32) : k0_pay443 D = (slab D 104) := slab_eq D 104 (by decide) slices_S1024x4096_o832_0_S8x4096
/-- The larger of the least and the new rows, step 104. -/
theorem p444 (D : FVec F S1024x4096 .f32) : k0_pay444 D (m1 D 102) = (hi1 D 104) := mx (p441 D) (p443 D)
/-- The least after 105 steps. -/
theorem p445 (D : FVec F S1024x4096 .f32) : k0_pay445 D (m1 D 102) = (m1 D 105) := (mn (p441 D) (p443 D)).trans (m1_succ D 104).symm
/-- The second least after 105 steps. -/
theorem p446 (D : FVec F S1024x4096 .f32) : k0_pay446 D (m1 D 102) (m2 D 102) = (m2 D 105) := (mn (p442 D) (p444 D)).trans (m2_succ D 104).symm
/-- Rows 840..847. -/
theorem p447 (D : FVec F S1024x4096 .f32) : k0_pay447 D = (slab D 105) := slab_eq D 105 (by decide) slices_S1024x4096_o840_0_S8x4096
/-- The larger of the least and the new rows, step 105. -/
theorem p448 (D : FVec F S1024x4096 .f32) : k0_pay448 D (m1 D 102) = (hi1 D 105) := mx (p445 D) (p447 D)
/-- The least after 106 steps. -/
theorem p449 (D : FVec F S1024x4096 .f32) : k0_pay449 D (m1 D 102) = (m1 D 106) := (mn (p445 D) (p447 D)).trans (m1_succ D 105).symm
/-- The second least after 106 steps. -/
theorem p450 (D : FVec F S1024x4096 .f32) : k0_pay450 D (m1 D 102) (m2 D 102) = (m2 D 106) := (mn (p446 D) (p448 D)).trans (m2_succ D 105).symm
/-- Rows 848..855. -/
theorem p451 (D : FVec F S1024x4096 .f32) : k0_pay451 D = (slab D 106) := slab_eq D 106 (by decide) slices_S1024x4096_o848_0_S8x4096
/-- The larger of the least and the new rows, step 106. -/
theorem p452 (D : FVec F S1024x4096 .f32) : k0_pay452 D (m1 D 102) = (hi1 D 106) := mx (p449 D) (p451 D)
/-- The least after 107 steps. -/
theorem p453 (D : FVec F S1024x4096 .f32) : k0_pay453 D (m1 D 102) = (m1 D 107) := (mn (p449 D) (p451 D)).trans (m1_succ D 106).symm
/-- The second least after 107 steps. -/
theorem p454 (D : FVec F S1024x4096 .f32) : k0_pay454 D (m1 D 102) (m2 D 102) = (m2 D 107) := (mn (p450 D) (p452 D)).trans (m2_succ D 106).symm
/-- Rows 856..863. -/
theorem p455 (D : FVec F S1024x4096 .f32) : k0_pay455 D = (slab D 107) := slab_eq D 107 (by decide) slices_S1024x4096_o856_0_S8x4096
/-- The larger of the least and the new rows, step 107. -/
theorem p456 (D : FVec F S1024x4096 .f32) : k0_pay456 D (m1 D 102) = (hi1 D 107) := mx (p453 D) (p455 D)
/-- The least after 108 steps. -/
theorem p457 (D : FVec F S1024x4096 .f32) : k0_pay457 D (m1 D 102) = (m1 D 108) := (mn (p453 D) (p455 D)).trans (m1_succ D 107).symm
/-- The second least after 108 steps. -/
theorem p458 (D : FVec F S1024x4096 .f32) : k0_pay458 D (m1 D 102) (m2 D 102) = (m2 D 108) := (mn (p454 D) (p456 D)).trans (m2_succ D 107).symm
/-- Rows 864..871. -/
theorem p459 (D : FVec F S1024x4096 .f32) : k0_pay459 D = (slab D 108) := slab_eq D 108 (by decide) slices_S1024x4096_o864_0_S8x4096
/-- The larger of the least and the new rows, step 108. -/
theorem p460 (D : FVec F S1024x4096 .f32) : k0_pay460 D (m1 D 102) = (hi1 D 108) := mx (p457 D) (p459 D)
/-- The least after 109 steps. -/
theorem p461 (D : FVec F S1024x4096 .f32) : k0_pay461 D (m1 D 102) = (m1 D 109) := (mn (p457 D) (p459 D)).trans (m1_succ D 108).symm
/-- The second least after 109 steps. -/
theorem p462 (D : FVec F S1024x4096 .f32) : k0_pay462 D (m1 D 102) (m2 D 102) = (m2 D 109) := (mn (p458 D) (p460 D)).trans (m2_succ D 108).symm
/-- Rows 872..879. -/
theorem p463 (D : FVec F S1024x4096 .f32) : k0_pay463 D = (slab D 109) := slab_eq D 109 (by decide) slices_S1024x4096_o872_0_S8x4096
/-- The larger of the least and the new rows, step 109. -/
theorem p464 (D : FVec F S1024x4096 .f32) : k0_pay464 D (m1 D 102) = (hi1 D 109) := mx (p461 D) (p463 D)
/-- The least after 110 steps. -/
theorem p465 (D : FVec F S1024x4096 .f32) : k0_pay465 D (m1 D 102) = (m1 D 110) := (mn (p461 D) (p463 D)).trans (m1_succ D 109).symm
/-- The second least after 110 steps. -/
theorem p466 (D : FVec F S1024x4096 .f32) : k0_pay466 D (m1 D 102) (m2 D 102) = (m2 D 110) := (mn (p462 D) (p464 D)).trans (m2_succ D 109).symm
/-- Rows 880..887. -/
theorem p467 (D : FVec F S1024x4096 .f32) : k0_pay467 D = (slab D 110) := slab_eq D 110 (by decide) slices_S1024x4096_o880_0_S8x4096
/-- The larger of the least and the new rows, step 110. -/
theorem p468 (D : FVec F S1024x4096 .f32) : k0_pay468 D (m1 D 102) = (hi1 D 110) := mx (p465 D) (p467 D)
/-- The least after 111 steps. -/
theorem p469 (D : FVec F S1024x4096 .f32) : k0_pay469 D (m1 D 102) = (m1 D 111) := (mn (p465 D) (p467 D)).trans (m1_succ D 110).symm
/-- The second least after 111 steps. -/
theorem p470 (D : FVec F S1024x4096 .f32) : k0_pay470 D (m1 D 102) (m2 D 102) = (m2 D 111) := (mn (p466 D) (p468 D)).trans (m2_succ D 110).symm
/-- The third least after 111 steps. -/
theorem p471 (D : FVec F S1024x4096 .f32) : k0_pay471 D (m3 D 101) (m1 D 102) (hi2 D 101) (m2 D 102) = (m3 D 111) := (mn ((mn ((mn ((mn ((mn ((mn ((mn ((mn ((mn ((mn rfl rfl).trans (m3_succ D 101).symm) (mx rfl (p436 D))).trans (m3_succ D 102).symm) (mx (p438 D) (p440 D))).trans (m3_succ D 103).symm) (mx (p442 D) (p444 D))).trans (m3_succ D 104).symm) (mx (p446 D) (p448 D))).trans (m3_succ D 105).symm) (mx (p450 D) (p452 D))).trans (m3_succ D 106).symm) (mx (p454 D) (p456 D))).trans (m3_succ D 107).symm) (mx (p458 D) (p460 D))).trans (m3_succ D 108).symm) (mx (p462 D) (p464 D))).trans (m3_succ D 109).symm) (mx (p466 D) (p468 D))).trans (m3_succ D 110).symm
/-- Rows 888..895. -/
theorem p472 (D : FVec F S1024x4096 .f32) : k0_pay472 D = (slab D 111) := slab_eq D 111 (by decide) slices_S1024x4096_o888_0_S8x4096
/-- The larger of the least and the new rows, step 111. -/
theorem p473 (D : FVec F S1024x4096 .f32) : k0_pay473 D (m1 D 102) = (hi1 D 111) := mx (p469 D) (p472 D)
/-- The least after 112 steps. -/
theorem p474 (D : FVec F S1024x4096 .f32) : k0_pay474 D (m1 D 102) = (m1 D 112) := (mn (p469 D) (p472 D)).trans (m1_succ D 111).symm
/-- The value passed on to the third least, step 111. -/
theorem p475 (D : FVec F S1024x4096 .f32) : k0_pay475 D (m1 D 102) (m2 D 102) = (hi2 D 111) := mx (p470 D) (p473 D)
/-- The second least after 112 steps. -/
theorem p476 (D : FVec F S1024x4096 .f32) : k0_pay476 D (m1 D 102) (m2 D 102) = (m2 D 112) := (mn (p470 D) (p473 D)).trans (m2_succ D 111).symm
/-- Rows 896..903. -/
theorem p477 (D : FVec F S1024x4096 .f32) : k0_pay477 D = (slab D 112) := slab_eq D 112 (by decide) slices_S1024x4096_o896_0_S8x4096
/-- The larger of the least and the new rows, step 112. -/
theorem p478 (D : FVec F S1024x4096 .f32) : k0_pay478 D (m1 D 112) = (hi1 D 112) := mx rfl (p477 D)
/-- The least after 113 steps. -/
theorem p479 (D : FVec F S1024x4096 .f32) : k0_pay479 D (m1 D 112) = (m1 D 113) := (mn rfl (p477 D)).trans (m1_succ D 112).symm
/-- The second least after 113 steps. -/
theorem p480 (D : FVec F S1024x4096 .f32) : k0_pay480 D (m1 D 112) (m2 D 112) = (m2 D 113) := (mn rfl (p478 D)).trans (m2_succ D 112).symm
/-- Rows 904..911. -/
theorem p481 (D : FVec F S1024x4096 .f32) : k0_pay481 D = (slab D 113) := slab_eq D 113 (by decide) slices_S1024x4096_o904_0_S8x4096
/-- The larger of the least and the new rows, step 113. -/
theorem p482 (D : FVec F S1024x4096 .f32) : k0_pay482 D (m1 D 112) = (hi1 D 113) := mx (p479 D) (p481 D)
/-- The least after 114 steps. -/
theorem p483 (D : FVec F S1024x4096 .f32) : k0_pay483 D (m1 D 112) = (m1 D 114) := (mn (p479 D) (p481 D)).trans (m1_succ D 113).symm
/-- The second least after 114 steps. -/
theorem p484 (D : FVec F S1024x4096 .f32) : k0_pay484 D (m1 D 112) (m2 D 112) = (m2 D 114) := (mn (p480 D) (p482 D)).trans (m2_succ D 113).symm
/-- Rows 912..919. -/
theorem p485 (D : FVec F S1024x4096 .f32) : k0_pay485 D = (slab D 114) := slab_eq D 114 (by decide) slices_S1024x4096_o912_0_S8x4096
/-- The larger of the least and the new rows, step 114. -/
theorem p486 (D : FVec F S1024x4096 .f32) : k0_pay486 D (m1 D 112) = (hi1 D 114) := mx (p483 D) (p485 D)
/-- The least after 115 steps. -/
theorem p487 (D : FVec F S1024x4096 .f32) : k0_pay487 D (m1 D 112) = (m1 D 115) := (mn (p483 D) (p485 D)).trans (m1_succ D 114).symm
/-- The second least after 115 steps. -/
theorem p488 (D : FVec F S1024x4096 .f32) : k0_pay488 D (m1 D 112) (m2 D 112) = (m2 D 115) := (mn (p484 D) (p486 D)).trans (m2_succ D 114).symm
/-- Rows 920..927. -/
theorem p489 (D : FVec F S1024x4096 .f32) : k0_pay489 D = (slab D 115) := slab_eq D 115 (by decide) slices_S1024x4096_o920_0_S8x4096
/-- The larger of the least and the new rows, step 115. -/
theorem p490 (D : FVec F S1024x4096 .f32) : k0_pay490 D (m1 D 112) = (hi1 D 115) := mx (p487 D) (p489 D)
/-- The least after 116 steps. -/
theorem p491 (D : FVec F S1024x4096 .f32) : k0_pay491 D (m1 D 112) = (m1 D 116) := (mn (p487 D) (p489 D)).trans (m1_succ D 115).symm
/-- The second least after 116 steps. -/
theorem p492 (D : FVec F S1024x4096 .f32) : k0_pay492 D (m1 D 112) (m2 D 112) = (m2 D 116) := (mn (p488 D) (p490 D)).trans (m2_succ D 115).symm
/-- Rows 928..935. -/
theorem p493 (D : FVec F S1024x4096 .f32) : k0_pay493 D = (slab D 116) := slab_eq D 116 (by decide) slices_S1024x4096_o928_0_S8x4096
/-- The larger of the least and the new rows, step 116. -/
theorem p494 (D : FVec F S1024x4096 .f32) : k0_pay494 D (m1 D 112) = (hi1 D 116) := mx (p491 D) (p493 D)
/-- The least after 117 steps. -/
theorem p495 (D : FVec F S1024x4096 .f32) : k0_pay495 D (m1 D 112) = (m1 D 117) := (mn (p491 D) (p493 D)).trans (m1_succ D 116).symm
/-- The second least after 117 steps. -/
theorem p496 (D : FVec F S1024x4096 .f32) : k0_pay496 D (m1 D 112) (m2 D 112) = (m2 D 117) := (mn (p492 D) (p494 D)).trans (m2_succ D 116).symm
/-- Rows 936..943. -/
theorem p497 (D : FVec F S1024x4096 .f32) : k0_pay497 D = (slab D 117) := slab_eq D 117 (by decide) slices_S1024x4096_o936_0_S8x4096
/-- The larger of the least and the new rows, step 117. -/
theorem p498 (D : FVec F S1024x4096 .f32) : k0_pay498 D (m1 D 112) = (hi1 D 117) := mx (p495 D) (p497 D)
/-- The least after 118 steps. -/
theorem p499 (D : FVec F S1024x4096 .f32) : k0_pay499 D (m1 D 112) = (m1 D 118) := (mn (p495 D) (p497 D)).trans (m1_succ D 117).symm
/-- The second least after 118 steps. -/
theorem p500 (D : FVec F S1024x4096 .f32) : k0_pay500 D (m1 D 112) (m2 D 112) = (m2 D 118) := (mn (p496 D) (p498 D)).trans (m2_succ D 117).symm
/-- Rows 944..951. -/
theorem p501 (D : FVec F S1024x4096 .f32) : k0_pay501 D = (slab D 118) := slab_eq D 118 (by decide) slices_S1024x4096_o944_0_S8x4096
/-- The larger of the least and the new rows, step 118. -/
theorem p502 (D : FVec F S1024x4096 .f32) : k0_pay502 D (m1 D 112) = (hi1 D 118) := mx (p499 D) (p501 D)
/-- The least after 119 steps. -/
theorem p503 (D : FVec F S1024x4096 .f32) : k0_pay503 D (m1 D 112) = (m1 D 119) := (mn (p499 D) (p501 D)).trans (m1_succ D 118).symm
/-- The second least after 119 steps. -/
theorem p504 (D : FVec F S1024x4096 .f32) : k0_pay504 D (m1 D 112) (m2 D 112) = (m2 D 119) := (mn (p500 D) (p502 D)).trans (m2_succ D 118).symm
/-- Rows 952..959. -/
theorem p505 (D : FVec F S1024x4096 .f32) : k0_pay505 D = (slab D 119) := slab_eq D 119 (by decide) slices_S1024x4096_o952_0_S8x4096
/-- The larger of the least and the new rows, step 119. -/
theorem p506 (D : FVec F S1024x4096 .f32) : k0_pay506 D (m1 D 112) = (hi1 D 119) := mx (p503 D) (p505 D)
/-- The least after 120 steps. -/
theorem p507 (D : FVec F S1024x4096 .f32) : k0_pay507 D (m1 D 112) = (m1 D 120) := (mn (p503 D) (p505 D)).trans (m1_succ D 119).symm
/-- The second least after 120 steps. -/
theorem p508 (D : FVec F S1024x4096 .f32) : k0_pay508 D (m1 D 112) (m2 D 112) = (m2 D 120) := (mn (p504 D) (p506 D)).trans (m2_succ D 119).symm
/-- Rows 960..967. -/
theorem p509 (D : FVec F S1024x4096 .f32) : k0_pay509 D = (slab D 120) := slab_eq D 120 (by decide) slices_S1024x4096_o960_0_S8x4096
/-- The larger of the least and the new rows, step 120. -/
theorem p510 (D : FVec F S1024x4096 .f32) : k0_pay510 D (m1 D 112) = (hi1 D 120) := mx (p507 D) (p509 D)
/-- The least after 121 steps. -/
theorem p511 (D : FVec F S1024x4096 .f32) : k0_pay511 D (m1 D 112) = (m1 D 121) := (mn (p507 D) (p509 D)).trans (m1_succ D 120).symm
/-- The second least after 121 steps. -/
theorem p512 (D : FVec F S1024x4096 .f32) : k0_pay512 D (m1 D 112) (m2 D 112) = (m2 D 121) := (mn (p508 D) (p510 D)).trans (m2_succ D 120).symm
/-- The third least after 121 steps. -/
theorem p513 (D : FVec F S1024x4096 .f32) : k0_pay513 D (m3 D 111) (m1 D 112) (hi2 D 111) (m2 D 112) = (m3 D 121) := (mn ((mn ((mn ((mn ((mn ((mn ((mn ((mn ((mn ((mn rfl rfl).trans (m3_succ D 111).symm) (mx rfl (p478 D))).trans (m3_succ D 112).symm) (mx (p480 D) (p482 D))).trans (m3_succ D 113).symm) (mx (p484 D) (p486 D))).trans (m3_succ D 114).symm) (mx (p488 D) (p490 D))).trans (m3_succ D 115).symm) (mx (p492 D) (p494 D))).trans (m3_succ D 116).symm) (mx (p496 D) (p498 D))).trans (m3_succ D 117).symm) (mx (p500 D) (p502 D))).trans (m3_succ D 118).symm) (mx (p504 D) (p506 D))).trans (m3_succ D 119).symm) (mx (p508 D) (p510 D))).trans (m3_succ D 120).symm
/-- Rows 968..975. -/
theorem p514 (D : FVec F S1024x4096 .f32) : k0_pay514 D = (slab D 121) := slab_eq D 121 (by decide) slices_S1024x4096_o968_0_S8x4096
/-- The larger of the least and the new rows, step 121. -/
theorem p515 (D : FVec F S1024x4096 .f32) : k0_pay515 D (m1 D 112) = (hi1 D 121) := mx (p511 D) (p514 D)
/-- The least after 122 steps. -/
theorem p516 (D : FVec F S1024x4096 .f32) : k0_pay516 D (m1 D 112) = (m1 D 122) := (mn (p511 D) (p514 D)).trans (m1_succ D 121).symm
/-- The value passed on to the third least, step 121. -/
theorem p517 (D : FVec F S1024x4096 .f32) : k0_pay517 D (m1 D 112) (m2 D 112) = (hi2 D 121) := mx (p512 D) (p515 D)
/-- The second least after 122 steps. -/
theorem p518 (D : FVec F S1024x4096 .f32) : k0_pay518 D (m1 D 112) (m2 D 112) = (m2 D 122) := (mn (p512 D) (p515 D)).trans (m2_succ D 121).symm
/-- Rows 976..983. -/
theorem p519 (D : FVec F S1024x4096 .f32) : k0_pay519 D = (slab D 122) := slab_eq D 122 (by decide) slices_S1024x4096_o976_0_S8x4096
/-- The larger of the least and the new rows, step 122. -/
theorem p520 (D : FVec F S1024x4096 .f32) : k0_pay520 D (m1 D 122) = (hi1 D 122) := mx rfl (p519 D)
/-- The least after 123 steps. -/
theorem p521 (D : FVec F S1024x4096 .f32) : k0_pay521 D (m1 D 122) = (m1 D 123) := (mn rfl (p519 D)).trans (m1_succ D 122).symm
/-- The second least after 123 steps. -/
theorem p522 (D : FVec F S1024x4096 .f32) : k0_pay522 D (m1 D 122) (m2 D 122) = (m2 D 123) := (mn rfl (p520 D)).trans (m2_succ D 122).symm
/-- Rows 984..991. -/
theorem p523 (D : FVec F S1024x4096 .f32) : k0_pay523 D = (slab D 123) := slab_eq D 123 (by decide) slices_S1024x4096_o984_0_S8x4096
/-- The larger of the least and the new rows, step 123. -/
theorem p524 (D : FVec F S1024x4096 .f32) : k0_pay524 D (m1 D 122) = (hi1 D 123) := mx (p521 D) (p523 D)
/-- The least after 124 steps. -/
theorem p525 (D : FVec F S1024x4096 .f32) : k0_pay525 D (m1 D 122) = (m1 D 124) := (mn (p521 D) (p523 D)).trans (m1_succ D 123).symm
/-- The second least after 124 steps. -/
theorem p526 (D : FVec F S1024x4096 .f32) : k0_pay526 D (m1 D 122) (m2 D 122) = (m2 D 124) := (mn (p522 D) (p524 D)).trans (m2_succ D 123).symm
/-- Rows 992..999. -/
theorem p527 (D : FVec F S1024x4096 .f32) : k0_pay527 D = (slab D 124) := slab_eq D 124 (by decide) slices_S1024x4096_o992_0_S8x4096
/-- The larger of the least and the new rows, step 124. -/
theorem p528 (D : FVec F S1024x4096 .f32) : k0_pay528 D (m1 D 122) = (hi1 D 124) := mx (p525 D) (p527 D)
/-- The least after 125 steps. -/
theorem p529 (D : FVec F S1024x4096 .f32) : k0_pay529 D (m1 D 122) = (m1 D 125) := (mn (p525 D) (p527 D)).trans (m1_succ D 124).symm
/-- The second least after 125 steps. -/
theorem p530 (D : FVec F S1024x4096 .f32) : k0_pay530 D (m1 D 122) (m2 D 122) = (m2 D 125) := (mn (p526 D) (p528 D)).trans (m2_succ D 124).symm
/-- Rows 1000..1007. -/
theorem p531 (D : FVec F S1024x4096 .f32) : k0_pay531 D = (slab D 125) := slab_eq D 125 (by decide) slices_S1024x4096_o1000_0_S8x4096
/-- The larger of the least and the new rows, step 125. -/
theorem p532 (D : FVec F S1024x4096 .f32) : k0_pay532 D (m1 D 122) = (hi1 D 125) := mx (p529 D) (p531 D)
/-- The least after 126 steps. -/
theorem p533 (D : FVec F S1024x4096 .f32) : k0_pay533 D (m1 D 122) = (m1 D 126) := (mn (p529 D) (p531 D)).trans (m1_succ D 125).symm
/-- The second least after 126 steps. -/
theorem p534 (D : FVec F S1024x4096 .f32) : k0_pay534 D (m1 D 122) (m2 D 122) = (m2 D 126) := (mn (p530 D) (p532 D)).trans (m2_succ D 125).symm
/-- Rows 1008..1015. -/
theorem p535 (D : FVec F S1024x4096 .f32) : k0_pay535 D = (slab D 126) := slab_eq D 126 (by decide) slices_S1024x4096_o1008_0_S8x4096
/-- The larger of the least and the new rows, step 126. -/
theorem p536 (D : FVec F S1024x4096 .f32) : k0_pay536 D (m1 D 122) = (hi1 D 126) := mx (p533 D) (p535 D)
/-- The least after 127 steps. -/
theorem p537 (D : FVec F S1024x4096 .f32) : k0_pay537 D (m1 D 122) = (m1 D 127) := (mn (p533 D) (p535 D)).trans (m1_succ D 126).symm
/-- The second least after 127 steps. -/
theorem p538 (D : FVec F S1024x4096 .f32) : k0_pay538 D (m1 D 122) (m2 D 122) = (m2 D 127) := (mn (p534 D) (p536 D)).trans (m2_succ D 126).symm
/-- Rows 1016..1023. -/
theorem p539 (D : FVec F S1024x4096 .f32) : k0_pay539 D = (slab D 127) := slab_eq D 127 (by decide) slices_S1024x4096_o1016_0_S8x4096
/-- The larger of the least and the new rows, step 127. -/
theorem p540 (D : FVec F S1024x4096 .f32) : k0_pay540 D (m1 D 122) = (hi1 D 127) := mx (p537 D) (p539 D)
/-- The least after 128 steps. -/
theorem p541 (D : FVec F S1024x4096 .f32) : k0_pay541 D (m1 D 122) = (m1 D 128) := (mn (p537 D) (p539 D)).trans (m1_succ D 127).symm
/-- The second least after 128 steps. -/
theorem p542 (D : FVec F S1024x4096 .f32) : k0_pay542 D (m1 D 122) (m2 D 122) = (m2 D 128) := (mn (p538 D) (p540 D)).trans (m2_succ D 127).symm
/-- The third least after 128 steps. -/
theorem p543 (D : FVec F S1024x4096 .f32) : k0_pay543 D (m3 D 121) (m1 D 122) (hi2 D 121) (m2 D 122) = (m3 D 128) := (mn ((mn ((mn ((mn ((mn ((mn ((mn rfl rfl).trans (m3_succ D 121).symm) (mx rfl (p520 D))).trans (m3_succ D 122).symm) (mx (p522 D) (p524 D))).trans (m3_succ D 123).symm) (mx (p526 D) (p528 D))).trans (m3_succ D 124).symm) (mx (p530 D) (p532 D))).trans (m3_succ D 125).symm) (mx (p534 D) (p536 D))).trans (m3_succ D 126).symm) (mx (p538 D) (p540 D))).trans (m3_succ D 127).symm

end Cert.KernelIdeal.Gen
-- ==== Proof.Pick.lean ====
/- What the first call draws from its running minima: three rounds, each the least of the eight lanes' heads, the lane
   that holds it advancing to its next value; then the weights placed where the distance matrix holds a drawn value. -/
module

public import proofs.«01_k».proof.Proof.MinSteps

@[expose] public section

set_option maxRecDepth 16384

noncomputable section

namespace Cert.KernelIdeal.Gen

open Idealize.ShloMosaic Idealize.SL.Sem

variable {F : FTy → Type} [FloatOps F]

/-- The lane numbers. -/
def lanes : IVec S8x4096 32 := iota .tc S8x4096 32 [0] iota_S8x4096_d0_w32

/-- The least of the eight lanes' values. -/
def vmin (C : FVec F S8x4096 .f32) : FVec F S1x4096 .f32 :=
  shapeCast S1x4096 (multiReduction .minimumf [0] S4096 C 0x7F800000#32 reduces_S8x4096_S4096 (.inl rfl) rfl) shapeCasts_S4096_S1x4096

/-- The first lane holding the least value, 8 when none does. -/
def firstLane (C : FVec F S8x4096 .f32) : IVec S1x4096 32 :=
  shapeCast S1x4096 (multiReductionI .minsi [0] S4096
    (select (cmpf .oeq C (broadcastTo S8x4096 (vmin C) broadcasts_S1x4096_S8x4096)) lanes (broadcast S8x4096 8#32))
    2147483647#32 reduces_S8x4096_S4096 rfl) shapeCasts_S4096_S1x4096

/-- One at the first lane holding the least value, zero elsewhere. -/
def pick (C : FVec F S8x4096 .f32) : IVec S8x4096 32 :=
  select (cmpi .eq lanes (broadcastTo S8x4096 (firstLane C) broadcasts_S1x4096_S8x4096)) (broadcast S8x4096 1#32) (broadcast S8x4096 0#32)

/-- Each lane's next value: by how often it has been drawn from. -/
def head (A B C : FVec F S8x4096 .f32) (K : IVec S8x4096 32) : FVec F S8x4096 .f32 :=
  select (cmpi .eq K (broadcast S8x4096 0#32)) A (select (cmpi .eq K (broadcast S8x4096 1#32)) B C)

/-- How often each lane was drawn from after the first round. -/
def cnt1 (A : FVec F S8x4096 .f32) : IVec S8x4096 32 := addi (broadcast S8x4096 0#32) (pick A)

/-- How often each lane was drawn from after the second round. -/
def cnt2 (A B C : FVec F S8x4096 .f32) : IVec S8x4096 32 := addi (cnt1 A) (pick (head A B C (cnt1 A)))

/-- The rows of the weights. -/
def wrow0 (W : FVec F S3x4096 .f32) : FVec F S1024x4096 .f32 :=
  broadcastTo S1024x4096 (shapeCast S1x4096 (extractStridedSlice S1x4096 ![0, 0] W slices_S3x4096_o0_0_S1x4096) shapeCasts_S1x4096_S1x4096) broadcasts_S1x4096_S1024x4096
/-- The second weight down every column. -/
def wrow1 (W : FVec F S3x4096 .f32) : FVec F S1024x4096 .f32 :=
  broadcastTo S1024x4096 (shapeCast S1x4096 (extractStridedSlice S1x4096 ![1, 0] W slices_S3x4096_o1_0_S1x4096) shapeCasts_S1x4096_S1x4096) broadcasts_S1x4096_S1024x4096
/-- The third weight down every column. -/
def wrow2 (W : FVec F S3x4096 .f32) : FVec F S1024x4096 .f32 :=
  broadcastTo S1024x4096 (shapeCast S1x4096 (extractStridedSlice S1x4096 ![2, 0] W slices_S3x4096_o2_0_S1x4096) shapeCasts_S1x4096_S1x4096) broadcasts_S1x4096_S1024x4096

/-- The weights placed where the distance equals a drawn value. -/
def place (D : FVec F S1024x4096 .f32) (W : FVec F S3x4096 .f32) (V1 V2 V3 : FVec F S1x4096 .f32) : FVec F S1024x4096 .f32 :=
  select (cmpf .oeq D (broadcastTo S1024x4096 V1 broadcasts_S1x4096_S1024x4096)) (wrow0 W)
    (select (cmpf .oeq D (broadcastTo S1024x4096 V2 broadcasts_S1x4096_S1024x4096)) (wrow1 W)
      (select (cmpf .oeq D (broadcastTo S1024x4096 V3 broadcasts_S1x4096_S1024x4096)) (wrow2 W)
        (broadcast S1024x4096 (Scalar.ofBits .f32 0x00000000#32))))

/-- The drawn placement of the whole matrix. -/
def placed (D : FVec F S1024x4096 .f32) (W : FVec F S3x4096 .f32) : FVec F S1024x4096 .f32 :=
  place D W (vmin (m1 D 128)) (vmin (head (m1 D 128) (m2 D 128) (m3 D 128) (cnt1 (m1 D 128))))
    (vmin (head (m1 D 128) (m2 D 128) (m3 D 128) (cnt2 (m1 D 128) (m2 D 128) (m3 D 128))))

/-- The first drawn value as printed. -/
theorem p544 (D : FVec F S1024x4096 .f32) : k0_pay544 D (m1 D 122) = vmin (m1 D 128) := by
  rw [← p541 D]; rfl

/-- The counters after the first round as printed. -/
theorem p545 (D : FVec F S1024x4096 .f32) : k0_pay545 D (m1 D 122) = cnt1 (m1 D 128) := by
  rw [← p541 D]; rfl

/-- The placement as printed. -/
theorem p546 (D : FVec F S1024x4096 .f32) (W : FVec F S3x4096 .f32) (A B C : FVec F S8x4096 .f32) :
    k0_pay546 D W A B C lanes (vmin A) (cnt1 A) 0#32
      = place D W (vmin A) (vmin (head A B C (cnt1 A))) (vmin (head A B C (cnt2 A B C))) := rfl

end Cert.KernelIdeal.Gen
-- ==== Proof.Words0.lean ====
/- The first call's two results at a grid point, as functions of the blocks its six inputs hold there. -/
module

public import proofs.«01_k».proof.Proof.Pick
public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.SL.Sem Idealize.ShloMosaic.Tactic
open Idealize.ShloMosaic.Pipeline (Dat)

variable {F : FTy → Type} [FloatOps F]

/-- Two zero offsets. -/
theorem hz2 : (![0, 0] : Fin 2 → Nat) = fun _ => 0 := funext fun a => by fin_cases a <;> rfl
/-- Three zero offsets. -/
theorem hz3 : (![0, 0, 0] : Fin 3 → Nat) = fun _ => 0 := funext fun a => by fin_cases a <;> rfl

/-- The placement of the weights, from the query points and the known points. -/
def spread (x0 : Vec F S1x3x4096 .f32) (x1 : Vec F S1x3x1024 .f32) : FVec F S1024x4096 .f32 :=
  placed (k0_pay2 x0 x1) (k0_pay3 x0 x1)

/-- The first result's block is the layer's values there at the first point. -/
theorem out0_A_6_eq (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x128x4096 .f32) (harg4 : arg4.IsWhole) (arg5 : Memref sig .tc .vmem S1x256x1024 .f32) (harg5 : arg5.IsWhole) (arg6 : Memref sig .tc .vmem S256x384 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S8x256 .f32) (harg9 : arg9.IsWhole) (hc0 : cond0_0 i) (x0 : Vec F S1x3x4096 .f32) (x1 : Vec F S1x3x1024 .f32) (x2 : Vec F S1x128x4096 .f32) (x3 : Vec F S1x256x1024 .f32) (x4 : Vec F S256x384 .f32) (x5 : Vec F S256x1 .f32) :
    out0_A_6 c i arg2 harg2 arg3 harg3 arg4 harg4 arg5 harg5 arg6 harg6 arg7 harg7 arg8 harg8 arg9 harg9 hc0 x0 x1 x2 x3 x4 x5 = k0_pay548 (spread x0 x1) x3 x2 x4 x5 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x3x4096) hz3, View.ld_unit_zero (S := S1x3x1024) hz3, View.ld_unit_zero (S := S1x128x4096) hz3, View.ld_unit_zero (S := S1x256x1024) hz3, View.ld_unit_zero (S := S256x384) hz2, View.ld_unit_zero (S := S256x1) hz2, View.ld_unit_zero (S := S8x256) hz2]
  simp only [p9, p12, p13, p14, p51, p54, p55, p56, p93, p96, p97, p98, p135, p138, p139, p140, p177, p180, p181, p182, p219, p222, p223, p224, p261, p264, p265, p266, p303, p306, p307, p308, p345, p348, p349, p350, p387, p390, p391, p392, p429, p432, p433, p434, p471, p474, p475, p476, p513, p516, p517, p518, p541, p542, p543, p544, p545]
  rfl

/-- The second result's block is the running sums at the first point. -/
theorem out0_A_7_eq (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x128x4096 .f32) (harg4 : arg4.IsWhole) (arg5 : Memref sig .tc .vmem S1x256x1024 .f32) (harg5 : arg5.IsWhole) (arg6 : Memref sig .tc .vmem S256x384 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S8x256 .f32) (harg9 : arg9.IsWhole) (hc0 : cond0_0 i) (x0 : Vec F S1x3x4096 .f32) (x1 : Vec F S1x3x1024 .f32) (x2 : Vec F S1x128x4096 .f32) (x3 : Vec F S1x256x1024 .f32) (x4 : Vec F S256x384 .f32) (x5 : Vec F S256x1 .f32) :
    out0_A_7 c i arg2 harg2 arg3 harg3 arg4 harg4 arg5 harg5 arg6 harg6 arg7 harg7 arg8 harg8 arg9 harg9 hc0 x0 x1 x2 x3 x4 x5 = k0_pay550 (spread x0 x1) x3 x2 x4 x5 k0_pay549 := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S8x256) hz2, View.readCov_unit_zero (S := S8x256) _ hz2]
  simp only [View.readAt_eq_ld, harg2.read_unread, harg3.read_unread, harg4.read_unread, harg5.read_unread, harg6.read_unread, harg7.read_unread, harg8.read_unread, harg9.read_unread, View.ld_unit_zero (S := S1x3x4096) hz3, View.ld_unit_zero (S := S1x3x1024) hz3, View.ld_unit_zero (S := S1x128x4096) hz3, View.ld_unit_zero (S := S1x256x1024) hz3, View.ld_unit_zero (S := S256x384) hz2, View.ld_unit_zero (S := S256x1) hz2, View.ld_unit_zero (S := S8x256) hz2]
  simp only [p9, p12, p13, p14, p51, p54, p55, p56, p93, p96, p97, p98, p135, p138, p139, p140, p177, p180, p181, p182, p219, p222, p223, p224, p261, p264, p265, p266, p303, p306, p307, p308, p345, p348, p349, p350, p387, p390, p391, p392, p429, p432, p433, p434, p471, p474, p475, p476, p513, p516, p517, p518, p541, p542, p543, p544, p545]
  rfl

/-- The first result's block is the layer's values there at a later point. -/
theorem out0_B_6_eq (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x128x4096 .f32) (harg4 : arg4.IsWhole) (arg5 : Memref sig .tc .vmem S1x256x1024 .f32) (harg5 : arg5.IsWhole) (arg6 : Memref sig .tc .vmem S256x384 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S8x256 .f32) (harg9 : arg9.IsWhole) (hc0 : ¬cond0_0 i) (x0 : Vec F S1x3x4096 .f32) (x1 : Vec F S1x3x1024 .f32) (x2 : Vec F S1x128x4096 .f32) (x3 : Vec F S1x256x1024 .f32) (x4 : Vec F S256x384 .f32) (x5 : Vec F S256x1 .f32) (xo7 : Vec F S8x256 .f32) :
    out0_B_6 c i arg2 harg2 arg3 harg3 arg4 harg4 arg5 harg5 arg6 harg6 arg7 harg7 arg8 harg8 arg9 harg9 hc0 x0 x1 x2 x3 x4 x5 xo7 = k0_pay548 (spread x0 x1) x3 x2 x4 x5 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xo7)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x3x4096) hz3, View.ld_unit_zero (S := S1x3x1024) hz3, View.ld_unit_zero (S := S1x128x4096) hz3, View.ld_unit_zero (S := S1x256x1024) hz3, View.ld_unit_zero (S := S256x384) hz2, View.ld_unit_zero (S := S256x1) hz2, View.ld_unit_zero (S := S8x256) hz2]
  simp only [p9, p12, p13, p14, p51, p54, p55, p56, p93, p96, p97, p98, p135, p138, p139, p140, p177, p180, p181, p182, p219, p222, p223, p224, p261, p264, p265, p266, p303, p306, p307, p308, p345, p348, p349, p350, p387, p390, p391, p392, p429, p432, p433, p434, p471, p474, p475, p476, p513, p516, p517, p518, p541, p542, p543, p544, p545]
  rfl

/-- The second result's block is the running sums at a later point. -/
theorem out0_B_7_eq (c : Dev nD) (i : grid0.Coords) (arg2 : Memref sig .tc .vmem S1x3x4096 .f32) (harg2 : arg2.IsWhole) (arg3 : Memref sig .tc .vmem S1x3x1024 .f32) (harg3 : arg3.IsWhole) (arg4 : Memref sig .tc .vmem S1x128x4096 .f32) (harg4 : arg4.IsWhole) (arg5 : Memref sig .tc .vmem S1x256x1024 .f32) (harg5 : arg5.IsWhole) (arg6 : Memref sig .tc .vmem S256x384 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S8x256 .f32) (harg9 : arg9.IsWhole) (hc0 : ¬cond0_0 i) (x0 : Vec F S1x3x4096 .f32) (x1 : Vec F S1x3x1024 .f32) (x2 : Vec F S1x128x4096 .f32) (x3 : Vec F S1x256x1024 .f32) (x4 : Vec F S256x384 .f32) (x5 : Vec F S256x1 .f32) (xo7 : Vec F S8x256 .f32) :
    out0_B_7 c i arg2 harg2 arg3 harg3 arg4 harg4 arg5 harg5 arg6 harg6 arg7 harg7 arg8 harg8 arg9 harg9 hc0 x0 x1 x2 x3 x4 x5 xo7 = k0_pay550 (spread x0 x1) x3 x2 x4 x5 xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 xo7)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x3x4096) hz3, View.ld_unit_zero (S := S1x3x1024) hz3, View.ld_unit_zero (S := S1x128x4096) hz3, View.ld_unit_zero (S := S1x256x1024) hz3, View.ld_unit_zero (S := S256x384) hz2, View.ld_unit_zero (S := S256x1) hz2, View.ld_unit_zero (S := S8x256) hz2]
  simp only [p9, p12, p13, p14, p51, p54, p55, p56, p93, p96, p97, p98, p135, p138, p139, p140, p177, p180, p181, p182, p219, p222, p223, p224, p261, p264, p265, p266, p303, p306, p307, p308, p345, p348, p349, p350, p387, p390, p391, p392, p429, p432, p433, p434, p471, p474, p475, p476, p513, p516, p517, p518, p541, p542, p543, p544, p545]
  rfl

end Cert.KernelIdeal.Gen
-- ==== Proof.Words1.lean ====
/- The second call's two results at a grid point, as functions of the blocks its six inputs hold there. -/
module

public import proofs.«01_k».proof.Proof.Words0
public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Gen

open Idealize.ShloMosaic Idealize.ShloMosaic.TcCoe Idealize.SL.Sem Idealize.ShloMosaic.Tactic
open Idealize.ShloMosaic.Pipeline (Dat)

variable {F : FTy → Type} [FloatOps F]

/-- A row of the running sums: row `k` of the eight. -/
def strow (k : ℕ) (hk : k < 8) (x : Vec F S8x256 .f32) : Vec F S1x256 .f32 :=
  fun j => x (fun a => match a with | ⟨0, _⟩ => ⟨k, hk⟩ | ⟨1, _⟩ => ⟨(j 1).val, (j 1).isLt⟩)

/-- Loading one row from row 0 on is the first row. -/
theorem ld_row0 (x : Vec F S8x256 .f32) : View.ld x r2_0 = strow 0 (by decide) x := by
  funext j
  show x _ = x _
  congr 1
  funext a
  have h0 : (j 0 : Nat) < 1 := (j 0).isLt
  match a with
  | ⟨0, _⟩ => apply Fin.ext; show 0 + 1 * (j 0 : Nat) = 0; omega
  | ⟨1, _⟩ => apply Fin.ext; show 0 + 1 * (j 1 : Nat) = (j 1 : Nat); omega

/-- Loading one row from row 1 on is the second row. -/
theorem ld_row1 (x : Vec F S8x256 .f32) : View.ld x r2_1 = strow 1 (by decide) x := by
  funext j
  show x _ = x _
  congr 1
  funext a
  have h0 : (j 0 : Nat) < 1 := (j 0).isLt
  match a with
  | ⟨0, _⟩ => apply Fin.ext; show 1 + 1 * (j 0 : Nat) = 1; omega
  | ⟨1, _⟩ => apply Fin.ext; show 0 + 1 * (j 1 : Nat) = (j 1 : Nat); omega

/-- The second call's values at a point, before the last cast. -/
def lay2 (x0 : Vec F S1x256x4096 .bf16) (x1 : Vec F S8x256 .f32) (x2 x3 : Vec F S1x256 .f32) (x4 : Vec F S256x256 .f32) (x5 : Vec F S256x1 .f32) : FVec F S256x4096 .f32 :=
  k1_pay4 (strow 0 (by decide) x1) (strow 1 (by decide) x1) x2 x3 x0 x4 x5

/-- The first result's block is the layer's values there at the first point. -/
theorem out1_A_6_eq (c : Dev nD) (i : grid1.Coords) (arg2 : Memref sig .tc .vmem S1x256x4096 .bf16) (harg2 : arg2.IsWhole) (arg3 : Memref sig .tc .vmem S8x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S8x256 .f32) (harg9 : arg9.IsWhole) (hc0 : cond1_0 i) (x0 : Vec F S1x256x4096 .bf16) (x1 : Vec F S8x256 .f32) (x2 : Vec F S1x256 .f32) (x3 : Vec F S1x256 .f32) (x4 : Vec F S256x256 .f32) (x5 : Vec F S256x1 .f32) :
    out1_A_6 c i arg2 harg2 arg3 harg3 arg4 harg4 arg5 harg5 arg6 harg6 arg7 harg7 arg8 harg8 arg9 harg9 hc0 x0 x1 x2 x3 x4 x5 = k1_pay1 (truncf .bf16 (lay2 x0 x1 x2 x3 x4 x5) bitsLt_bf16_f32) := by
  unfold out1_A_6
  rw [View.read_writes_eq_canon _ _ _ (cover1_A_6 c i arg2 harg2 arg3 harg3 arg4 harg4 arg5 harg5 arg6 harg6 arg7 harg7 arg8 harg8 arg9 harg9 hc0 x0 x1 x2 x3 x4 x5)]
  unfold kernelRun1_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x256x4096) hz3, View.ld_unit_zero (S := S256x256) hz2, View.ld_unit_zero (S := S1x256) hz2, View.ld_unit_zero (S := S256x1) hz2, View.ld_unit_zero (S := S8x256) hz2]
  simp only [lay2, ← ld_row0, ← ld_row1] <;> rfl

/-- The second result's block is the running sums at the first point. -/
theorem out1_A_7_eq (c : Dev nD) (i : grid1.Coords) (arg2 : Memref sig .tc .vmem S1x256x4096 .bf16) (harg2 : arg2.IsWhole) (arg3 : Memref sig .tc .vmem S8x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S8x256 .f32) (harg9 : arg9.IsWhole) (hc0 : cond1_0 i) (x0 : Vec F S1x256x4096 .bf16) (x1 : Vec F S8x256 .f32) (x2 : Vec F S1x256 .f32) (x3 : Vec F S1x256 .f32) (x4 : Vec F S256x256 .f32) (x5 : Vec F S256x1 .f32) :
    out1_A_7 c i arg2 harg2 arg3 harg3 arg4 harg4 arg5 harg5 arg6 harg6 arg7 harg7 arg8 harg8 arg9 harg9 hc0 x0 x1 x2 x3 x4 x5 = k1_pay3 (lay2 x0 x1 x2 x3 x4 x5) k1_pay2 := by
  unfold out1_A_7
  rw [View.read_writes_eq_canon _ _ _ (cover1_A_7 c i arg2 harg2 arg3 harg3 arg4 harg4 arg5 harg5 arg6 harg6 arg7 harg7 arg8 harg8 arg9 harg9 hc0 x0 x1 x2 x3 x4 x5)]
  unfold kernelRun1_A
  dsimp only
  sl_unfold_words
  rw [View.canon_cons_unit_zero (S := S8x256) hz2, View.readCov_unit_zero (S := S8x256) _ hz2]
  simp only [View.readAt_eq_ld, harg2.read_unread, harg3.read_unread, harg4.read_unread, harg5.read_unread, harg6.read_unread, harg7.read_unread, harg8.read_unread, harg9.read_unread, View.ld_unit_zero (S := S1x256x4096) hz3, View.ld_unit_zero (S := S256x256) hz2, View.ld_unit_zero (S := S1x256) hz2, View.ld_unit_zero (S := S256x1) hz2, View.ld_unit_zero (S := S8x256) hz2]
  simp only [lay2, ← ld_row0, ← ld_row1] <;> rfl

/-- The first result's block is the layer's values there at a later point. -/
theorem out1_B_6_eq (c : Dev nD) (i : grid1.Coords) (arg2 : Memref sig .tc .vmem S1x256x4096 .bf16) (harg2 : arg2.IsWhole) (arg3 : Memref sig .tc .vmem S8x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S8x256 .f32) (harg9 : arg9.IsWhole) (hc0 : ¬cond1_0 i) (x0 : Vec F S1x256x4096 .bf16) (x1 : Vec F S8x256 .f32) (x2 : Vec F S1x256 .f32) (x3 : Vec F S1x256 .f32) (x4 : Vec F S256x256 .f32) (x5 : Vec F S256x1 .f32) (xo7 : Vec F S8x256 .f32) :
    out1_B_6 c i arg2 harg2 arg3 harg3 arg4 harg4 arg5 harg5 arg6 harg6 arg7 harg7 arg8 harg8 arg9 harg9 hc0 x0 x1 x2 x3 x4 x5 xo7 = k1_pay1 (truncf .bf16 (lay2 x0 x1 x2 x3 x4 x5) bitsLt_bf16_f32) := by
  unfold out1_B_6
  rw [View.read_writes_eq_canon _ _ _ (cover1_B_6 c i arg2 harg2 arg3 harg3 arg4 harg4 arg5 harg5 arg6 harg6 arg7 harg7 arg8 harg8 arg9 harg9 hc0 x0 x1 x2 x3 x4 x5 xo7)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S1x256x4096) hz3, View.ld_unit_zero (S := S256x256) hz2, View.ld_unit_zero (S := S1x256) hz2, View.ld_unit_zero (S := S256x1) hz2, View.ld_unit_zero (S := S8x256) hz2]
  simp only [lay2, ← ld_row0, ← ld_row1] <;> rfl

/-- The second result's block is the running sums at a later point. -/
theorem out1_B_7_eq (c : Dev nD) (i : grid1.Coords) (arg2 : Memref sig .tc .vmem S1x256x4096 .bf16) (harg2 : arg2.IsWhole) (arg3 : Memref sig .tc .vmem S8x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S8x256 .f32) (harg9 : arg9.IsWhole) (hc0 : ¬cond1_0 i) (x0 : Vec F S1x256x4096 .bf16) (x1 : Vec F S8x256 .f32) (x2 : Vec F S1x256 .f32) (x3 : Vec F S1x256 .f32) (x4 : Vec F S256x256 .f32) (x5 : Vec F S256x1 .f32) (xo7 : Vec F S8x256 .f32) :
    out1_B_7 c i arg2 harg2 arg3 harg3 arg4 harg4 arg5 harg5 arg6 harg6 arg7 harg7 arg8 harg8 arg9 harg9 hc0 x0 x1 x2 x3 x4 x5 xo7 = k1_pay3 (lay2 x0 x1 x2 x3 x4 x5) xo7 := by
  unfold out1_B_7
  rw [View.read_writes_eq_canon _ _ _ (cover1_B_7 c i arg2 harg2 arg3 harg3 arg4 harg4 arg5 harg5 arg6 harg6 arg7 harg7 arg8 harg8 arg9 harg9 hc0 x0 x1 x2 x3 x4 x5 xo7)]
  unfold kernelRun1_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S1x256x4096) hz3, View.ld_unit_zero (S := S256x256) hz2, View.ld_unit_zero (S := S1x256) hz2, View.ld_unit_zero (S := S256x1) hz2, View.ld_unit_zero (S := S8x256) hz2]
  simp only [lay2, ← ld_row0, ← ld_row1] <;> rfl

/-- The third call's block at a point. -/
theorem out2_4_eq (x0 : Vec F S1x256x4096 .bf16) (x1 : Vec F S8x256 .f32) (x2 x3 : Vec F S1x256 .f32) :
    out2_4 x0 x1 x2 x3 = k2_pay1 (strow 0 (by decide) x1) (strow 1 (by decide) x1) x2 x3 x0 := by
  unfold out2_4
  rw [View.canon_unit_zero hz3, View.ld_unit_zero (S := S1x256x4096) hz3, View.ld_unit_zero (S := S1x256) hz2, View.ld_unit_zero (S := S1x256) hz2, ld_row0, ld_row1]

end Cert.KernelIdeal.Gen
-- ==== Proof.Arrays.lean ====
/- The three calls' blocks and arrays: what each grid point reads of its operands, and what each result array ends
   holding — every batch entry's block for the layers' values, the last point's running sums for the statistics. -/
module

public import proofs.«01_k».proof.Proof.Words1
public import Idealize.ShloMosaic.Lib.Pointwise

@[expose] public section

set_option maxRecDepth 16384

noncomputable section

namespace Cert.KernelIdeal.Gen

open Idealize.ShloMosaic Idealize.ShloMosaic.Pointwise Idealize.ShloMosaic.TcCoe

variable {F : FTy → Type} [FloatOps F]
variable (V : (c : Dev nD) → (b : Ref sig .tc) → Buf (Elt F) ((c : Thread nD τ).loc b))

/-- One batch entry of a three-axis array, as a block with a leading axis of one. -/
def bat {α : Type} {a b : ℕ} (X : (⟨3, ![8, a, b]⟩ : Shape).Idx → α) (t : Fin 8) : (⟨3, ![1, a, b]⟩ : Shape).Idx → α :=
  fun j => X (ix3 t (j 1) (j 2))

/-- The batch entry of a point of the first call's grid. -/
abbrev gp0 (t : Fin cfg0.N) : Fin 8 := ⟨t.val, lt_of_lt_of_eq t.isLt N_0⟩
/-- The batch entry of a point of the second call's grid. -/
abbrev gp1 (t : Fin cfg1.N) : Fin 8 := ⟨t.val, lt_of_lt_of_eq t.isLt N_1⟩
/-- The batch entry of a point of the third call's grid. -/
abbrev gp2 (t : Fin cfg2.N) : Fin 8 := ⟨t.val, lt_of_lt_of_eq t.isLt N_2⟩

/-- The block index of call 0's window 0 at a point. -/
theorem idx0_0 : ∀ t : Fin grid0.N, win0_0.index t 0 = t.val ∧ win0_0.index t 1 = 0 ∧ win0_0.index t 2 = 0 := by decide +kernel

/-- What call 0's window 0 reads at a point. -/
theorem blk0_0 (c : Dev nD) (t : Fin cfg0.N) : iblk0 V c 0 t = bat (V c main_arg0) (gp0 t) := by
  funext j
  show V c main_arg0 ((win0_0.rect t).emb j) = V c main_arg0 _
  congr 1
  funext a
  apply Fin.ext
  refine (Pipeline.Window.rect_emb_val win0_0 t j a).trans ?_
  obtain ⟨h0, h1, h2⟩ := idx0_0 t
  have hj : (j 0 : Nat) < 1 := (j 0).isLt
  match a with
  | ⟨0, _⟩ => show win0_0.index t 0 * 1 + (j 0 : Nat) = t.val; rw [h0]; omega
  | ⟨1, _⟩ => show win0_0.index t 1 * 3 + (j 1 : Nat) = (j 1 : Nat); rw [h1]; omega
  | ⟨2, _⟩ => show win0_0.index t 2 * 4096 + (j 2 : Nat) = (j 2 : Nat); rw [h2]; omega

/-- The block index of call 0's window 1 at a point. -/
theorem idx0_1 : ∀ t : Fin grid0.N, win0_1.index t 0 = t.val ∧ win0_1.index t 1 = 0 ∧ win0_1.index t 2 = 0 := by decide +kernel

/-- What call 0's window 1 reads at a point. -/
theorem blk0_1 (c : Dev nD) (t : Fin cfg0.N) : iblk0 V c 1 t = bat (V c main_arg1) (gp0 t) := by
  funext j
  show V c main_arg1 ((win0_1.rect t).emb j) = V c main_arg1 _
  congr 1
  funext a
  apply Fin.ext
  refine (Pipeline.Window.rect_emb_val win0_1 t j a).trans ?_
  obtain ⟨h0, h1, h2⟩ := idx0_1 t
  have hj : (j 0 : Nat) < 1 := (j 0).isLt
  match a with
  | ⟨0, _⟩ => show win0_1.index t 0 * 1 + (j 0 : Nat) = t.val; rw [h0]; omega
  | ⟨1, _⟩ => show win0_1.index t 1 * 3 + (j 1 : Nat) = (j 1 : Nat); rw [h1]; omega
  | ⟨2, _⟩ => show win0_1.index t 2 * 1024 + (j 2 : Nat) = (j 2 : Nat); rw [h2]; omega

/-- The block index of call 0's window 2 at a point. -/
theorem idx0_2 : ∀ t : Fin grid0.N, win0_2.index t 0 = t.val ∧ win0_2.index t 1 = 0 ∧ win0_2.index t 2 = 0 := by decide +kernel

/-- What call 0's window 2 reads at a point. -/
theorem blk0_2 (c : Dev nD) (t : Fin cfg0.N) : iblk0 V c 2 t = bat (V c main_arg2) (gp0 t) := by
  funext j
  show V c main_arg2 ((win0_2.rect t).emb j) = V c main_arg2 _
  congr 1
  funext a
  apply Fin.ext
  refine (Pipeline.Window.rect_emb_val win0_2 t j a).trans ?_
  obtain ⟨h0, h1, h2⟩ := idx0_2 t
  have hj : (j 0 : Nat) < 1 := (j 0).isLt
  match a with
  | ⟨0, _⟩ => show win0_2.index t 0 * 1 + (j 0 : Nat) = t.val; rw [h0]; omega
  | ⟨1, _⟩ => show win0_2.index t 1 * 128 + (j 1 : Nat) = (j 1 : Nat); rw [h1]; omega
  | ⟨2, _⟩ => show win0_2.index t 2 * 4096 + (j 2 : Nat) = (j 2 : Nat); rw [h2]; omega

/-- The block index of call 0's window 3 at a point. -/
theorem idx0_3 : ∀ t : Fin grid0.N, win0_3.index t 0 = t.val ∧ win0_3.index t 1 = 0 ∧ win0_3.index t 2 = 0 := by decide +kernel

/-- What call 0's window 3 reads at a point. -/
theorem blk0_3 (c : Dev nD) (t : Fin cfg0.N) : iblk0 V c 3 t = bat (V c main_arg3) (gp0 t) := by
  funext j
  show V c main_arg3 ((win0_3.rect t).emb j) = V c main_arg3 _
  congr 1
  funext a
  apply Fin.ext
  refine (Pipeline.Window.rect_emb_val win0_3 t j a).trans ?_
  obtain ⟨h0, h1, h2⟩ := idx0_3 t
  have hj : (j 0 : Nat) < 1 := (j 0).isLt
  match a with
  | ⟨0, _⟩ => show win0_3.index t 0 * 1 + (j 0 : Nat) = t.val; rw [h0]; omega
  | ⟨1, _⟩ => show win0_3.index t 1 * 256 + (j 1 : Nat) = (j 1 : Nat); rw [h1]; omega
  | ⟨2, _⟩ => show win0_3.index t 2 * 1024 + (j 2 : Nat) = (j 2 : Nat); rw [h2]; omega

/-- The block index of call 0's window 4 at a point. -/
theorem idx0_4 : ∀ t : Fin grid0.N, win0_4.index t 0 = 0 ∧ win0_4.index t 1 = 0 := by decide +kernel

/-- What call 0's window 4 reads at a point. -/
theorem blk0_4 (c : Dev nD) (t : Fin cfg0.N) : iblk0 V c 4 t = V c main_arg4 := by
  funext j
  show V c main_arg4 ((win0_4.rect t).emb j) = V c main_arg4 _
  congr 1
  funext a
  apply Fin.ext
  refine (Pipeline.Window.rect_emb_val win0_4 t j a).trans ?_
  obtain ⟨h0, h1⟩ := idx0_4 t
  match a with
  | ⟨0, _⟩ => show win0_4.index t 0 * 256 + (j 0 : Nat) = (j 0 : Nat); rw [h0]; omega
  | ⟨1, _⟩ => show win0_4.index t 1 * 384 + (j 1 : Nat) = (j 1 : Nat); rw [h1]; omega

/-- The block index of call 0's window 5 at a point. -/
theorem idx0_5 : ∀ t : Fin grid0.N, win0_5.index t 0 = 0 ∧ win0_5.index t 1 = 0 := by decide +kernel

/-- What call 0's window 5 reads at a point. -/
theorem blk0_5 (c : Dev nD) (t : Fin cfg0.N) : iblk0 V c 5 t = V c main_call0_v0 := by
  funext j
  show V c main_call0_v0 ((win0_5.rect t).emb j) = V c main_call0_v0 _
  congr 1
  funext a
  apply Fin.ext
  refine (Pipeline.Window.rect_emb_val win0_5 t j a).trans ?_
  obtain ⟨h0, h1⟩ := idx0_5 t
  match a with
  | ⟨0, _⟩ => show win0_5.index t 0 * 256 + (j 0 : Nat) = (j 0 : Nat); rw [h0]; omega
  | ⟨1, _⟩ => show win0_5.index t 1 * 1 + (j 1 : Nat) = (j 1 : Nat); rw [h1]; omega

/-- The block index of call 0's window 6 at a point. -/
theorem idx0_6 : ∀ t : Fin grid0.N, win0_6.index t 0 = t.val ∧ win0_6.index t 1 = 0 ∧ win0_6.index t 2 = 0 := by decide +kernel

/-- The block index of call 0's window 7 at a point. -/
theorem idx0_7 : ∀ t : Fin grid0.N, win0_7.index t 0 = 0 ∧ win0_7.index t 1 = 0 := by decide +kernel

/-- The block index of call 1's window 0 at a point. -/
theorem idx1_0 : ∀ t : Fin grid1.N, win1_0.index t 0 = t.val ∧ win1_0.index t 1 = 0 ∧ win1_0.index t 2 = 0 := by decide +kernel

/-- What call 1's window 0 reads at a point. -/
theorem blk1_0 (c : Dev nD) (t : Fin cfg1.N) : iblk1 V c 0 t = bat (V c main_call0_v6_0) (gp1 t) := by
  funext j
  show V c main_call0_v6_0 ((win1_0.rect t).emb j) = V c main_call0_v6_0 _
  congr 1
  funext a
  apply Fin.ext
  refine (Pipeline.Window.rect_emb_val win1_0 t j a).trans ?_
  obtain ⟨h0, h1, h2⟩ := idx1_0 t
  have hj : (j 0 : Nat) < 1 := (j 0).isLt
  match a with
  | ⟨0, _⟩ => show win1_0.index t 0 * 1 + (j 0 : Nat) = t.val; rw [h0]; omega
  | ⟨1, _⟩ => show win1_0.index t 1 * 256 + (j 1 : Nat) = (j 1 : Nat); rw [h1]; omega
  | ⟨2, _⟩ => show win1_0.index t 2 * 4096 + (j 2 : Nat) = (j 2 : Nat); rw [h2]; omega

/-- The block index of call 1's window 1 at a point. -/
theorem idx1_1 : ∀ t : Fin grid1.N, win1_1.index t 0 = 0 ∧ win1_1.index t 1 = 0 := by decide +kernel

/-- What call 1's window 1 reads at a point. -/
theorem blk1_1 (c : Dev nD) (t : Fin cfg1.N) : iblk1 V c 1 t = V c main_call0_v6_1 := by
  funext j
  show V c main_call0_v6_1 ((win1_1.rect t).emb j) = V c main_call0_v6_1 _
  congr 1
  funext a
  apply Fin.ext
  refine (Pipeline.Window.rect_emb_val win1_1 t j a).trans ?_
  obtain ⟨h0, h1⟩ := idx1_1 t
  match a with
  | ⟨0, _⟩ => show win1_1.index t 0 * 8 + (j 0 : Nat) = (j 0 : Nat); rw [h0]; omega
  | ⟨1, _⟩ => show win1_1.index t 1 * 256 + (j 1 : Nat) = (j 1 : Nat); rw [h1]; omega

/-- The block index of call 1's window 2 at a point. -/
theorem idx1_2 : ∀ t : Fin grid1.N, win1_2.index t 0 = 0 ∧ win1_2.index t 1 = 0 := by decide +kernel

/-- What call 1's window 2 reads at a point. -/
theorem blk1_2 (c : Dev nD) (t : Fin cfg1.N) : iblk1 V c 2 t = V c main_call0_v2 := by
  funext j
  show V c main_call0_v2 ((win1_2.rect t).emb j) = V c main_call0_v2 _
  congr 1
  funext a
  apply Fin.ext
  refine (Pipeline.Window.rect_emb_val win1_2 t j a).trans ?_
  obtain ⟨h0, h1⟩ := idx1_2 t
  match a with
  | ⟨0, _⟩ => show win1_2.index t 0 * 1 + (j 0 : Nat) = (j 0 : Nat); rw [h0]; omega
  | ⟨1, _⟩ => show win1_2.index t 1 * 256 + (j 1 : Nat) = (j 1 : Nat); rw [h1]; omega

/-- The block index of call 1's window 3 at a point. -/
theorem idx1_3 : ∀ t : Fin grid1.N, win1_3.index t 0 = 0 ∧ win1_3.index t 1 = 0 := by decide +kernel

/-- What call 1's window 3 reads at a point. -/
theorem blk1_3 (c : Dev nD) (t : Fin cfg1.N) : iblk1 V c 3 t = V c main_call0_v3 := by
  funext j
  show V c main_call0_v3 ((win1_3.rect t).emb j) = V c main_call0_v3 _
  congr 1
  funext a
  apply Fin.ext
  refine (Pipeline.Window.rect_emb_val win1_3 t j a).trans ?_
  obtain ⟨h0, h1⟩ := idx1_3 t
  match a with
  | ⟨0, _⟩ => show win1_3.index t 0 * 1 + (j 0 : Nat) = (j 0 : Nat); rw [h0]; omega
  | ⟨1, _⟩ => show win1_3.index t 1 * 256 + (j 1 : Nat) = (j 1 : Nat); rw [h1]; omega

/-- The block index of call 1's window 4 at a point. -/
theorem idx1_4 : ∀ t : Fin grid1.N, win1_4.index t 0 = 0 ∧ win1_4.index t 1 = 0 := by decide +kernel

/-- What call 1's window 4 reads at a point. -/
theorem blk1_4 (c : Dev nD) (t : Fin cfg1.N) : iblk1 V c 4 t = V c main_arg8 := by
  funext j
  show V c main_arg8 ((win1_4.rect t).emb j) = V c main_arg8 _
  congr 1
  funext a
  apply Fin.ext
  refine (Pipeline.Window.rect_emb_val win1_4 t j a).trans ?_
  obtain ⟨h0, h1⟩ := idx1_4 t
  match a with
  | ⟨0, _⟩ => show win1_4.index t 0 * 256 + (j 0 : Nat) = (j 0 : Nat); rw [h0]; omega
  | ⟨1, _⟩ => show win1_4.index t 1 * 256 + (j 1 : Nat) = (j 1 : Nat); rw [h1]; omega

/-- The block index of call 1's window 5 at a point. -/
theorem idx1_5 : ∀ t : Fin grid1.N, win1_5.index t 0 = 0 ∧ win1_5.index t 1 = 0 := by decide +kernel

/-- What call 1's window 5 reads at a point. -/
theorem blk1_5 (c : Dev nD) (t : Fin cfg1.N) : iblk1 V c 5 t = V c main_call0_v1 := by
  funext j
  show V c main_call0_v1 ((win1_5.rect t).emb j) = V c main_call0_v1 _
  congr 1
  funext a
  apply Fin.ext
  refine (Pipeline.Window.rect_emb_val win1_5 t j a).trans ?_
  obtain ⟨h0, h1⟩ := idx1_5 t
  match a with
  | ⟨0, _⟩ => show win1_5.index t 0 * 256 + (j 0 : Nat) = (j 0 : Nat); rw [h0]; omega
  | ⟨1, _⟩ => show win1_5.index t 1 * 1 + (j 1 : Nat) = (j 1 : Nat); rw [h1]; omega

/-- The block index of call 1's window 6 at a point. -/
theorem idx1_6 : ∀ t : Fin grid1.N, win1_6.index t 0 = t.val ∧ win1_6.index t 1 = 0 ∧ win1_6.index t 2 = 0 := by decide +kernel

/-- The block index of call 1's window 7 at a point. -/
theorem idx1_7 : ∀ t : Fin grid1.N, win1_7.index t 0 = 0 ∧ win1_7.index t 1 = 0 := by decide +kernel

/-- The block index of call 2's window 0 at a point. -/
theorem idx2_0 : ∀ t : Fin grid2.N, win2_0.index t 0 = t.val ∧ win2_0.index t 1 = 0 ∧ win2_0.index t 2 = 0 := by decide +kernel

/-- What call 2's window 0 reads at a point. -/
theorem blk2_0 (c : Dev nD) (t : Fin cfg2.N) : iblk2 V c 0 t = bat (V c main_call0_v7_0) (gp2 t) := by
  funext j
  show V c main_call0_v7_0 ((win2_0.rect t).emb j) = V c main_call0_v7_0 _
  congr 1
  funext a
  apply Fin.ext
  refine (Pipeline.Window.rect_emb_val win2_0 t j a).trans ?_
  obtain ⟨h0, h1, h2⟩ := idx2_0 t
  have hj : (j 0 : Nat) < 1 := (j 0).isLt
  match a with
  | ⟨0, _⟩ => show win2_0.index t 0 * 1 + (j 0 : Nat) = t.val; rw [h0]; omega
  | ⟨1, _⟩ => show win2_0.index t 1 * 256 + (j 1 : Nat) = (j 1 : Nat); rw [h1]; omega
  | ⟨2, _⟩ => show win2_0.index t 2 * 4096 + (j 2 : Nat) = (j 2 : Nat); rw [h2]; omega

/-- The block index of call 2's window 1 at a point. -/
theorem idx2_1 : ∀ t : Fin grid2.N, win2_1.index t 0 = 0 ∧ win2_1.index t 1 = 0 := by decide +kernel

/-- What call 2's window 1 reads at a point. -/
theorem blk2_1 (c : Dev nD) (t : Fin cfg2.N) : iblk2 V c 1 t = V c main_call0_v7_1 := by
  funext j
  show V c main_call0_v7_1 ((win2_1.rect t).emb j) = V c main_call0_v7_1 _
  congr 1
  funext a
  apply Fin.ext
  refine (Pipeline.Window.rect_emb_val win2_1 t j a).trans ?_
  obtain ⟨h0, h1⟩ := idx2_1 t
  match a with
  | ⟨0, _⟩ => show win2_1.index t 0 * 8 + (j 0 : Nat) = (j 0 : Nat); rw [h0]; omega
  | ⟨1, _⟩ => show win2_1.index t 1 * 256 + (j 1 : Nat) = (j 1 : Nat); rw [h1]; omega

/-- The block index of call 2's window 2 at a point. -/
theorem idx2_2 : ∀ t : Fin grid2.N, win2_2.index t 0 = 0 ∧ win2_2.index t 1 = 0 := by decide +kernel

/-- What call 2's window 2 reads at a point. -/
theorem blk2_2 (c : Dev nD) (t : Fin cfg2.N) : iblk2 V c 2 t = V c main_call0_v4 := by
  funext j
  show V c main_call0_v4 ((win2_2.rect t).emb j) = V c main_call0_v4 _
  congr 1
  funext a
  apply Fin.ext
  refine (Pipeline.Window.rect_emb_val win2_2 t j a).trans ?_
  obtain ⟨h0, h1⟩ := idx2_2 t
  match a with
  | ⟨0, _⟩ => show win2_2.index t 0 * 1 + (j 0 : Nat) = (j 0 : Nat); rw [h0]; omega
  | ⟨1, _⟩ => show win2_2.index t 1 * 256 + (j 1 : Nat) = (j 1 : Nat); rw [h1]; omega

/-- The block index of call 2's window 3 at a point. -/
theorem idx2_3 : ∀ t : Fin grid2.N, win2_3.index t 0 = 0 ∧ win2_3.index t 1 = 0 := by decide +kernel

/-- What call 2's window 3 reads at a point. -/
theorem blk2_3 (c : Dev nD) (t : Fin cfg2.N) : iblk2 V c 3 t = V c main_call0_v5 := by
  funext j
  show V c main_call0_v5 ((win2_3.rect t).emb j) = V c main_call0_v5 _
  congr 1
  funext a
  apply Fin.ext
  refine (Pipeline.Window.rect_emb_val win2_3 t j a).trans ?_
  obtain ⟨h0, h1⟩ := idx2_3 t
  match a with
  | ⟨0, _⟩ => show win2_3.index t 0 * 1 + (j 0 : Nat) = (j 0 : Nat); rw [h0]; omega
  | ⟨1, _⟩ => show win2_3.index t 1 * 256 + (j 1 : Nat) = (j 1 : Nat); rw [h1]; omega

/-- The block index of call 2's window 4 at a point. -/
theorem idx2_4 : ∀ t : Fin grid2.N, win2_4.index t 0 = t.val ∧ win2_4.index t 1 = 0 ∧ win2_4.index t 2 = 0 := by decide +kernel

/-- The first call's values: each batch entry's block at its own point. -/
theorem arr0_6 (c : Dev nD) : (dat0 V c).arrAt 6 cfg0.N
    = fun i => (dat0 V c).after 6 ⟨(i 0).val, lt_of_lt_of_eq (i 0).isLt N_0.symm⟩ (ix3 0 (i 1) (i 2)) := by
  refine (dat0 V c).arrAt_eq_of_cover 6 _ (fun t _ => ?_) (fun i => ?_)
  · show (cfg0.win 6).cut (grid0.coords t) ((dat0 V c).after 6 t) = _
    funext j
    have hj : (j 0 : Nat) < 1 := (j 0).isLt
    obtain ⟨h0, h1, h2⟩ := idx0_6 t
    have e0 : (((win0_6.rect t).emb j) 0 : Nat) = t.val := by
      refine (Pipeline.Window.rect_emb_val win0_6 t j 0).trans ?_
      show win0_6.index t 0 * 1 + (j 0 : Nat) = _; rw [h0]; omega
    have e1 : (((win0_6.rect t).emb j) 1 : Nat) = (j 1 : Nat) := by
      refine (Pipeline.Window.rect_emb_val win0_6 t j 1).trans ?_
      show win0_6.index t 1 * 256 + (j 1 : Nat) = _; rw [h1]; omega
    have e2 : (((win0_6.rect t).emb j) 2 : Nat) = (j 2 : Nat) := by
      refine (Pipeline.Window.rect_emb_val win0_6 t j 2).trans ?_
      show win0_6.index t 2 * 4096 + (j 2 : Nat) = _; rw [h2]; omega
    show (dat0 V c).after 6 t j = (dat0 V c).after 6 ⟨(((win0_6.rect t).emb j) 0 : Nat), _⟩ (ix3 0 (((win0_6.rect t).emb j) 1) (((win0_6.rect t).emb j) 2))
    congr 1
    · exact Fin.ext e0.symm
    · funext a
      apply Fin.ext
      match a with
      | ⟨0, _⟩ => show (j 0 : Nat) = 0; omega
      | ⟨1, _⟩ => exact e1.symm
      | ⟨2, _⟩ => exact e2.symm
  · refine ⟨⟨(i 0).val, lt_of_lt_of_eq (i 0).isLt N_0.symm⟩, flush0_6 _, ?_⟩
    generalize ht : (⟨(i 0).val, lt_of_lt_of_eq (i 0).isLt N_0.symm⟩ : Fin cfg0.N) = t
    have ht' : t.val = (i 0 : Nat) := by rw [← ht]
    show i ∈ ((View.whole main_call0_v6_0).slice (win0_6.rect t)).set
    rw [View.set_slice_whole, Rect.mem_set_unit]
    obtain ⟨h0, h1, h2⟩ := idx0_6 t
    have i1 : (i 1 : Nat) < 256 := (i 1).isLt
    have i2 : (i 2 : Nat) < 4096 := (i 2).isLt
    intro a
    match a with
    | ⟨0, _⟩ => show win0_6.index t 0 * 1 ≤ (i 0 : Nat) ∧ (i 0 : Nat) < win0_6.index t 0 * 1 + 1; rw [h0]; omega
    | ⟨1, _⟩ => show win0_6.index t 1 * 256 ≤ (i 1 : Nat) ∧ (i 1 : Nat) < win0_6.index t 1 * 256 + 256; rw [h1]; omega
    | ⟨2, _⟩ => show win0_6.index t 2 * 4096 ≤ (i 2 : Nat) ∧ (i 2 : Nat) < win0_6.index t 2 * 4096 + 4096; rw [h2]; omega

/-- The first call's statistics: what the last point left. -/
theorem arr0_7 (c : Dev nD) : (dat0 V c).arrAt 7 cfg0.N = (dat0 V c).after 7 ⟨7, lt_of_lt_of_eq (by decide) N_0.symm⟩ := by
  refine (dat0 V c).arrAt_eq_of_cover 7 _ (fun t hf => ?_) (fun i => ?_)
  · have h7 : t.val % 8 = 7 := (flush0_7 t).mp hf
    have hlt : t.val < 8 := lt_of_lt_of_eq t.isLt N_0
    have ht : t = ⟨7, lt_of_lt_of_eq (by decide) N_0.symm⟩ := Fin.ext (by show t.val = 7; omega)
    subst ht
    show (cfg0.win 7).cut (grid0.coords _) ((dat0 V c).after 7 _) = _
    funext j
    show (dat0 V c).after 7 _ j = (dat0 V c).after 7 _ ((win0_7.rect _).emb j)
    congr 1
    funext a
    apply Fin.ext
    refine Eq.symm ((Pipeline.Window.rect_emb_val win0_7 _ j a).trans ?_)
    obtain ⟨h0, h1⟩ := idx0_7 ⟨7, lt_of_lt_of_eq (by decide) N_0.symm⟩
    match a with
    | ⟨0, _⟩ => show win0_7.index _ 0 * 8 + (j 0 : Nat) = (j 0 : Nat); rw [h0]; omega
    | ⟨1, _⟩ => show win0_7.index _ 1 * 256 + (j 1 : Nat) = (j 1 : Nat); rw [h1]; omega
  · refine ⟨⟨7, lt_of_lt_of_eq (by decide) N_0.symm⟩, (flush0_7 _).mpr rfl, ?_⟩
    generalize (⟨7, lt_of_lt_of_eq (by decide) N_0.symm⟩ : Fin cfg0.N) = t
    show i ∈ ((View.whole main_call0_v6_1).slice (win0_7.rect t)).set
    rw [View.set_slice_whole, Rect.mem_set_unit]
    obtain ⟨h0, h1⟩ := idx0_7 t
    have i0 : (i 0 : Nat) < 8 := (i 0).isLt
    have i1 : (i 1 : Nat) < 256 := (i 1).isLt
    intro a
    match a with
    | ⟨0, _⟩ => show win0_7.index t 0 * 8 ≤ (i 0 : Nat) ∧ (i 0 : Nat) < win0_7.index t 0 * 8 + 8; rw [h0]; omega
    | ⟨1, _⟩ => show win0_7.index t 1 * 256 ≤ (i 1 : Nat) ∧ (i 1 : Nat) < win0_7.index t 1 * 256 + 256; rw [h1]; omega

/-- The second call's values: each batch entry's block at its own point. -/
theorem arr1_6 (c : Dev nD) : (dat1 V c).arrAt 6 cfg1.N
    = fun i => (dat1 V c).after 6 ⟨(i 0).val, lt_of_lt_of_eq (i 0).isLt N_1.symm⟩ (ix3 0 (i 1) (i 2)) := by
  refine (dat1 V c).arrAt_eq_of_cover 6 _ (fun t _ => ?_) (fun i => ?_)
  · show (cfg1.win 6).cut (grid1.coords t) ((dat1 V c).after 6 t) = _
    funext j
    have hj : (j 0 : Nat) < 1 := (j 0).isLt
    obtain ⟨h0, h1, h2⟩ := idx1_6 t
    have e0 : (((win1_6.rect t).emb j) 0 : Nat) = t.val := by
      refine (Pipeline.Window.rect_emb_val win1_6 t j 0).trans ?_
      show win1_6.index t 0 * 1 + (j 0 : Nat) = _; rw [h0]; omega
    have e1 : (((win1_6.rect t).emb j) 1 : Nat) = (j 1 : Nat) := by
      refine (Pipeline.Window.rect_emb_val win1_6 t j 1).trans ?_
      show win1_6.index t 1 * 256 + (j 1 : Nat) = _; rw [h1]; omega
    have e2 : (((win1_6.rect t).emb j) 2 : Nat) = (j 2 : Nat) := by
      refine (Pipeline.Window.rect_emb_val win1_6 t j 2).trans ?_
      show win1_6.index t 2 * 4096 + (j 2 : Nat) = _; rw [h2]; omega
    show (dat1 V c).after 6 t j = (dat1 V c).after 6 ⟨(((win1_6.rect t).emb j) 0 : Nat), _⟩ (ix3 0 (((win1_6.rect t).emb j) 1) (((win1_6.rect t).emb j) 2))
    congr 1
    · exact Fin.ext e0.symm
    · funext a
      apply Fin.ext
      match a with
      | ⟨0, _⟩ => show (j 0 : Nat) = 0; omega
      | ⟨1, _⟩ => exact e1.symm
      | ⟨2, _⟩ => exact e2.symm
  · refine ⟨⟨(i 0).val, lt_of_lt_of_eq (i 0).isLt N_1.symm⟩, flush1_6 _, ?_⟩
    generalize ht : (⟨(i 0).val, lt_of_lt_of_eq (i 0).isLt N_1.symm⟩ : Fin cfg1.N) = t
    have ht' : t.val = (i 0 : Nat) := by rw [← ht]
    show i ∈ ((View.whole main_call0_v7_0).slice (win1_6.rect t)).set
    rw [View.set_slice_whole, Rect.mem_set_unit]
    obtain ⟨h0, h1, h2⟩ := idx1_6 t
    have i1 : (i 1 : Nat) < 256 := (i 1).isLt
    have i2 : (i 2 : Nat) < 4096 := (i 2).isLt
    intro a
    match a with
    | ⟨0, _⟩ => show win1_6.index t 0 * 1 ≤ (i 0 : Nat) ∧ (i 0 : Nat) < win1_6.index t 0 * 1 + 1; rw [h0]; omega
    | ⟨1, _⟩ => show win1_6.index t 1 * 256 ≤ (i 1 : Nat) ∧ (i 1 : Nat) < win1_6.index t 1 * 256 + 256; rw [h1]; omega
    | ⟨2, _⟩ => show win1_6.index t 2 * 4096 ≤ (i 2 : Nat) ∧ (i 2 : Nat) < win1_6.index t 2 * 4096 + 4096; rw [h2]; omega

/-- The second call's statistics: what the last point left. -/
theorem arr1_7 (c : Dev nD) : (dat1 V c).arrAt 7 cfg1.N = (dat1 V c).after 7 ⟨7, lt_of_lt_of_eq (by decide) N_1.symm⟩ := by
  refine (dat1 V c).arrAt_eq_of_cover 7 _ (fun t hf => ?_) (fun i => ?_)
  · have h7 : t.val % 8 = 7 := (flush1_7 t).mp hf
    have hlt : t.val < 8 := lt_of_lt_of_eq t.isLt N_1
    have ht : t = ⟨7, lt_of_lt_of_eq (by decide) N_1.symm⟩ := Fin.ext (by show t.val = 7; omega)
    subst ht
    show (cfg1.win 7).cut (grid1.coords _) ((dat1 V c).after 7 _) = _
    funext j
    show (dat1 V c).after 7 _ j = (dat1 V c).after 7 _ ((win1_7.rect _).emb j)
    congr 1
    funext a
    apply Fin.ext
    refine Eq.symm ((Pipeline.Window.rect_emb_val win1_7 _ j a).trans ?_)
    obtain ⟨h0, h1⟩ := idx1_7 ⟨7, lt_of_lt_of_eq (by decide) N_1.symm⟩
    match a with
    | ⟨0, _⟩ => show win1_7.index _ 0 * 8 + (j 0 : Nat) = (j 0 : Nat); rw [h0]; omega
    | ⟨1, _⟩ => show win1_7.index _ 1 * 256 + (j 1 : Nat) = (j 1 : Nat); rw [h1]; omega
  · refine ⟨⟨7, lt_of_lt_of_eq (by decide) N_1.symm⟩, (flush1_7 _).mpr rfl, ?_⟩
    generalize (⟨7, lt_of_lt_of_eq (by decide) N_1.symm⟩ : Fin cfg1.N) = t
    show i ∈ ((View.whole main_call0_v7_1).slice (win1_7.rect t)).set
    rw [View.set_slice_whole, Rect.mem_set_unit]
    obtain ⟨h0, h1⟩ := idx1_7 t
    have i0 : (i 0 : Nat) < 8 := (i 0).isLt
    have i1 : (i 1 : Nat) < 256 := (i 1).isLt
    intro a
    match a with
    | ⟨0, _⟩ => show win1_7.index t 0 * 8 ≤ (i 0 : Nat) ∧ (i 0 : Nat) < win1_7.index t 0 * 8 + 8; rw [h0]; omega
    | ⟨1, _⟩ => show win1_7.index t 1 * 256 ≤ (i 1 : Nat) ∧ (i 1 : Nat) < win1_7.index t 1 * 256 + 256; rw [h1]; omega

/-- The third call's values: each batch entry's block at its own point. -/
theorem arr2_4 (c : Dev nD) : (dat2 V c).arrAt 4 cfg2.N
    = fun i => (dat2 V c).after 4 ⟨(i 0).val, lt_of_lt_of_eq (i 0).isLt N_2.symm⟩ (ix3 0 (i 1) (i 2)) := by
  refine (dat2 V c).arrAt_eq_of_cover 4 _ (fun t _ => ?_) (fun i => ?_)
  · show (cfg2.win 4).cut (grid2.coords t) ((dat2 V c).after 4 t) = _
    funext j
    have hj : (j 0 : Nat) < 1 := (j 0).isLt
    obtain ⟨h0, h1, h2⟩ := idx2_4 t
    have e0 : (((win2_4.rect t).emb j) 0 : Nat) = t.val := by
      refine (Pipeline.Window.rect_emb_val win2_4 t j 0).trans ?_
      show win2_4.index t 0 * 1 + (j 0 : Nat) = _; rw [h0]; omega
    have e1 : (((win2_4.rect t).emb j) 1 : Nat) = (j 1 : Nat) := by
      refine (Pipeline.Window.rect_emb_val win2_4 t j 1).trans ?_
      show win2_4.index t 1 * 256 + (j 1 : Nat) = _; rw [h1]; omega
    have e2 : (((win2_4.rect t).emb j) 2 : Nat) = (j 2 : Nat) := by
      refine (Pipeline.Window.rect_emb_val win2_4 t j 2).trans ?_
      show win2_4.index t 2 * 4096 + (j 2 : Nat) = _; rw [h2]; omega
    show (dat2 V c).after 4 t j = (dat2 V c).after 4 ⟨(((win2_4.rect t).emb j) 0 : Nat), _⟩ (ix3 0 (((win2_4.rect t).emb j) 1) (((win2_4.rect t).emb j) 2))
    congr 1
    · exact Fin.ext e0.symm
    · funext a
      apply Fin.ext
      match a with
      | ⟨0, _⟩ => show (j 0 : Nat) = 0; omega
      | ⟨1, _⟩ => exact e1.symm
      | ⟨2, _⟩ => exact e2.symm
  · refine ⟨⟨(i 0).val, lt_of_lt_of_eq (i 0).isLt N_2.symm⟩, flush2_4 _, ?_⟩
    generalize ht : (⟨(i 0).val, lt_of_lt_of_eq (i 0).isLt N_2.symm⟩ : Fin cfg2.N) = t
    have ht' : t.val = (i 0 : Nat) := by rw [← ht]
    show i ∈ ((View.whole main_v0).slice (win2_4.rect t)).set
    rw [View.set_slice_whole, Rect.mem_set_unit]
    obtain ⟨h0, h1, h2⟩ := idx2_4 t
    have i1 : (i 1 : Nat) < 256 := (i 1).isLt
    have i2 : (i 2 : Nat) < 4096 := (i 2).isLt
    intro a
    match a with
    | ⟨0, _⟩ => show win2_4.index t 0 * 1 ≤ (i 0 : Nat) ∧ (i 0 : Nat) < win2_4.index t 0 * 1 + 1; rw [h0]; omega
    | ⟨1, _⟩ => show win2_4.index t 1 * 256 ≤ (i 1 : Nat) ∧ (i 1 : Nat) < win2_4.index t 1 * 256 + 256; rw [h1]; omega
    | ⟨2, _⟩ => show win2_4.index t 2 * 4096 ≤ (i 2 : Nat) ∧ (i 2 : Nat) < win2_4.index t 2 * 4096 + 4096; rw [h2]; omega

end Cert.KernelIdeal.Gen
-- ==== Proof.Calls.lean ====
/- The three calls' values over the extended reals: what each result array ends holding, entry by entry, from the
   arrays a call finds — the statistics as sums over the batch and the points. -/
module

public import proofs.«01_k».proof.Proof.Arrays
public import Idealize.ShloMosaic.Lib.Pointwise

@[expose] public section

set_option maxRecDepth 16384

noncomputable section

namespace Cert.KernelIdeal.Gen

open Idealize.ShloMosaic Idealize.ShloMosaic.Pointwise Idealize.ShloMosaic.TcCoe

variable (V : (c : Dev nD) → (b : Ref sig .tc) → Buf (Elt Ideal) ((c : Thread nD τ).loc b))

/-- The first layer's values of one batch entry. -/
def val0 (c : Dev nD) (b : Fin 8) : FVec Ideal S256x4096 .f32 :=
  k0_pay547 (spread (bat (V c main_arg0) b) (bat (V c main_arg1) b)) (bat (V c main_arg3) b) (bat (V c main_arg2) b) (V c main_arg4) (V c main_call0_v0)

/-- The second layer's values of one batch entry. -/
def val1 (c : Dev nD) (b : Fin 8) : FVec Ideal S256x4096 .f32 :=
  lay2 (bat (V c main_call0_v6_0) b) (V c main_call0_v6_1) (V c main_call0_v2) (V c main_call0_v3) (V c main_arg8) (V c main_call0_v1)

/-- The first call's block of values at a point. -/
theorem aft0_6 (c : Dev nD) (t : Fin cfg0.N) (o : Fin 256) (n : Fin 4096) :
    (dat0 V c).after 6 t (ix3 0 o n) = val0 V c (gp0 t) (ix2 o n) := by
  have key : (dat0 V c).after 6 t = k0_pay548 (spread (bat (V c main_arg0) (gp0 t)) (bat (V c main_arg1) (gp0 t))) (bat (V c main_arg3) (gp0 t)) (bat (V c main_arg2) (gp0 t)) (V c main_arg4) (V c main_call0_v0) := by
    rw [after0_6]
    by_cases h : t.val % 8 = 0
    · rw [outsAt0_A V c t h, out0_A_6_eq, blk0_0, blk0_1, blk0_2, blk0_3, blk0_4, blk0_5]
    · rw [outsAt0_B V c t h, out0_B_6_eq, blk0_0, blk0_1, blk0_2, blk0_3, blk0_4, blk0_5]
  rw [key]
  pointwise [k0_pay548, val0]

/-- The second call's block of values at a point. -/
theorem aft1_6 (c : Dev nD) (t : Fin cfg1.N) (o : Fin 256) (n : Fin 4096) :
    (dat1 V c).after 6 t (ix3 0 o n) = val1 V c (gp1 t) (ix2 o n) := by
  have key : (dat1 V c).after 6 t = k1_pay1 (truncf .bf16 (val1 V c (gp1 t)) bitsLt_bf16_f32) := by
    rw [after1_6]
    by_cases h : t.val % 8 = 0
    · rw [outsAt1_A V c t h, out1_A_6_eq, blk1_0, blk1_1, blk1_2, blk1_3, blk1_4, blk1_5, val1]
    · rw [outsAt1_B V c t h, out1_B_6_eq, blk1_0, blk1_1, blk1_2, blk1_3, blk1_4, blk1_5, val1]
  rw [key]
  pointwise [k1_pay1]

/-- The first call's values. -/
theorem fin0_6 (c : Dev nD) (b : Fin 8) (o : Fin 256) (n : Fin 4096) :
    (dat0 V c).arrAt 6 cfg0.N (ix3 b o n) = val0 V c b (ix2 o n) := by
  rw [arr0_6]; exact aft0_6 V c _ o n

/-- The second call's values. -/
theorem fin1_6 (c : Dev nD) (b : Fin 8) (o : Fin 256) (n : Fin 4096) :
    (dat1 V c).arrAt 6 cfg1.N (ix3 b o n) = val1 V c b (ix2 o n) := by
  rw [arr1_6]; exact aft1_6 V c _ o n

/-- The third call's values. -/
theorem fin2_4 (c : Dev nD) (b : Fin 8) (o : Fin 256) (n : Fin 4096) :
    (dat2 V c).arrAt 4 cfg2.N (ix3 b o n)
      = k2_pay1 (strow 0 (by decide) (V c main_call0_v7_1)) (strow 1 (by decide) (V c main_call0_v7_1)) (V c main_call0_v4) (V c main_call0_v5)
          (bat (V c main_call0_v7_0) b) (ix3 0 o n) := by
  rw [arr2_4]
  show (dat2 V c).after 4 _ (ix3 0 o n) = _
  rw [after2_4, out2_4_eq, blk2_0, blk2_1, blk2_2, blk2_3]
  rfl

/-- A sum of blocks below a bound that may pass the number of batch entries. -/
def upTo (f : Fin 8 → EReal) (n : ℕ) : EReal := ∑ t ∈ Finset.range n, if h : t < 8 then f ⟨t, h⟩ else 0

/-- One more block. -/
theorem upTo_succ (f : Fin 8 → EReal) (n : ℕ) (h : n < 8) : upTo f (n + 1) = upTo f n + f ⟨n, h⟩ := by
  unfold upTo; rw [Finset.sum_range_succ, dif_pos h]

/-- All the blocks. -/
theorem upTo_all (f : Fin 8 → EReal) : upTo f 8 = ∑ b, f b := by
  unfold upTo; rw [Finset.sum_range]; exact Finset.sum_congr rfl fun b _ => dif_pos b.isLt

/-- One point's running sums, first row. -/
theorem step0_row0 (c : Dev nD) (b : Fin 8) (x : Vec Ideal S8x256 .f32) (o : Fin 256) :
    k0_pay550 (spread (bat (V c main_arg0) b) (bat (V c main_arg1) b)) (bat (V c main_arg3) b) (bat (V c main_arg2) b) (V c main_arg4) (V c main_call0_v0) x (ix2 0 o) = x (ix2 0 o) + ∑ n, val0 V c b (ix2 o n) := by
  pointwise [k0_pay550]
  rfl

/-- One point's running sums, second row. -/
theorem step0_row1 (c : Dev nD) (b : Fin 8) (x : Vec Ideal S8x256 .f32) (o : Fin 256) :
    k0_pay550 (spread (bat (V c main_arg0) b) (bat (V c main_arg1) b)) (bat (V c main_arg3) b) (bat (V c main_arg2) b) (V c main_arg4) (V c main_call0_v0) x (ix2 1 o) = x (ix2 1 o) + ∑ n, val0 V c b (ix2 o n) * val0 V c b (ix2 o n) := by
  pointwise [k0_pay550]
  rfl

/-- The running sums after a point. -/
theorem st0 (c : Dev nD) (o : Fin 256) : ∀ (n : ℕ) (h : n < cfg0.N),
    (outsAt0 V c n h).2 (ix2 0 o) = upTo (fun b => ∑ n, val0 V c b (ix2 o n)) (n + 1)
    ∧ (outsAt0 V c n h).2 (ix2 1 o) = upTo (fun b => ∑ n, val0 V c b (ix2 o n) * val0 V c b (ix2 o n)) (n + 1) := by
  intro n
  induction n with
  | zero =>
    intro h
    have e : (outsAt0 V c 0 h).2 = k0_pay550 (spread (bat (V c main_arg0) (gp0 ⟨0, h⟩)) (bat (V c main_arg1) (gp0 ⟨0, h⟩))) (bat (V c main_arg3) (gp0 ⟨0, h⟩)) (bat (V c main_arg2) (gp0 ⟨0, h⟩)) (V c main_arg4) (V c main_call0_v0) (k0_pay549 (F := Ideal)) := by
      refine (congrArg Prod.snd (outsAt0_A V c ⟨0, h⟩ rfl)).trans ?_
      dsimp only
      rw [out0_A_7_eq, blk0_0, blk0_1, blk0_2, blk0_3, blk0_4, blk0_5]
    rw [e, step0_row0, step0_row1, upTo_succ _ 0 (by decide), upTo_succ _ 0 (by decide)]
    constructor <;>
    · congr 1
      rw [k0_pay549]
      exact Ideal.ofBits_zero .f32
  | succ n ih =>
    intro h
    have hN : cfg0.N = 8 := N_0
    obtain ⟨i0, i1⟩ := ih (Nat.lt_of_succ_lt h)
    have hB : ¬(⟨n + 1, h⟩ : Fin cfg0.N).val % 8 = 0 := by dsimp only; omega
    have e : (outsAt0 V c (n + 1) h).2 = k0_pay550 (spread (bat (V c main_arg0) (gp0 ⟨n + 1, h⟩)) (bat (V c main_arg1) (gp0 ⟨n + 1, h⟩))) (bat (V c main_arg3) (gp0 ⟨n + 1, h⟩)) (bat (V c main_arg2) (gp0 ⟨n + 1, h⟩)) (V c main_arg4) (V c main_call0_v0) (outsAt0 V c n (Nat.lt_of_succ_lt h)).2 := by
      refine (congrArg Prod.snd (outsAt0_B V c ⟨n + 1, h⟩ hB)).trans ?_
      dsimp only
      rw [out0_B_7_eq, blk0_0, blk0_1, blk0_2, blk0_3, blk0_4, blk0_5]
      rfl
    rw [e, step0_row0, step0_row1, i0, i1, upTo_succ _ (n + 1) (by omega), upTo_succ _ (n + 1) (by omega)]
    exact ⟨rfl, rfl⟩

/-- The first row of the call's statistics: the sums. -/
theorem fin0_7_row0 (c : Dev nD) (o : Fin 256) :
    (dat0 V c).arrAt 7 cfg0.N (ix2 0 o) = ∑ b, ∑ n, val0 V c b (ix2 o n) := by
  rw [arr0_7, after0_7]
  exact ((st0 V c o 7 _).1).trans (upTo_all _)

/-- The second row of the call's statistics: the sums of squares. -/
theorem fin0_7_row1 (c : Dev nD) (o : Fin 256) :
    (dat0 V c).arrAt 7 cfg0.N (ix2 1 o) = ∑ b, ∑ n, val0 V c b (ix2 o n) * val0 V c b (ix2 o n) := by
  rw [arr0_7, after0_7]
  exact ((st0 V c o 7 _).2).trans (upTo_all _)

/-- One point's running sums, first row. -/
theorem step1_row0 (c : Dev nD) (b : Fin 8) (x : Vec Ideal S8x256 .f32) (o : Fin 256) :
    k1_pay3 (val1 V c b) x (ix2 0 o) = x (ix2 0 o) + ∑ n, val1 V c b (ix2 o n) := by
  pointwise [k1_pay3]

/-- One point's running sums, second row. -/
theorem step1_row1 (c : Dev nD) (b : Fin 8) (x : Vec Ideal S8x256 .f32) (o : Fin 256) :
    k1_pay3 (val1 V c b) x (ix2 1 o) = x (ix2 1 o) + ∑ n, val1 V c b (ix2 o n) * val1 V c b (ix2 o n) := by
  pointwise [k1_pay3]

/-- The running sums after a point. -/
theorem st1 (c : Dev nD) (o : Fin 256) : ∀ (n : ℕ) (h : n < cfg1.N),
    (outsAt1 V c n h).2 (ix2 0 o) = upTo (fun b => ∑ n, val1 V c b (ix2 o n)) (n + 1)
    ∧ (outsAt1 V c n h).2 (ix2 1 o) = upTo (fun b => ∑ n, val1 V c b (ix2 o n) * val1 V c b (ix2 o n)) (n + 1) := by
  intro n
  induction n with
  | zero =>
    intro h
    have e : (outsAt1 V c 0 h).2 = k1_pay3 (val1 V c (gp1 ⟨0, h⟩)) (k1_pay2 (F := Ideal)) := by
      refine (congrArg Prod.snd (outsAt1_A V c ⟨0, h⟩ rfl)).trans ?_
      dsimp only
      rw [out1_A_7_eq, blk1_0, blk1_1, blk1_2, blk1_3, blk1_4, blk1_5, val1]
    rw [e, step1_row0, step1_row1, upTo_succ _ 0 (by decide), upTo_succ _ 0 (by decide)]
    constructor <;>
    · congr 1
      rw [k1_pay2]
      exact Ideal.ofBits_zero .f32
  | succ n ih =>
    intro h
    have hN : cfg1.N = 8 := N_1
    obtain ⟨i0, i1⟩ := ih (Nat.lt_of_succ_lt h)
    have hB : ¬(⟨n + 1, h⟩ : Fin cfg1.N).val % 8 = 0 := by dsimp only; omega
    have e : (outsAt1 V c (n + 1) h).2 = k1_pay3 (val1 V c (gp1 ⟨n + 1, h⟩)) (outsAt1 V c n (Nat.lt_of_succ_lt h)).2 := by
      refine (congrArg Prod.snd (outsAt1_B V c ⟨n + 1, h⟩ hB)).trans ?_
      dsimp only
      rw [out1_B_7_eq, blk1_0, blk1_1, blk1_2, blk1_3, blk1_4, blk1_5, val1]
      rfl
    rw [e, step1_row0, step1_row1, i0, i1, upTo_succ _ (n + 1) (by omega), upTo_succ _ (n + 1) (by omega)]
    exact ⟨rfl, rfl⟩

/-- The first row of the call's statistics: the sums. -/
theorem fin1_7_row0 (c : Dev nD) (o : Fin 256) :
    (dat1 V c).arrAt 7 cfg1.N (ix2 0 o) = ∑ b, ∑ n, val1 V c b (ix2 o n) := by
  rw [arr1_7, after1_7]
  exact ((st1 V c o 7 _).1).trans (upTo_all _)

/-- The second row of the call's statistics: the sums of squares. -/
theorem fin1_7_row1 (c : Dev nD) (o : Fin 256) :
    (dat1 V c).arrAt 7 cfg1.N (ix2 1 o) = ∑ b, ∑ n, val1 V c b (ix2 o n) * val1 V c b (ix2 o n) := by
  rw [arr1_7, after1_7]
  exact ((st1 V c o 7 _).2).trans (upTo_all _)

end Cert.KernelIdeal.Gen
-- ==== Proof.Spec.lean ====
/- The mathematics of the problem over the reals: distances, three-neighbour weights, the interpolated features, the
   two layers with batch statistics — and the facts of arithmetic both sides need. -/
module

public import Idealize.ShloMosaic.Lib.Pointwise
public import Idealize.ShloMosaic.Lib.IdealHost

@[expose] public section

noncomputable section

namespace Cert.Own

open Idealize.ShloMosaic

/-- The smallest distance that is divided by, the number both programs carry. -/
def epsD : ℝ := 14411519 / 2 ^ 57

/-- The number added to a variance, the one both programs carry. -/
def epsV : ℝ := 10995116 / 2 ^ 40

/-- The pattern of the smallest distance. -/
theorem bits_epsD : Ideal.ofBits .f32 786163455#32 = (epsD : EReal) := by
  unfold epsD; simp [Ideal.ofBits, Ideal.ieee, -EReal.coe_mul]; norm_num

/-- The pattern of the number added to a variance. -/
theorem bits_epsV : Ideal.ofBits .f32 925353388#32 = (epsV : EReal) := by
  unfold epsV; simp [Ideal.ofBits, Ideal.ieee, -EReal.coe_mul]; norm_num

/-- The pattern of the number of points of a batch. -/
theorem bits_count : Ideal.ofBits .f32 1191182336#32 = ((32768 : ℝ) : EReal) := by
  simp [Ideal.ofBits, Ideal.ieee, -EReal.coe_mul]; norm_num

/-- The pattern of one half. -/
theorem bits_half : Ideal.ofBits .f32 1056964608#32 = ((1 / 2 : ℝ) : EReal) := by
  simp [Ideal.ofBits, Ideal.ieee, -EReal.coe_mul]; norm_num

/-- The pattern of two. -/
theorem bits_two : Ideal.ofBits .f32 1073741824#32 = ((2 : ℝ) : EReal) := by
  simp [Ideal.ofBits, Ideal.ieee, -EReal.coe_mul]; norm_num

/-- The pattern of minus two. -/
theorem bits_neg_two : Ideal.ofBits .f32 3221225472#32 = ((-2 : ℝ) : EReal) := by
  simp [Ideal.ofBits, Ideal.ieee, -EReal.coe_mul, -EReal.coe_neg]; norm_num

/-- The pattern of one. -/
theorem bits_one : Ideal.ofBits .f32 1065353216#32 = ((1 : ℝ) : EReal) := by
  simp [Ideal.ofBits, Ideal.ieee, -EReal.coe_mul]; norm_num

/-- The pattern of infinity. -/
theorem bits_inf : Ideal.ofBits .f32 2139095040#32 = ⊤ := by
  simp [Ideal.ofBits, Ideal.ieee]

/-- The smallest distance is positive. -/
theorem epsD_pos : 0 < epsD := by unfold epsD; norm_num

/-- The number added to a variance is positive. -/
theorem epsV_pos : 0 < epsV := by unfold epsV; norm_num

/-! ## The problem -/

/-- The squared distance of a query and a key, as the problem writes it. -/
def dist (x1 : Fin 8 → Fin 3 → Fin 4096 → ℝ) (x2 : Fin 8 → Fin 3 → Fin 1024 → ℝ) (b : Fin 8) (n : Fin 4096) (s : Fin 1024) : ℝ :=
  -2 * (∑ k, x1 b k n * x2 b k s) + (∑ k, x1 b k n * x1 b k n) + ∑ k, x2 b k s * x2 b k s

/-- The reciprocal of the distance to one of the first three keys, not below the smallest distance. -/
def recip (x1 : Fin 8 → Fin 3 → Fin 4096 → ℝ) (x2 : Fin 8 → Fin 3 → Fin 1024 → ℝ) (b : Fin 8) (n : Fin 4096) (j : Fin 3) : ℝ :=
  1 / max epsD (dist x1 x2 b n (j.castLE (by decide)))

/-- The weight of a neighbour. -/
def weight (x1 : Fin 8 → Fin 3 → Fin 4096 → ℝ) (x2 : Fin 8 → Fin 3 → Fin 1024 → ℝ) (b : Fin 8) (n : Fin 4096) (j : Fin 3) : ℝ :=
  recip x1 x2 b n j / ∑ i, recip x1 x2 b n i

/-- The interpolated feature. -/
def interp (x1 : Fin 8 → Fin 3 → Fin 4096 → ℝ) (x2 : Fin 8 → Fin 3 → Fin 1024 → ℝ) (p2 : Fin 8 → Fin 256 → Fin 1024 → ℝ)
    (σ : Fin 8 → Fin 4096 → Fin 3 → Fin 1024) (b : Fin 8) (k : Fin 256) (n : Fin 4096) : ℝ :=
  ∑ j, p2 b k (σ b n j) * weight x1 x2 b n j

/-- A product with a matrix, entry by entry, and an offset for every row. -/
def affine {K : ℕ} (W : Fin 256 → Fin K → ℝ) (v : Fin 8 → Fin K → Fin 4096 → ℝ) (off : Fin 256 → ℝ) (b : Fin 8) (o : Fin 256) (n : Fin 4096) : ℝ :=
  (∑ k, W o k * v b k n) + off o

/-- The first layer's input: the query's own features, then the interpolated ones. -/
def feat (p1 : Fin 8 → Fin 128 → Fin 4096 → ℝ) (q : Fin 8 → Fin 256 → Fin 4096 → ℝ) (b : Fin 8) (k : Fin 384) (n : Fin 4096) : ℝ :=
  Fin.addCases (m := 128) (n := 256) (motive := fun _ => ℝ) (fun k => p1 b k n) (fun k => q b k n) k

/-- The mean of a channel over the batch and the points. -/
def mean (y : Fin 8 → Fin 256 → Fin 4096 → ℝ) (o : Fin 256) : ℝ := (∑ b, ∑ n, y b o n) / 32768

/-- The variance of a channel over the batch and the points. -/
def var (y : Fin 8 → Fin 256 → Fin 4096 → ℝ) (o : Fin 256) : ℝ :=
  (∑ b, ∑ n, (y b o n - mean y o) * (y b o n - mean y o)) / 32768

/-- A channel's value less its mean, divided by its deviation. -/
def norm (y : Fin 8 → Fin 256 → Fin 4096 → ℝ) (b : Fin 8) (o : Fin 256) (n : Fin 4096) : ℝ :=
  (y b o n - mean y o) / Real.sqrt (var y o + epsV)

/-- The activation with a real scale and a real shift. -/
def act (y : Fin 8 → Fin 256 → Fin 4096 → ℝ) (g be : Fin 256 → ℝ) (b : Fin 8) (o : Fin 256) (n : Fin 4096) : ℝ :=
  max (norm y b o n * g o + be o) 0

/-- The last activation, whose shift may be any extended real. -/
def actE (y : Fin 8 → Fin 256 → Fin 4096 → ℝ) (g : Fin 256 → ℝ) (be : Fin 256 → EReal) (b : Fin 8) (o : Fin 256) (n : Fin 4096) : EReal :=
  max (((norm y b o n * g o : ℝ) : EReal) + be o) 0

/-- The problem's arguments: real arrays, a last shift of extended reals, and the three nearest keys of every query. -/
structure Data where
  /-- The queries' coordinates. -/
  X1 : Fin 8 → Fin 3 → Fin 4096 → ℝ
  /-- The keys' coordinates. -/
  X2 : Fin 8 → Fin 3 → Fin 1024 → ℝ
  /-- The queries' features. -/
  P1 : Fin 8 → Fin 128 → Fin 4096 → ℝ
  /-- The keys' features. -/
  P2 : Fin 8 → Fin 256 → Fin 1024 → ℝ
  /-- The first matrix. -/
  M0 : Fin 256 → Fin 384 → ℝ
  /-- The first offsets. -/
  B0 : Fin 256 → ℝ
  /-- The first scales. -/
  G0 : Fin 256 → ℝ
  /-- The first shifts. -/
  E0 : Fin 256 → ℝ
  /-- The second matrix. -/
  M1 : Fin 256 → Fin 256 → ℝ
  /-- The second offsets. -/
  B1 : Fin 256 → ℝ
  /-- The second scales. -/
  G1 : Fin 256 → ℝ
  /-- The second shifts. -/
  E1 : Fin 256 → EReal
  /-- The nearest keys. -/
  σ : Fin 8 → Fin 4096 → Fin 3 → Fin 1024

/-- The first layer's product. -/
def Data.y0 (D : Data) : Fin 8 → Fin 256 → Fin 4096 → ℝ := affine D.M0 (feat D.P1 (interp D.X1 D.X2 D.P2 D.σ)) D.B0

/-- The first layer's activation. -/
def Data.z0 (D : Data) : Fin 8 → Fin 256 → Fin 4096 → ℝ := act D.y0 D.G0 D.E0

/-- The second layer's product. -/
def Data.y1 (D : Data) : Fin 8 → Fin 256 → Fin 4096 → ℝ := affine D.M1 D.z0 D.B1

/-- The result. -/
def Data.out (D : Data) (b : Fin 8) (o : Fin 256) (n : Fin 4096) : EReal := actE D.y1 D.G1 D.E1 b o n

/-- Arrays that hold these arguments. -/
structure Data.Held (D : Data) (a0 : Fin 8 → Fin 3 → Fin 4096 → EReal) (a1 : Fin 8 → Fin 3 → Fin 1024 → EReal)
    (a2 : Fin 8 → Fin 128 → Fin 4096 → EReal) (a3 : Fin 8 → Fin 256 → Fin 1024 → EReal) (a4 : Fin 256 → Fin 384 → EReal)
    (a5 a6 a7 : Fin 256 → EReal) (a8 : Fin 256 → Fin 256 → EReal) (a9 a10 a11 : Fin 256 → EReal) : Prop where
  /-- The queries' coordinates. -/
  h0 : ∀ b k n, a0 b k n = (D.X1 b k n : EReal)
  /-- The keys' coordinates. -/
  h1 : ∀ b k s, a1 b k s = (D.X2 b k s : EReal)
  /-- The queries' features. -/
  h2 : ∀ b k n, a2 b k n = (D.P1 b k n : EReal)
  /-- The keys' features. -/
  h3 : ∀ b k s, a3 b k s = (D.P2 b k s : EReal)
  /-- The first matrix. -/
  h4 : ∀ o k, a4 o k = (D.M0 o k : EReal)
  /-- The first offsets. -/
  h5 : ∀ o, a5 o = (D.B0 o : EReal)
  /-- The first scales. -/
  h6 : ∀ o, a6 o = (D.G0 o : EReal)
  /-- The first shifts. -/
  h7 : ∀ o, a7 o = (D.E0 o : EReal)
  /-- The second matrix. -/
  h8 : ∀ o k, a8 o k = (D.M1 o k : EReal)
  /-- The second offsets. -/
  h9 : ∀ o, a9 o = (D.B1 o : EReal)
  /-- The second scales. -/
  h10 : ∀ o, a10 o = (D.G1 o : EReal)
  /-- The second shifts. -/
  h11 : ∀ o, a11 o = D.E1 o

/-! ## Arithmetic -/

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, as an extended real. -/
theorem coe_max (a b : ℝ) : ((max a b : ℝ) : EReal) = max (a : EReal) b := by
  rcases le_total a b with h | h
  · rw [max_eq_right h, max_eq_right (EReal.coe_le_coe_iff.mpr h)]
  · rw [max_eq_left h, max_eq_left (EReal.coe_le_coe_iff.mpr h)]

/-- A quotient of reals by a real that is not zero. -/
theorem div_real (a b : ℝ) (h : b ≠ 0) : Ideal.div (a : EReal) (b : EReal) = ((a / b : ℝ) : EReal) := by
  rw [Ideal.div_coe h, ← EReal.coe_mul]; congr 1; ring

/-- The variance is the mean square less the squared mean. -/
theorem var_eq (y : Fin 8 → Fin 256 → Fin 4096 → ℝ) (o : Fin 256) :
    var y o = (∑ b, ∑ n, y b o n * y b o n) / 32768 - mean y o * mean y o := by
  have e : ∀ m : ℝ, ∑ b, ∑ n, (y b o n - m) * (y b o n - m)
      = (∑ b, ∑ n, y b o n * y b o n) - 2 * m * (∑ b, ∑ n, y b o n) + 32768 * (m * m) := by
    intro m
    have : ∀ b n, (y b o n - m) * (y b o n - m) = y b o n * y b o n - 2 * m * y b o n + m * m := fun b n => by ring
    simp only [this, Finset.sum_add_distrib, Finset.sum_sub_distrib, ← Finset.mul_sum]
    simp
    ring
  have hm : (∑ b, ∑ n, y b o n) = 32768 * mean y o := by unfold mean; ring
  unfold var
  rw [e, hm]; ring

/-- The variance is not negative. -/
theorem var_nonneg (y : Fin 8 → Fin 256 → Fin 4096 → ℝ) (o : Fin 256) : 0 ≤ var y o :=
  div_nonneg (Finset.sum_nonneg fun b _ => Finset.sum_nonneg fun n _ => mul_self_nonneg _) (by norm_num)

/-- A reciprocal of a distance is positive. -/
theorem recip_pos (x1 : Fin 8 → Fin 3 → Fin 4096 → ℝ) (x2 : Fin 8 → Fin 3 → Fin 1024 → ℝ) (b : Fin 8) (n : Fin 4096) (j : Fin 3) :
    0 < recip x1 x2 b n j :=
  div_pos one_pos (lt_of_lt_of_le epsD_pos (le_max_left _ _))

/-- The sum of the three reciprocals is positive. -/
theorem recips_pos (x1 : Fin 8 → Fin 3 → Fin 4096 → ℝ) (x2 : Fin 8 → Fin 3 → Fin 1024 → ℝ) (b : Fin 8) (n : Fin 4096) :
    0 < ∑ i, recip x1 x2 b n i :=
  Finset.sum_pos (fun i _ => recip_pos x1 x2 b n i) ⟨0, Finset.mem_univ _⟩

/-- The reciprocal of a clamped real. -/
theorem clamp_recip (d : ℝ) : Ideal.div ((1 : ℝ) : EReal) (if d < epsD then (epsD : EReal) else (d : EReal)) = ((1 / max epsD d : ℝ) : EReal) := by
  have h : (if d < epsD then (epsD : EReal) else (d : EReal)) = ((max epsD d : ℝ) : EReal) := by
    split
    · next h => rw [max_eq_left h.le]
    · next h => rw [max_eq_right (not_lt.mp h)]
  rw [h, div_real _ _ (lt_of_lt_of_le epsD_pos (le_max_left _ _)).ne']

/-- The scale and shift a call makes from the two sums of a channel, applied to a value. -/
def knorm (y s q g be : EReal) : EReal :=
  max (y * (g * Ideal.rsqrt (Ideal.div q (Ideal.ofBits .f32 1191182336#32) - Ideal.div s (Ideal.ofBits .f32 1191182336#32) * Ideal.div s (Ideal.ofBits .f32 1191182336#32) + Ideal.ofBits .f32 925353388#32))
    + (be - Ideal.div s (Ideal.ofBits .f32 1191182336#32) * (g * Ideal.rsqrt (Ideal.div q (Ideal.ofBits .f32 1191182336#32) - Ideal.div s (Ideal.ofBits .f32 1191182336#32) * Ideal.div s (Ideal.ofBits .f32 1191182336#32) + Ideal.ofBits .f32 925353388#32)))) 0

/-- Scale and shift are the normalisation, at reals. -/
theorem knorm_real (y m v g : ℝ) (be : EReal) (h : 0 ≤ v) :
    max ((y : EReal) * ((g : EReal) * Ideal.rsqrt (((v + m * m : ℝ) : EReal) - (m : EReal) * (m : EReal) + (epsV : EReal)))
      + (be - (m : EReal) * ((g : EReal) * Ideal.rsqrt (((v + m * m : ℝ) : EReal) - (m : EReal) * (m : EReal) + (epsV : EReal))))) 0
      = max ((((y - m) / Real.sqrt (v + epsV) * g : ℝ) : EReal) + be) 0 := by
  have hv : 0 < v + epsV := add_pos_of_nonneg_of_pos h epsV_pos
  have hr : Real.sqrt (v + epsV) ≠ 0 := (Real.sqrt_pos.mpr hv).ne'
  rw [← EReal.coe_mul m m, ← EReal.coe_sub, ← EReal.coe_add, show v + m * m - m * m + epsV = v + epsV by ring]
  rw [Ideal.rsqrt_coe, if_neg (not_lt.mpr hv.le), if_neg hv.ne', ← EReal.coe_mul, ← EReal.coe_mul, ← EReal.coe_mul]
  congr 1
  rw [sub_eq_add_neg, add_comm be, ← add_assoc, ← EReal.coe_neg, ← EReal.coe_add]
  congr 2
  field_simp
  ring

/-- With the two sums of a channel, scale and shift are the normalisation. -/
theorem knorm_actE (y : Fin 8 → Fin 256 → Fin 4096 → ℝ) (g : Fin 256 → ℝ) (be : Fin 256 → EReal) (b : Fin 8) (o : Fin 256) (n : Fin 4096) :
    knorm (y b o n : EReal) (∑ b, ∑ n, (y b o n : EReal)) (∑ b, ∑ n, (y b o n : EReal) * (y b o n : EReal)) (g o) (be o)
      = actE y g be b o n := by
  have hs : (∑ b, ∑ n, (y b o n : EReal)) = ((∑ b, ∑ n, y b o n : ℝ) : EReal) := by
    rw [coe_sum]; exact Finset.sum_congr rfl fun b _ => (coe_sum _ _).symm
  have hq : (∑ b, ∑ n, (y b o n : EReal) * (y b o n : EReal)) = ((∑ b, ∑ n, y b o n * y b o n : ℝ) : EReal) := by
    rw [coe_sum]; refine Finset.sum_congr rfl fun b _ => ?_
    rw [coe_sum]; exact Finset.sum_congr rfl fun n _ => (EReal.coe_mul _ _).symm
  have hm : (∑ b, ∑ n, y b o n) / 32768 = mean y o := rfl
  have hw : (∑ b, ∑ n, y b o n * y b o n) / 32768 = var y o + mean y o * mean y o := by rw [var_eq]; ring
  unfold knorm
  rw [hs, hq, bits_count, bits_epsV, div_real _ _ (by norm_num), div_real _ _ (by norm_num), hm, hw]
  unfold actE norm
  exact knorm_real _ _ _ _ _ (var_nonneg y o)

/-- The same with a real shift. -/
theorem knorm_act (y : Fin 8 → Fin 256 → Fin 4096 → ℝ) (g be : Fin 256 → ℝ) (b : Fin 8) (o : Fin 256) (n : Fin 4096) :
    knorm (y b o n : EReal) (∑ b, ∑ n, (y b o n : EReal)) (∑ b, ∑ n, (y b o n : EReal) * (y b o n : EReal)) (g o) (be o)
      = (act y g be b o n : EReal) := by
  rw [knorm_actE y g (fun o => (be o : EReal)) b o n]
  unfold actE act
  rw [coe_max, EReal.coe_add, EReal.coe_zero]

/-- A product with a matrix over the reals, as extended reals. -/
theorem affine_coe {K : ℕ} (W : Fin 256 → Fin K → ℝ) (v : Fin 8 → Fin K → Fin 4096 → ℝ) (off : Fin 256 → ℝ) (b : Fin 8) (o : Fin 256) (n : Fin 4096) :
    (affine W v off b o n : EReal) = (∑ k, (W o k : EReal) * (v b k n : EReal)) + (off o : EReal) := by
  unfold affine
  rw [EReal.coe_add, coe_sum]
  simp only [EReal.coe_mul]

end Cert.Own
-- ==== Proof.Lanes.lean ====
/- Three least values of a family of 1024, drawn from eight lanes that each keep their own three least. The least,
   second least and third least of a lane are known by counting: the value of rank `q` lies below a bound exactly when
   more than `q` of the lane's values do. -/
module

public import proofs.«01_k».proof.Proof.Spec

@[expose] public section

noncomputable section

namespace Cert.Own

/-- The least of the first values of a sequence. -/
def l1 (f : ℕ → EReal) : ℕ → EReal
  | 0 => ⊤
  | k + 1 => min (l1 f k) (f k)

/-- The second least. -/
def l2 (f : ℕ → EReal) : ℕ → EReal
  | 0 => ⊤
  | k + 1 => min (l2 f k) (max (l1 f k) (f k))

/-- The third least. -/
def l3 (f : ℕ → EReal) : ℕ → EReal
  | 0 => ⊤
  | k + 1 => min (l3 f k) (max (l2 f k) (max (l1 f k) (f k)))

/-- How many of the first values lie below a bound. -/
def below (f : ℕ → EReal) (t : EReal) (k : ℕ) : ℕ := ((Finset.range k).filter fun i => f i < t).card

/-- One more value. -/
theorem below_succ (f : ℕ → EReal) (t : EReal) (k : ℕ) : below f t (k + 1) = below f t k + if f k < t then 1 else 0 := by
  unfold below
  rw [Finset.range_add_one, Finset.filter_insert]
  split
  · rw [Finset.card_insert_of_notMem (by simp)]
  · rfl

/-- The three least values by counting. -/
theorem least_lt (f : ℕ → EReal) (t : EReal) (k : ℕ) :
    (l1 f k < t ↔ 1 ≤ below f t k) ∧ (l2 f k < t ↔ 2 ≤ below f t k) ∧ (l3 f k < t ↔ 3 ≤ below f t k) := by
  induction k with
  | zero => simp [l1, l2, l3, below]
  | succ k ih =>
    obtain ⟨h1, h2, h3⟩ := ih
    rw [below_succ, l1, l2, l3]
    simp only [min_lt_iff, max_lt_iff, h1, h2, h3]
    by_cases h : f k < t <;> simp only [h, if_true, if_false] <;> refine ⟨?_, ?_, ?_⟩ <;> constructor <;> intro g <;> simp_all <;> omega

/-- The value of rank `q` of a lane. -/
def ranked (f : ℕ → EReal) (k : ℕ) (q : ℕ) : EReal := if q = 0 then l1 f k else if q = 1 then l2 f k else l3 f k

/-- A ranked value lies below a bound exactly when more values than its rank do. -/
theorem ranked_lt (f : ℕ → EReal) (k : ℕ) (q : ℕ) (hq : q < 3) (t : EReal) : ranked f k q < t ↔ q + 1 ≤ below f t k := by
  obtain ⟨h1, h2, h3⟩ := least_lt f t k
  unfold ranked
  have : q = 0 ∨ q = 1 ∨ q = 2 := by omega
  rcases this with rfl | rfl | rfl <;> simpa

/-- One lane of a family of 1024: every eighth value. -/
def lane (d : Fin 1024 → EReal) (r : Fin 8) (k : ℕ) : EReal := if h : 8 * k + r.val < 1024 then d ⟨8 * k + r.val, h⟩ else ⊤

/-- The lane of an index. -/
def laneOf (s : Fin 1024) : Fin 8 := ⟨s.val % 8, Nat.mod_lt _ (by decide)⟩

/-- An index's value in its lane. -/
theorem lane_at (d : Fin 1024 → EReal) (s : Fin 1024) : lane d (laneOf s) (s.val / 8) = d s := by
  have e : 8 * (s.val / 8) + (laneOf s).val = s.val := Nat.div_add_mod s.val 8
  unfold lane
  rw [dif_pos (by rw [e]; exact s.isLt)]
  congr 1; exact Fin.ext e

/-- How many of some chosen indices lie in a lane. -/
def drawn (σ : Fin 3 → Fin 1024) (J : Finset (Fin 3)) (r : Fin 8) : ℕ := (J.filter fun i => laneOf (σ i) = r).card

/-- Fewer are drawn than chosen. -/
theorem drawn_le (σ : Fin 3 → Fin 1024) (J : Finset (Fin 3)) (r : Fin 8) : drawn σ J r ≤ J.card := Finset.card_filter_le _ _

/-- One more choice. -/
theorem drawn_insert (σ : Fin 3 → Fin 1024) (J : Finset (Fin 3)) (j : Fin 3) (hj : j ∉ J) (r : Fin 8) :
    drawn σ (insert j J) r = drawn σ J r + if laneOf (σ j) = r then 1 else 0 := by
  unfold drawn
  rw [Finset.filter_insert]
  split
  · rw [Finset.card_insert_of_notMem (by simp [hj])]
  · rfl

/-- When only chosen indices lie below a bound, a lane has no more values below it than were drawn from it. -/
theorem below_le (d : Fin 1024 → EReal) (σ : Fin 3 → Fin 1024) (J : Finset (Fin 3)) (t : EReal)
    (h : ∀ s, d s < t → ∃ i ∈ J, s = σ i) (r : Fin 8) : below (lane d r) t 128 ≤ drawn σ J r := by
  classical
  have sub : ((Finset.range 128).filter fun k => lane d r k < t) ⊆ (J.filter fun i => laneOf (σ i) = r).image fun i => (σ i).val / 8 := by
    intro k hk
    obtain ⟨hk1, hk2⟩ := Finset.mem_filter.mp hk
    have hk3 : k < 128 := Finset.mem_range.mp hk1
    have hlt : 8 * k + r.val < 1024 := by have := r.isLt; omega
    rw [lane, dif_pos hlt] at hk2
    obtain ⟨i, hi, e⟩ := h _ hk2
    have ev : 8 * k + r.val = (σ i).val := congrArg Fin.val e
    refine Finset.mem_image.mpr ⟨i, Finset.mem_filter.mpr ⟨hi, ?_⟩, ?_⟩
    · apply Fin.ext; show (σ i).val % 8 = r.val; have := r.isLt; omega
    · have := r.isLt; show (σ i).val / 8 = k; omega
  exact (Finset.card_le_card sub).trans Finset.card_image_le

/-- When all chosen indices lie below a bound, a lane has as many values below it as were drawn from it. -/
theorem le_below (d : Fin 1024 → EReal) (σ : Fin 3 → Fin 1024) (hσ : Function.Injective σ) (J : Finset (Fin 3)) (t : EReal)
    (h : ∀ i ∈ J, d (σ i) < t) (r : Fin 8) : drawn σ J r ≤ below (lane d r) t 128 := by
  classical
  have inj : Set.InjOn (fun i => (σ i).val / 8) (J.filter fun i => laneOf (σ i) = r : Finset (Fin 3)) := by
    intro a ha b hb e
    have ha' := (Finset.mem_filter.mp ha).2
    have hb' := (Finset.mem_filter.mp hb).2
    have hm : (σ a).val % 8 = (σ b).val % 8 := congrArg Fin.val (ha'.trans hb'.symm)
    have e' : (σ a).val / 8 = (σ b).val / 8 := e
    exact hσ (Fin.ext (by omega))
  unfold drawn
  rw [← Finset.card_image_of_injOn inj]
  refine Finset.card_le_card fun k hk => ?_
  obtain ⟨i, hi, rfl⟩ := Finset.mem_image.mp hk
  obtain ⟨hi1, hi2⟩ := Finset.mem_filter.mp hi
  refine Finset.mem_filter.mpr ⟨Finset.mem_range.mpr (by have := (σ i).isLt; omega), ?_⟩
  rw [← hi2, lane_at]
  exact h i hi1

/-- What a lane offers after some draws. -/
def offer (d : Fin 1024 → EReal) (σ : Fin 3 → Fin 1024) (J : Finset (Fin 3)) (r : Fin 8) : EReal := ranked (lane d r) 128 (drawn σ J r)

/-- The least offer is the least value not chosen yet. -/
theorem least_offer (d : Fin 1024 → EReal) (σ : Fin 3 → Fin 1024) (hσ : Function.Injective σ) (J : Finset (Fin 3)) (j : Fin 3) (hj : j ∉ J)
    (hc : J.card < 3) (hlow : ∀ i ∈ J, d (σ i) < d (σ j)) (hup : ∀ s, d s < d (σ j) → ∃ i ∈ J, s = σ i) :
    Finset.fold min ⊤ (offer d σ J) Finset.univ = d (σ j) := by
  refine eq_of_forall_gt_iff fun t => ?_
  rw [Finset.fold_min_lt]
  have rk : ∀ r, offer d σ J r < t ↔ drawn σ J r + 1 ≤ below (lane d r) t 128 := fun r =>
    ranked_lt _ _ _ (lt_of_le_of_lt (drawn_le σ J r) hc) t
  constructor
  · rintro (h | ⟨r, -, h⟩)
    · exact absurd h not_top_lt
    · by_contra hn
      have := below_le d σ J t (fun s hs => hup s (lt_of_lt_of_le hs (not_lt.mp hn))) r
      have := (rk r).mp h
      omega
  · intro h
    refine Or.inr ⟨laneOf (σ j), Finset.mem_univ _, (rk _).mpr ?_⟩
    have := le_below d σ hσ (insert j J) t (fun i hi => by
      rcases Finset.mem_insert.mp hi with rfl | hi
      · exact h
      · exact (hlow i hi).trans h) (laneOf (σ j))
    rwa [drawn_insert σ J j hj, if_pos rfl] at this

/-- The lane offering the least value not chosen yet is that value's own lane, and no other. -/
theorem offer_eq_iff (d : Fin 1024 → EReal) (σ : Fin 3 → Fin 1024) (hσ : Function.Injective σ) (J : Finset (Fin 3)) (j : Fin 3) (hj : j ∉ J)
    (hc : J.card < 3) (hlow : ∀ i ∈ J, d (σ i) < d (σ j)) (hup : ∀ s, d s < d (σ j) → ∃ i ∈ J, s = σ i)
    (t : EReal) (ht : d (σ j) < t) (hnext : ∀ s, d s < t → ∃ i ∈ insert j J, s = σ i) (r : Fin 8) :
    offer d σ J r = d (σ j) ↔ r = laneOf (σ j) := by
  have rk : ∀ t, offer d σ J r < t ↔ drawn σ J r + 1 ≤ below (lane d r) t 128 := fun t =>
    ranked_lt _ _ _ (lt_of_le_of_lt (drawn_le σ J r) hc) t
  constructor
  · intro e
    by_contra hr
    have h1 := (rk t).mp (by rw [e]; exact ht)
    have h2 := below_le d σ (insert j J) t hnext r
    rw [drawn_insert σ J j hj, if_neg (fun h => hr h.symm)] at h2
    omega
  · rintro rfl
    refine eq_of_forall_gt_iff fun u => ?_
    rw [rk]
    constructor
    · intro h
      by_contra hn
      have := below_le d σ J u (fun s hs => hup s (lt_of_lt_of_le hs (not_lt.mp hn))) (laneOf (σ j))
      omega
    · intro h
      have := le_below d σ hσ (insert j J) u (fun i hi => by
        rcases Finset.mem_insert.mp hi with rfl | hi
        · exact h
        · exact (hlow i hi).trans h) (laneOf (σ j))
      rwa [drawn_insert σ J j hj, if_pos rfl] at this

/-- The first three of a family: strictly rising, and below every other. -/
structure Firsts {α : Type} [Preorder α] (d : Fin 1024 → α) (σ : Fin 3 → Fin 1024) : Prop where
  /-- The first lies below the second. -/
  h01 : d (σ 0) < d (σ 1)
  /-- The second lies below the third. -/
  h12 : d (σ 1) < d (σ 2)
  /-- The third lies below all others. -/
  rest : ∀ s, s ≠ σ 0 → s ≠ σ 1 → s ≠ σ 2 → d (σ 2) < d s

/-- The three are distinct. -/
theorem Firsts.inj {α : Type} [Preorder α] {d : Fin 1024 → α} {σ : Fin 3 → Fin 1024} (h : Firsts d σ) : Function.Injective σ := by
  have a := h.h01
  have b := h.h12
  have c := a.trans b
  have n1 : σ 0 ≠ σ 1 := fun e => lt_irrefl _ (e ▸ a)
  have n2 : σ 1 ≠ σ 2 := fun e => lt_irrefl _ (e ▸ b)
  have n3 : σ 0 ≠ σ 2 := fun e => lt_irrefl _ (e ▸ c)
  intro i j e
  fin_cases i <;> fin_cases j <;> first | rfl | exact absurd e n1 | exact absurd e n2 | exact absurd e n3 | exact absurd e.symm n1 | exact absurd e.symm n2 | exact absurd e.symm n3

/-- Nothing lies below the first. -/
theorem Firsts.up0 {d : Fin 1024 → EReal} {σ : Fin 3 → Fin 1024} (h : Firsts d σ) (s : Fin 1024) (hs : d s < d (σ 0)) : ∃ i ∈ (∅ : Finset (Fin 3)), s = σ i := by
  exfalso
  by_cases e0 : s = σ 0
  · subst e0; exact lt_irrefl _ hs
  by_cases e1 : s = σ 1
  · subst e1; exact lt_irrefl _ (hs.trans h.h01)
  by_cases e2 : s = σ 2
  · subst e2; exact lt_irrefl _ (hs.trans (h.h01.trans h.h12))
  exact lt_irrefl _ ((h.rest s e0 e1 e2).trans (hs.trans (h.h01.trans h.h12)))

/-- Only the first lies below the second. -/
theorem Firsts.up1 {d : Fin 1024 → EReal} {σ : Fin 3 → Fin 1024} (h : Firsts d σ) (s : Fin 1024) (hs : d s < d (σ 1)) : ∃ i ∈ ({0} : Finset (Fin 3)), s = σ i := by
  by_cases e0 : s = σ 0
  · exact ⟨0, by simp, e0⟩
  exfalso
  by_cases e1 : s = σ 1
  · subst e1; exact lt_irrefl _ hs
  by_cases e2 : s = σ 2
  · subst e2; exact lt_irrefl _ (hs.trans h.h12)
  exact lt_irrefl _ ((h.rest s e0 e1 e2).trans (hs.trans h.h12))

/-- Only the first two lie below the third. -/
theorem Firsts.up2 {d : Fin 1024 → EReal} {σ : Fin 3 → Fin 1024} (h : Firsts d σ) (s : Fin 1024) (hs : d s < d (σ 2)) : ∃ i ∈ ({1, 0} : Finset (Fin 3)), s = σ i := by
  by_cases e0 : s = σ 0
  · exact ⟨0, by simp, e0⟩
  by_cases e1 : s = σ 1
  · exact ⟨1, by simp, e1⟩
  exfalso
  by_cases e2 : s = σ 2
  · subst e2; exact lt_irrefl _ hs
  exact lt_irrefl _ ((h.rest s e0 e1 e2).trans hs)

/-- The first draw's value. -/
theorem Firsts.draw0 {d : Fin 1024 → EReal} {σ : Fin 3 → Fin 1024} (h : Firsts d σ) : Finset.fold min ⊤ (offer d σ ∅) Finset.univ = d (σ 0) :=
  least_offer d σ h.inj ∅ 0 (by simp) (by simp) (by simp) h.up0

/-- The second draw's value. -/
theorem Firsts.draw1 {d : Fin 1024 → EReal} {σ : Fin 3 → Fin 1024} (h : Firsts d σ) : Finset.fold min ⊤ (offer d σ {0}) Finset.univ = d (σ 1) :=
  least_offer d σ h.inj {0} 1 (by decide) (by decide) (by intro i hi; rw [Finset.mem_singleton] at hi; subst hi; exact h.h01) h.up1

/-- The third draw's value. -/
theorem Firsts.draw2 {d : Fin 1024 → EReal} {σ : Fin 3 → Fin 1024} (h : Firsts d σ) : Finset.fold min ⊤ (offer d σ {1, 0}) Finset.univ = d (σ 2) :=
  least_offer d σ h.inj {1, 0} 2 (by decide) (by decide)
    (by intro i hi; rw [Finset.mem_insert, Finset.mem_singleton] at hi; rcases hi with rfl | rfl; exacts [h.h12, h.h01.trans h.h12]) h.up2

/-- The first draw's lane. -/
theorem Firsts.lane0 {d : Fin 1024 → EReal} {σ : Fin 3 → Fin 1024} (h : Firsts d σ) (r : Fin 8) : offer d σ ∅ r = d (σ 0) ↔ r = laneOf (σ 0) :=
  offer_eq_iff d σ h.inj ∅ 0 (by simp) (by simp) (by simp) h.up0 (d (σ 1)) h.h01 h.up1 r

/-- The second draw's lane. -/
theorem Firsts.lane1 {d : Fin 1024 → EReal} {σ : Fin 3 → Fin 1024} (h : Firsts d σ) (r : Fin 8) : offer d σ {0} r = d (σ 1) ↔ r = laneOf (σ 1) :=
  offer_eq_iff d σ h.inj {0} 1 (by decide) (by decide) (by intro i hi; rw [Finset.mem_singleton] at hi; subst hi; exact h.h01) h.up1
    (d (σ 2)) h.h12 h.up2 r

/-- Equality with the first, second or third picks that index. -/
theorem Firsts.eq_iff {d : Fin 1024 → EReal} {σ : Fin 3 → Fin 1024} (h : Firsts d σ) (j : Fin 3) (s : Fin 1024) : d s = d (σ j) ↔ s = σ j := by
  constructor
  · intro e
    have b := h.h12
    have a := h.h01
    by_contra hn
    by_cases e0 : s = σ 0
    · subst e0
      fin_cases j
      · exact hn rfl
      · exact lt_irrefl _ (e ▸ a)
      · exact lt_irrefl _ (e ▸ (a.trans b))
    by_cases e1 : s = σ 1
    · subst e1
      fin_cases j
      · exact lt_irrefl (d (σ 1)) (lt_of_eq_of_lt e a)
      · exact hn rfl
      · exact lt_irrefl _ (lt_of_lt_of_eq b e.symm)
    by_cases e2 : s = σ 2
    · subst e2
      fin_cases j
      · exact lt_irrefl (d (σ 2)) (lt_of_eq_of_lt e (a.trans b))
      · exact lt_irrefl (d (σ 2)) (lt_of_eq_of_lt e b)
      · exact hn rfl
    have c := h.rest s e0 e1 e2
    fin_cases j
    · exact lt_irrefl (d s) (lt_of_eq_of_lt e (a.trans (b.trans c)))
    · exact lt_irrefl (d s) (lt_of_eq_of_lt e (b.trans c))
    · exact lt_irrefl (d s) (lt_of_eq_of_lt e c)
  · rintro rfl; rfl

end Cert.Own
-- ==== Proof.Drawn.lean ====
/- The first call's draws over the extended reals: the running minima are the lanes' three least values, each of the
   three draws finds the next of a column's three least distances, and the placement puts the three weights at the
   three nearest keys. -/
module

public import proofs.«01_k».proof.Proof.Pick
public import proofs.«01_k».proof.Proof.Lanes

@[expose] public section

set_option maxRecDepth 16384

noncomputable section

namespace Cert.KernelIdeal.Gen

open Idealize.ShloMosaic Idealize.ShloMosaic.Pointwise Idealize.ShloMosaic.TcCoe Cert.Own

/-- A column of the distance matrix. -/
def col (D : FVec Ideal S1024x4096 .f32) (n : Fin 4096) (s : Fin 1024) : EReal := D (ix2 s n)

/-- The starting value of every lane. -/
theorem start_at (i : S8x4096.Idx) : (k0_pay4 (F := Ideal)) i = ⊤ := bits_inf

/-- A slab's row is one value of a lane. -/
theorem slab_at (D : FVec Ideal S1024x4096 .f32) (k : ℕ) (r : Fin 8) (n : Fin 4096) : slab D k (ix2 r n) = lane (col D n) r k := by
  unfold slab lane
  by_cases h : k < 128
  · have h' : 8 * k + r.val < 1024 := by have := r.isLt; omega
    rw [dif_pos h, dif_pos h']
    refine Idealize.ShloMosaic.extractStridedSlice_apply _ _ _ _ (ix2 ⟨8 * k + r.val, h'⟩ n) fun a => ?_
    match a with
    | ⟨0, _⟩ => rfl
    | ⟨1, _⟩ => exact (Nat.zero_add _).symm
  · have h' : ¬ 8 * k + r.val < 1024 := by omega
    rw [dif_neg h, dif_neg h']
    exact start_at _

/-- The least of a lane. -/
theorem m1_at (D : FVec Ideal S1024x4096 .f32) (k : ℕ) (r : Fin 8) (n : Fin 4096) : m1 D k (ix2 r n) = l1 (lane (col D n) r) k := by
  induction k with
  | zero => exact start_at _
  | succ k ih =>
    show min (m1 D k (ix2 r n)) (slab D k (ix2 r n)) = _
    rw [ih, slab_at]; rfl

/-- The second least of a lane. -/
theorem m2_at (D : FVec Ideal S1024x4096 .f32) (k : ℕ) (r : Fin 8) (n : Fin 4096) : m2 D k (ix2 r n) = l2 (lane (col D n) r) k := by
  induction k with
  | zero => exact start_at _
  | succ k ih =>
    show min (m2 D k (ix2 r n)) (max (m1 D k (ix2 r n)) (slab D k (ix2 r n))) = _
    rw [ih, slab_at, m1_at]; rfl

/-- The third least of a lane. -/
theorem m3_at (D : FVec Ideal S1024x4096 .f32) (k : ℕ) (r : Fin 8) (n : Fin 4096) : m3 D k (ix2 r n) = l3 (lane (col D n) r) k := by
  induction k with
  | zero => exact start_at _
  | succ k ih =>
    show min (m3 D k (ix2 r n)) (max (m2 D k (ix2 r n)) (max (m1 D k (ix2 r n)) (slab D k (ix2 r n)))) = _
    rw [ih, slab_at, m1_at, m2_at]; rfl

/-- The least over the lanes. -/
theorem vmin_at (A : FVec Ideal S8x4096 .f32) (n : Fin 4096) (s : Fin 1) : vmin A (ix2 s n) = Finset.fold min ⊤ (fun r => A (ix2 r n)) Finset.univ := by
  rw [← bits_inf]
  pointwise [vmin]

/-- The least word among the eight, when one lane holds its own number and the others hold 8, is that lane's number. -/
theorem fold_words (r : Fin 8) :
    Finset.fold IntOp.minsi 2147483647#32 (fun x : Fin 8 => if x = r then BitVec.ofNat 32 x.val else 8#32) Finset.univ = BitVec.ofNat 32 r.val := by
  revert r; decide

/-- A comparison of two lanes' numbers. -/
theorem lane_words (s r : Fin 8) : Scalar.select (IntOp.cmpi .eq (BitVec.ofNat 32 s.val) (BitVec.ofNat 32 r.val)) 1#32 0#32 = if s = r then 1#32 else 0#32 := by
  revert s r; decide

/-- The drawn lane, when exactly one holds the least value. -/
theorem pick_at (A : FVec Ideal S8x4096 .f32) (n : Fin 4096) (r : Fin 8) (h : ∀ x : Fin 8, A (ix2 x n) = vmin A (ix2 0 n) ↔ x = r) (s : Fin 8) :
    pick A (ix2 s n) = if s = r then 1#32 else 0#32 := by
  have e : pick A (ix2 s n) = Scalar.select (IntOp.cmpi .eq (BitVec.ofNat 32 s.val) (Finset.fold IntOp.minsi 2147483647#32
      (fun x : Fin 8 => if A (ix2 x n) = vmin A (ix2 0 n) then BitVec.ofNat 32 x.val else 8#32) Finset.univ)) 1#32 0#32 := by
    pointwise [pick, firstLane, lanes]
  rw [e]
  simp only [h]
  rw [fold_words, lane_words]

/-- A lane's next value, by the number of draws from it. -/
theorem head_at (D : FVec Ideal S1024x4096 .f32) (K : IVec S8x4096 32) (r : Fin 8) (n : Fin 4096) (q : ℕ) (hq : q < 3) (hK : K (ix2 r n) = BitVec.ofNat 32 q) :
    head (m1 D 128) (m2 D 128) (m3 D 128) K (ix2 r n) = ranked (lane (col D n) r) 128 q := by
  have e : head (m1 D 128) (m2 D 128) (m3 D 128) K (ix2 r n)
      = Scalar.select (IntOp.cmpi .eq (K (ix2 r n)) 0#32) (m1 D 128 (ix2 r n))
          (Scalar.select (IntOp.cmpi .eq (K (ix2 r n)) 1#32) (m2 D 128 (ix2 r n)) (m3 D 128 (ix2 r n))) := rfl
  rw [e, hK, m1_at, m2_at, m3_at]
  unfold ranked
  have : q = 0 ∨ q = 1 ∨ q = 2 := by omega
  rcases this with rfl | rfl | rfl <;> rfl

variable {D : FVec Ideal S1024x4096 .f32} {n : Fin 4096} {σ : Fin 3 → Fin 1024} (h : Firsts (col D n) σ)
include h

/-- What the lanes offer first. -/
theorem offer0 (r : Fin 8) : m1 D 128 (ix2 r n) = offer (col D n) σ ∅ r := m1_at D 128 r n

/-- The first drawn value. -/
theorem val_0 (s : Fin 1) : vmin (m1 D 128) (ix2 s n) = D (ix2 (σ 0) n) := by
  rw [vmin_at]
  simp only [offer0 h]
  exact h.draw0

/-- The counters after the first draw. -/
theorem cnt1_at (r : Fin 8) : cnt1 (m1 D 128) (ix2 r n) = BitVec.ofNat 32 (drawn σ {0} r) := by
  have e : cnt1 (m1 D 128) (ix2 r n) = 0#32 + pick (m1 D 128) (ix2 r n) := rfl
  rw [e, pick_at _ n (laneOf (σ 0)) (fun x => by rw [val_0 h, offer0 h]; exact h.lane0 x)]
  have : drawn σ {0} r = 0 + if laneOf (σ 0) = r then 1 else 0 := drawn_insert σ ∅ 0 (by simp) r
  rw [this]
  by_cases hr : laneOf (σ 0) = r
  · rw [if_pos hr, if_pos hr.symm]; rfl
  · rw [if_neg hr, if_neg (fun e => hr e.symm)]; rfl

/-- What the lanes offer second. -/
theorem offer1 (r : Fin 8) : head (m1 D 128) (m2 D 128) (m3 D 128) (cnt1 (m1 D 128)) (ix2 r n) = offer (col D n) σ {0} r :=
  head_at D _ r n _ (lt_of_le_of_lt (drawn_le σ {0} r) (by decide)) (cnt1_at h r)

/-- The second drawn value. -/
theorem val_1 (s : Fin 1) : vmin (head (m1 D 128) (m2 D 128) (m3 D 128) (cnt1 (m1 D 128))) (ix2 s n) = D (ix2 (σ 1) n) := by
  rw [vmin_at]
  simp only [offer1 h]
  exact h.draw1

/-- The counters after the second draw. -/
theorem cnt2_at (r : Fin 8) : cnt2 (m1 D 128) (m2 D 128) (m3 D 128) (ix2 r n) = BitVec.ofNat 32 (drawn σ {1, 0} r) := by
  have e : cnt2 (m1 D 128) (m2 D 128) (m3 D 128) (ix2 r n) = cnt1 (m1 D 128) (ix2 r n) + pick (head (m1 D 128) (m2 D 128) (m3 D 128) (cnt1 (m1 D 128))) (ix2 r n) := rfl
  rw [e, cnt1_at h, pick_at _ n (laneOf (σ 1)) (fun x => by rw [val_1 h, offer1 h]; exact h.lane1 x)]
  have : drawn σ {1, 0} r = drawn σ {0} r + if laneOf (σ 1) = r then 1 else 0 := drawn_insert σ {0} 1 (by decide) r
  rw [this]
  by_cases hr : laneOf (σ 1) = r
  · rw [if_pos hr, if_pos hr.symm, ← BitVec.ofNat_add]
  · rw [if_neg hr, if_neg (fun e => hr e.symm)]; simp

/-- What the lanes offer third. -/
theorem offer2 (r : Fin 8) : head (m1 D 128) (m2 D 128) (m3 D 128) (cnt2 (m1 D 128) (m2 D 128) (m3 D 128)) (ix2 r n) = offer (col D n) σ {1, 0} r :=
  head_at D _ r n _ (lt_of_le_of_lt (drawn_le σ {1, 0} r) (by decide)) (cnt2_at h r)

/-- The third drawn value. -/
theorem val_2 (s : Fin 1) : vmin (head (m1 D 128) (m2 D 128) (m3 D 128) (cnt2 (m1 D 128) (m2 D 128) (m3 D 128))) (ix2 s n) = D (ix2 (σ 2) n) := by
  rw [vmin_at]
  simp only [offer2 h]
  exact h.draw2

/-- The weights are placed at the three nearest keys. -/
theorem placed_at (W : FVec Ideal S3x4096 .f32) (s : Fin 1024) :
    placed D W (ix2 s n) = if s = σ 0 then W (ix2 0 n) else if s = σ 1 then W (ix2 1 n) else if s = σ 2 then W (ix2 2 n) else 0 := by
  have e : placed D W (ix2 s n)
      = if D (ix2 s n) = vmin (m1 D 128) (ix2 0 n) then W (ix2 0 n)
        else if D (ix2 s n) = vmin (head (m1 D 128) (m2 D 128) (m3 D 128) (cnt1 (m1 D 128))) (ix2 0 n) then W (ix2 1 n)
        else if D (ix2 s n) = vmin (head (m1 D 128) (m2 D 128) (m3 D 128) (cnt2 (m1 D 128) (m2 D 128) (m3 D 128))) (ix2 0 n) then W (ix2 2 n) else 0 := by
    unfold placed
    pointwise [place, wrow0, wrow1, wrow2]
  have q := fun j => h.eq_iff j s
  unfold col at q
  rw [e, val_0 h, val_1 h, val_2 h]
  simp only [q]

/-- A sum against the placement has three terms. -/
theorem placed_sum (W : FVec Ideal S3x4096 .f32) (p : Fin 1024 → EReal) :
    ∑ s, p s * placed D W (ix2 s n) = ∑ j, p (σ j) * W (ix2 j n) := by
  have n01 : σ 1 ≠ σ 0 := fun e => absurd (h.inj e) (by decide)
  have n02 : σ 2 ≠ σ 0 := fun e => absurd (h.inj e) (by decide)
  have n12 : σ 2 ≠ σ 1 := fun e => absurd (h.inj e) (by decide)
  have s3 : ∑ s ∈ ({σ 0, σ 1, σ 2} : Finset (Fin 1024)), p s * placed D W (ix2 s n) = ∑ s, p s * placed D W (ix2 s n) := by
    refine Finset.sum_subset (Finset.subset_univ _) fun s _ hs => ?_
    simp only [Finset.mem_insert, Finset.mem_singleton, not_or] at hs
    rw [placed_at h, if_neg hs.1, if_neg hs.2.1, if_neg hs.2.2, mul_zero]
  rw [← s3, Finset.sum_insert (by simp [n01.symm, n02.symm]), Finset.sum_insert (by simp [n12.symm]), Finset.sum_singleton, Fin.sum_univ_three,
    placed_at h, placed_at h, placed_at h, if_pos rfl, if_neg n01, if_pos rfl, if_neg n02, if_neg n12, if_pos rfl, add_assoc]

end Cert.KernelIdeal.Gen
-- ==== Proof.First.lean ====
/- The first call's values of one batch entry, at real arguments: the problem's first product over the query's own
   features and the interpolated ones. -/
module

public import proofs.«01_k».proof.Proof.Drawn
public import proofs.«01_k».proof.Proof.Words0

@[expose] public section

set_option maxRecDepth 16384

noncomputable section

namespace Cert.KernelIdeal.Gen

open Idealize.ShloMosaic Idealize.ShloMosaic.Pointwise Idealize.ShloMosaic.TcCoe Cert.Own

variable {X1 : Fin 8 → Fin 3 → Fin 4096 → ℝ} {X2 : Fin 8 → Fin 3 → Fin 1024 → ℝ} {P1 : Fin 8 → Fin 128 → Fin 4096 → ℝ}
  {P2 : Fin 8 → Fin 256 → Fin 1024 → ℝ} {M0 : Fin 256 → Fin 384 → ℝ} {B0 : Fin 256 → ℝ} {σ : Fin 8 → Fin 4096 → Fin 3 → Fin 1024}

variable {b : Fin 8} {x0 : Vec Ideal S1x3x4096 .f32} {x1 : Vec Ideal S1x3x1024 .f32}

/-- The part of a distance that depends on the key. -/
def part (X1 : Fin 8 → Fin 3 → Fin 4096 → ℝ) (X2 : Fin 8 → Fin 3 → Fin 1024 → ℝ) (b : Fin 8) (n : Fin 4096) (s : Fin 1024) : ℝ :=
  1 / 2 * (∑ k, X2 b k s * X2 b k s) - ∑ k, X2 b k s * X1 b k n

/-- The distance from its part. -/
theorem dist_part (b : Fin 8) (n : Fin 4096) (s : Fin 1024) : Own.dist X1 X2 b n s = 2 * part X1 X2 b n s + ∑ k, X1 b k n * X1 b k n := by
  unfold Own.dist part
  have : ∑ k, X1 b k n * X2 b k s = ∑ k, X2 b k s * X1 b k n := Finset.sum_congr rfl fun k _ => mul_comm _ _
  rw [this]; ring

/-- Distances are ordered as their parts. -/
theorem part_lt (b : Fin 8) (n : Fin 4096) (s t : Fin 1024) (h : Own.dist X1 X2 b n s < Own.dist X1 X2 b n t) : part X1 X2 b n s < part X1 X2 b n t := by
  rw [dist_part, dist_part] at h; linarith

variable (hx0 : ∀ k n, x0 (ix3 0 k n) = (X1 b k n : EReal)) (hx1 : ∀ k s, x1 (ix3 0 k s) = (X2 b k s : EReal))
include hx0 hx1

/-- The first call's matrix of parts. -/
theorem pay2_at (s : Fin 1024) (n : Fin 4096) : k0_pay2 x0 x1 (ix2 s n) = (part X1 X2 b n s : EReal) := by
  have e : k0_pay2 x0 x1 (ix2 s n) = Ideal.ofBits .f32 1056964608#32 * (∑ k, x1 (ix3 0 k s) * x1 (ix3 0 k s)) - ∑ k, x1 (ix3 0 k s) * x0 (ix3 0 k n) := by
    pointwise [k0_pay2, k0_pay1]
  rw [e, bits_half]
  simp only [hx0, hx1, ← EReal.coe_mul, ← coe_sum, ← EReal.coe_sub]
  rfl

/-- Its columns' first three are the nearest three. -/
theorem pay2_firsts {n : Fin 4096} (h : Firsts (Own.dist X1 X2 b n) (σ b n)) : Firsts (col (k0_pay2 x0 x1) n) (σ b n) := by
  have c : ∀ s t, Own.dist X1 X2 b n s < Own.dist X1 X2 b n t → col (k0_pay2 x0 x1) n s < col (k0_pay2 x0 x1) n t := fun s t hst => by
    unfold col
    rw [pay2_at hx0 hx1, pay2_at hx0 hx1]
    exact EReal.coe_lt_coe_iff.mpr (part_lt b n s t hst)
  exact ⟨c _ _ h.h01, c _ _ h.h12, fun s a0 a1 a2 => c _ _ (h.rest s a0 a1 a2)⟩

/-- The weights. -/
theorem pay3_at (j : Fin 3) (n : Fin 4096) : k0_pay3 x0 x1 (ix2 j n) = (weight X1 X2 b n j : EReal) := by
  have e : k0_pay3 x0 x1 (ix2 j n)
      = Ideal.div (Ideal.div (Ideal.ofBits .f32 1065353216#32) (if Ideal.ofBits .f32 1073741824#32 * k0_pay2 x0 x1 (ix2 (j.castLE (by decide)) n) + (∑ k, x0 (ix3 0 k n) * x0 (ix3 0 k n)) < Ideal.ofBits .f32 786163455#32
            then Ideal.ofBits .f32 786163455#32 else Ideal.ofBits .f32 1073741824#32 * k0_pay2 x0 x1 (ix2 (j.castLE (by decide)) n) + (∑ k, x0 (ix3 0 k n) * x0 (ix3 0 k n))))
          (∑ j : Fin 3, Ideal.div (Ideal.ofBits .f32 1065353216#32) (if Ideal.ofBits .f32 1073741824#32 * k0_pay2 x0 x1 (ix2 (j.castLE (by decide)) n) + (∑ k, x0 (ix3 0 k n) * x0 (ix3 0 k n)) < Ideal.ofBits .f32 786163455#32
            then Ideal.ofBits .f32 786163455#32 else Ideal.ofBits .f32 1073741824#32 * k0_pay2 x0 x1 (ix2 (j.castLE (by decide)) n) + (∑ k, x0 (ix3 0 k n) * x0 (ix3 0 k n)))) := by
    pointwise [k0_pay3, k0_pay1]
    rfl
  have r : ∀ j : Fin 3, Ideal.div (Ideal.ofBits .f32 1065353216#32) (if Ideal.ofBits .f32 1073741824#32 * k0_pay2 x0 x1 (ix2 (j.castLE (by decide)) n) + (∑ k, x0 (ix3 0 k n) * x0 (ix3 0 k n)) < Ideal.ofBits .f32 786163455#32
            then Ideal.ofBits .f32 786163455#32 else Ideal.ofBits .f32 1073741824#32 * k0_pay2 x0 x1 (ix2 (j.castLE (by decide)) n) + (∑ k, x0 (ix3 0 k n) * x0 (ix3 0 k n)))
      = (recip X1 X2 b n j : EReal) := fun j => by
    rw [pay2_at hx0 hx1, bits_epsD, bits_two, bits_one]
    simp only [hx0, ← EReal.coe_mul, ← coe_sum, ← EReal.coe_add, EReal.coe_lt_coe_iff]
    rw [← dist_part]
    exact clamp_recip _
  rw [e]
  simp only [r]
  rw [← coe_sum, div_real _ _ (recips_pos X1 X2 b n).ne']
  rfl

/-- The first layer's product. -/
theorem pay547_at (σ : Fin 8 → Fin 4096 → Fin 3 → Fin 1024) {x2 : Vec Ideal S1x128x4096 .f32} {x3 : Vec Ideal S1x256x1024 .f32} {x4 : Vec Ideal S256x384 .f32} {x5 : Vec Ideal S256x1 .f32}
    (hx2 : ∀ k n, x2 (ix3 0 k n) = (P1 b k n : EReal)) (hx3 : ∀ k s, x3 (ix3 0 k s) = (P2 b k s : EReal))
    (hx4 : ∀ o k, x4 (ix2 o k) = (M0 o k : EReal)) (hx5 : ∀ o, x5 (ix2 o 0) = (B0 o : EReal))
    (n : Fin 4096) (h : Firsts (Own.dist X1 X2 b n) (σ b n)) (o : Fin 256) :
    k0_pay547 (spread x0 x1) x3 x2 x4 x5 (ix2 o n) = (affine M0 (feat P1 (interp X1 X2 P2 σ)) B0 b o n : EReal) := by
  have e : k0_pay547 (spread x0 x1) x3 x2 x4 x5 (ix2 o n)
      = (∑ k : Fin 128, x4 (ix2 o (Fin.castAdd 256 k)) * x2 (ix3 0 k n)) + (∑ k : Fin 256, x4 (ix2 o (Fin.natAdd 128 k)) * ∑ s, x3 (ix3 0 k s) * spread x0 x1 (ix2 s n)) + x5 (ix2 o 0) := by
    pointwise [k0_pay547]
    rfl
  have f := pay2_firsts (σ := σ) hx0 hx1 h
  have q : ∀ k : Fin 256, (∑ s, x3 (ix3 0 k s) * spread x0 x1 (ix2 s n)) = (interp X1 X2 P2 σ b k n : EReal) := fun k => by
    unfold spread
    rw [placed_sum f (k0_pay3 x0 x1) (fun s => x3 (ix3 0 k s))]
    simp only [pay3_at hx0 hx1, hx3, ← EReal.coe_mul, ← coe_sum]
    rfl
  rw [e]
  simp only [q, hx2, hx4, hx5]
  rw [affine_coe]
  congr 1
  have split := Fin.sum_univ_add (a := 128) (b := 256) fun k : Fin (128 + 256) => (M0 o k : EReal) * (feat P1 (interp X1 X2 P2 σ) b k n : EReal)
  refine Eq.trans ?_ split.symm
  congr 1

end Cert.KernelIdeal.Gen
-- ==== Proof.Whole.lean ====
/- The kernel's result at real arguments: three calls in a row are the problem's two layers. -/
module

public import proofs.«01_k».proof.Proof.Calls
public import proofs.«01_k».proof.Proof.First
public import Idealize.ShloMosaic.Lib.StableHlo.RunRead

@[expose] public section

set_option maxRecDepth 16384

noncomputable section

namespace Cert.KernelIdeal.Gen

open Idealize.ShloMosaic Idealize.ShloMosaic.Pointwise Idealize.ShloMosaic.TcCoe Cert.Own

/-- A row of the statistics, read. -/
theorem strow_at (k : ℕ) (hk : k < 8) (x : Vec Ideal S8x256 .f32) (o : Fin 256) : strow k hk x (ix2 0 o) = x (ix2 ⟨k, hk⟩ o) := by
  unfold strow
  refine congrArg x (funext fun a => ?_)
  match a with
  | ⟨0, _⟩ => rfl
  | ⟨1, _⟩ => rfl

/-- The second layer's product, entry by entry. -/
theorem lay2_at (x0 : Vec Ideal S1x256x4096 .f32) (x1 : Vec Ideal S8x256 .f32) (x2 x3 : Vec Ideal S1x256 .f32) (x4 : Vec Ideal S256x256 .f32) (x5 : Vec Ideal S256x1 .f32)
    (o : Fin 256) (n : Fin 4096) :
    lay2 x0 x1 x2 x3 x4 x5 (ix2 o n)
      = (∑ k, x4 (ix2 o k) * knorm (x0 (ix3 0 k n)) (x1 (ix2 0 k)) (x1 (ix2 1 k)) (x2 (ix2 0 k)) (x3 (ix2 0 k))) + x5 (ix2 o 0) := by
  unfold knorm
  pointwise [lay2, k1_pay4]
  simp only [strow_at]
  rfl

/-- The result, entry by entry. -/
theorem last_at (x0 : Vec Ideal S1x256x4096 .f32) (x1 : Vec Ideal S8x256 .f32) (x2 x3 : Vec Ideal S1x256 .f32) (h0 : 0 < 8) (h1 : 1 < 8) (o : Fin 256) (n : Fin 4096) :
    k2_pay1 (strow 0 h0 x1) (strow 1 h1 x1) x2 x3 x0 (ix3 0 o n)
      = knorm (x0 (ix3 0 o n)) (x1 (ix2 0 o)) (x1 (ix2 1 o)) (x2 (ix2 0 o)) (x3 (ix2 0 o)) := by
  unfold knorm
  pointwise [k2_pay1]
  simp only [strow_at]
  rfl

/-- A vector laid out as a column. -/
theorem column_at (x : Vec Ideal S256 .f32) (h : S256.ShapeCasts S256x1) (o : Fin 256) : shapeCast S256x1 x h (ix2 o 0) = x (ix1 o) := by
  pointwise

/-- A vector laid out as a row. -/
theorem row_at (x : Vec Ideal S256 .f32) (h : S256.ShapeCasts S1x256) (o : Fin 256) : shapeCast S1x256 x h (ix2 0 o) = x (ix1 o) := by
  pointwise

variable (m : (ℓ : Loc nD τ sig) → Buf (Elt Ideal) ℓ) (ρ : Dev nD → PrngReg)

/-- Argument 5 as the calls find it. -/
theorem row_0 (c : Dev nD) (o : Fin 256) : V1 m ρ c main_call0_v0 (ix2 o 0) = m ((c.tc : Thread nD τ).loc main_arg5) (ix1 o) := by
  unfold V1 W1
  after_reads_simp
  exact column_at _ _ o

/-- Argument 9 as the calls find it. -/
theorem row_1 (c : Dev nD) (o : Fin 256) : V1 m ρ c main_call0_v1 (ix2 o 0) = m ((c.tc : Thread nD τ).loc main_arg9) (ix1 o) := by
  unfold V1 W1
  after_reads_simp
  exact column_at _ _ o

/-- Argument 6 as the calls find it. -/
theorem row_2 (c : Dev nD) (o : Fin 256) : V1 m ρ c main_call0_v2 (ix2 0 o) = m ((c.tc : Thread nD τ).loc main_arg6) (ix1 o) := by
  unfold V1 W1
  after_reads_simp
  exact row_at _ _ o

/-- Argument 7 as the calls find it. -/
theorem row_3 (c : Dev nD) (o : Fin 256) : V1 m ρ c main_call0_v3 (ix2 0 o) = m ((c.tc : Thread nD τ).loc main_arg7) (ix1 o) := by
  unfold V1 W1
  after_reads_simp
  exact row_at _ _ o

/-- Argument 10 as the calls find it. -/
theorem row_4 (c : Dev nD) (o : Fin 256) : V1 m ρ c main_call0_v4 (ix2 0 o) = m ((c.tc : Thread nD τ).loc main_arg10) (ix1 o) := by
  unfold V1 W1
  after_reads_simp
  exact row_at _ _ o

/-- Argument 11 as the calls find it. -/
theorem row_5 (c : Dev nD) (o : Fin 256) : V1 m ρ c main_call0_v5 (ix2 0 o) = m ((c.tc : Thread nD τ).loc main_arg11) (ix1 o) := by
  unfold V1 W1
  after_reads_simp
  exact row_at _ _ o

/-- Argument 0 at the first call. -/
theorem arg1_0 (c : Dev nD) : V1 m ρ c main_arg0 = m ((c.tc : Thread nD τ).loc main_arg0) := W1_args m ρ c main_arg0 (by decide)

/-- Argument 1 at the first call. -/
theorem arg1_1 (c : Dev nD) : V1 m ρ c main_arg1 = m ((c.tc : Thread nD τ).loc main_arg1) := W1_args m ρ c main_arg1 (by decide)

/-- Argument 2 at the first call. -/
theorem arg1_2 (c : Dev nD) : V1 m ρ c main_arg2 = m ((c.tc : Thread nD τ).loc main_arg2) := W1_args m ρ c main_arg2 (by decide)

/-- Argument 3 at the first call. -/
theorem arg1_3 (c : Dev nD) : V1 m ρ c main_arg3 = m ((c.tc : Thread nD τ).loc main_arg3) := W1_args m ρ c main_arg3 (by decide)

/-- Argument 4 at the first call. -/
theorem arg1_4 (c : Dev nD) : V1 m ρ c main_arg4 = m ((c.tc : Thread nD τ).loc main_arg4) := W1_args m ρ c main_arg4 (by decide)

/-- Argument 8 at the first call. -/
theorem arg1_8 (c : Dev nD) : V1 m ρ c main_arg8 = m ((c.tc : Thread nD τ).loc main_arg8) := W1_args m ρ c main_arg8 (by decide)

/-- Left alone by call 1. -/
theorem keep2_v1 (c : Dev nD) : V2 m ρ c main_call0_v1 = V1 m ρ c main_call0_v1 := W2_of m ρ c main_call0_v1 (by decide)

/-- Left alone by call 1. -/
theorem keep2_v2 (c : Dev nD) : V2 m ρ c main_call0_v2 = V1 m ρ c main_call0_v2 := W2_of m ρ c main_call0_v2 (by decide)

/-- Left alone by call 1. -/
theorem keep2_v3 (c : Dev nD) : V2 m ρ c main_call0_v3 = V1 m ρ c main_call0_v3 := W2_of m ρ c main_call0_v3 (by decide)

/-- Left alone by call 1. -/
theorem keep2_arg8 (c : Dev nD) : V2 m ρ c main_arg8 = V1 m ρ c main_arg8 := W2_of m ρ c main_arg8 (by decide)

/-- Left alone by call 1. -/
theorem keep2_v4 (c : Dev nD) : V2 m ρ c main_call0_v4 = V1 m ρ c main_call0_v4 := W2_of m ρ c main_call0_v4 (by decide)

/-- Left alone by call 1. -/
theorem keep2_v5 (c : Dev nD) : V2 m ρ c main_call0_v5 = V1 m ρ c main_call0_v5 := W2_of m ρ c main_call0_v5 (by decide)

/-- Left alone by call 2. -/
theorem keep3_v4 (c : Dev nD) : V3 m ρ c main_call0_v4 = V2 m ρ c main_call0_v4 := W3_of m ρ c main_call0_v4 (by decide)

/-- Left alone by call 2. -/
theorem keep3_v5 (c : Dev nD) : V3 m ρ c main_call0_v5 = V2 m ρ c main_call0_v5 := W3_of m ρ c main_call0_v5 (by decide)

/-- What call 1 leaves. -/
theorem left2_6 (c : Dev nD) : V2 m ρ c main_call0_v6_0 = (dat0 (V1 m ρ) c).arrAt 6 cfg0.N := W2_arr m ρ c 6

/-- What call 1 leaves. -/
theorem left2_7 (c : Dev nD) : V2 m ρ c main_call0_v6_1 = (dat0 (V1 m ρ) c).arrAt 7 cfg0.N := W2_arr m ρ c 7

/-- What call 2 leaves. -/
theorem left3_6 (c : Dev nD) : V3 m ρ c main_call0_v7_0 = (dat1 (V2 m ρ) c).arrAt 6 cfg1.N := W3_arr m ρ c 6

/-- What call 2 leaves. -/
theorem left3_7 (c : Dev nD) : V3 m ρ c main_call0_v7_1 = (dat1 (V2 m ρ) c).arrAt 7 cfg1.N := W3_arr m ρ c 7

/-- What call 3 leaves. -/
theorem left4_4 (c : Dev nD) : W4 m ρ c (Proc.devRef .tc main_v0) = (dat2 (V3 m ρ) c).arrAt 4 cfg2.N := W4_arr m ρ c 4

variable {m} {D : Data} {c : Dev nD}
  (H : D.Held (fun b k n => m ((c.tc : Thread nD τ).loc main_arg0) (ix3 b k n)) (fun b k n => m ((c.tc : Thread nD τ).loc main_arg1) (ix3 b k n))
    (fun b k n => m ((c.tc : Thread nD τ).loc main_arg2) (ix3 b k n)) (fun b k n => m ((c.tc : Thread nD τ).loc main_arg3) (ix3 b k n))
    (fun o k => m ((c.tc : Thread nD τ).loc main_arg4) (ix2 o k)) (fun o => m ((c.tc : Thread nD τ).loc main_arg5) (ix1 o))
    (fun o => m ((c.tc : Thread nD τ).loc main_arg6) (ix1 o)) (fun o => m ((c.tc : Thread nD τ).loc main_arg7) (ix1 o))
    (fun o k => m ((c.tc : Thread nD τ).loc main_arg8) (ix2 o k)) (fun o => m ((c.tc : Thread nD τ).loc main_arg9) (ix1 o))
    (fun o => m ((c.tc : Thread nD τ).loc main_arg10) (ix1 o)) (fun o => m ((c.tc : Thread nD τ).loc main_arg11) (ix1 o)))
include H

/-- The first call's values are the first layer's product. -/
theorem val0_at (hσ : ∀ b n, Firsts (Own.dist D.X1 D.X2 b n) (D.σ b n)) (b : Fin 8) (o : Fin 256) (n : Fin 4096) : val0 (V1 m ρ) c b (ix2 o n) = (D.y0 b o n : EReal) := by
  unfold val0
  refine pay547_at (b := b) (P1 := D.P1) (P2 := D.P2) (M0 := D.M0) (B0 := D.B0) ?_ ?_ D.σ ?_ ?_ ?_ ?_ n (hσ b n) o
  · intro k n; rw [arg1_0]; exact H.h0 b k n
  · intro k n; rw [arg1_1]; exact H.h1 b k n
  · intro k n; rw [arg1_2]; exact H.h2 b k n
  · intro k n; rw [arg1_3]; exact H.h3 b k n
  · intro o k; rw [arg1_4]; exact H.h4 o k
  · intro o; rw [row_0]; exact H.h5 o

/-- The second call's values are the second layer's product. -/
theorem val1_at (hσ : ∀ b n, Firsts (Own.dist D.X1 D.X2 b n) (D.σ b n)) (b : Fin 8) (o : Fin 256) (n : Fin 4096) : val1 (V2 m ρ) c b (ix2 o n) = (D.y1 b o n : EReal) := by
  unfold val1
  rw [lay2_at, keep2_v1, keep2_v2, keep2_v3, keep2_arg8, row_1, left2_6, left2_7, arg1_8]
  unfold Data.y1
  rw [affine_coe]
  refine congrArg₂ (· + ·) (Finset.sum_congr rfl fun k _ => congrArg₂ (· * ·) (H.h8 o k) ?_) (H.h9 o)
  rw [row_2, row_3, fin0_7_row0, fin0_7_row1]
  have e : bat ((dat0 (V1 m ρ) c).arrAt 6 cfg0.N) b (ix3 0 k n) = val0 (V1 m ρ) c b (ix2 k n) := fin0_6 (V1 m ρ) c b k n
  rw [e]
  simp only [val0_at ρ H hσ]
  rw [H.h6 k, H.h7 k]
  exact knorm_act D.y0 D.G0 D.E0 b k n

/-- The kernel's result is the problem's. -/
theorem result_at (hσ : ∀ b n, Firsts (Own.dist D.X1 D.X2 b n) (D.σ b n)) (b : Fin 8) (o : Fin 256) (n : Fin 4096) :
    W4 m ρ c (Proc.devRef .tc main_v0) (ix3 b o n) = D.out b o n := by
  rw [left4_4, fin2_4, last_at, keep3_v4, keep3_v5, keep2_v4, keep2_v5, left3_6, left3_7, row_4, row_5, fin1_7_row0, fin1_7_row1]
  have e : bat ((dat1 (V2 m ρ) c).arrAt 6 cfg1.N) b (ix3 0 o n) = val1 (V2 m ρ) c b (ix2 o n) := fin1_6 (V2 m ρ) c b o n
  rw [e]
  simp only [val1_at ρ H hσ]
  rw [H.h10 o, H.h11 o]
  exact knorm_actE D.y1 D.G1 D.E1 b o n

end Cert.KernelIdeal.Gen
-- ==== Proof.Sorting.lean ====
/- Sorting a row of distances over the extended reals: the sorted row is the row along one arrangement of its
   positions, the argsort is that arrangement, and when its first four values strictly rise, its first three positions
   are the row's first three. -/
module

public import proofs.«01_k».proof.Proof.Lanes
public import proofs.«01_k».proof.Proof.Gen.ReferenceIdeal.Read
public import proofs.«01_k».proof.Proof.Gen.Pre_well_posed
public import Idealize.ShloMosaic.Lib.SortFacts

@[expose] public section

set_option maxRecDepth 16384

noncomputable section

namespace Cert.Own

open Idealize.ShloMosaic Idealize.ShloMosaic.Pointwise

/-- One value lies before another. -/
def before (d : Fin 1024 → EReal) (k k' : Fin 1024) : Bool := decide (d k < d k')

/-- The position a sorted row's entry comes from. -/
def source (d : Fin 1024 → EReal) (k : Fin 1024) : Fin 1024 := sortedFrom (before d) k

/-- The sorted row never falls. -/
theorem source_le (d : Fin 1024 → EReal) (i j : Fin 1024) (h : i < j) : d (source d i) ≤ d (source d j) := by
  have := sortedFrom_noInversion (before d) (before d) (fun a b h => by
      have : d a < d b := of_decide_eq_true h
      exact decide_eq_false (not_lt.mpr this.le)) (fun _ _ h => h) (fun a b c h1 h2 => by
      have h1 : ¬ d a < d b := of_decide_eq_false h1
      have h2 : ¬ d b < d c := of_decide_eq_false h2
      exact decide_eq_false (not_lt.mpr ((not_lt.mp h2).trans (not_lt.mp h1)))) i j h
  exact not_lt.mp (of_decide_eq_false this)

/-- The first three positions of a sorted row. -/
def nearest (d : Fin 1024 → EReal) (j : Fin 3) : Fin 1024 := source d (j.castLE (by decide))

/-- With a strict rise among the first four, they are the row's first three. -/
theorem nearest_firsts (d : Fin 1024 → EReal) (h0 : d (source d 0) < d (source d 1)) (h1 : d (source d 1) < d (source d 2))
    (h2 : d (source d 2) < d (source d 3)) : Firsts d (nearest d) := by
  refine ⟨h0, h1, fun s n0 n1 n2 => ?_⟩
  obtain ⟨k, rfl⟩ := sortedFrom_surjective (before d) s
  have k0 : k ≠ 0 := fun e => n0 (by subst e; rfl)
  have k1 : k ≠ 1 := fun e => n1 (by subst e; rfl)
  have k2 : k ≠ 2 := fun e => n2 (by subst e; rfl)
  have k3 : k = 3 ∨ 3 < k := by
    have a0 : k.val ≠ 0 := fun e => k0 (Fin.ext e)
    have a1 : k.val ≠ 1 := fun e => k1 (Fin.ext e)
    have a2 : k.val ≠ 2 := fun e => k2 (Fin.ext e)
    rcases Nat.lt_or_ge 3 k.val with h | h
    · exact Or.inr (Fin.lt_def.mpr h)
    · exact Or.inl (Fin.ext (show k.val = 3 by omega))
  rcases k3 with rfl | k3
  · exact h2
  · exact h2.trans_le (source_le d 3 k k3)

/-- What a sort's comparison makes of a value is the value: nothing is unequal to itself, and what equals zero is zero. -/
theorem canon (x c z : EReal) :
    Scalar.select (FloatOps.cmpf (F := Ideal) (φ := .f32) .une x x) c (Scalar.select (FloatOps.cmpf (F := Ideal) (φ := .f32) .oeq x z) z x) = x := by
  have h1 : FloatOps.cmpf (F := Ideal) (φ := .f32) .une x x = 0#1 := by
    show BitVec.ofBool (decide (x ≠ x)) = 0#1
    rw [decide_eq_false (fun h => h rfl)]; rfl
  have h2 : FloatOps.cmpf (F := Ideal) (φ := .f32) .oeq x z = BitVec.ofBool (decide (x = z)) := rfl
  rw [h1, h2]
  show (if BitVec.ofBool (decide (x = z)) = 1 then z else x) = x
  by_cases h : x = z
  · subst h; split <;> rfl
  · rw [decide_eq_false h]; rfl

/-- The total order's comparison. -/
theorem total_lt (x y : EReal) : FloatOps.cmpfTotal (F := Ideal) (φ := .f32) .lt x y = BitVec.ofBool (decide (x < y)) := rfl

/-- A bit equals one exactly when its truth value is true. -/
theorem ofBool_beq (p : Bool) : (BitVec.ofBool p == 1#1) = p := by cases p <;> rfl

/-- The comparison the reference's argsort makes. -/
theorem ref_cmp (l r : EReal × BitVec 32) : (Cert.ReferenceIdeal.comparator_f32_i32_d2 (F := Ideal) l r == 1#1) = decide (l.1 < r.1) := by
  unfold Cert.ReferenceIdeal.comparator_f32_i32_d2
  dsimp only
  rw [canon, canon, total_lt, ofBool_beq]

/-- The comparison the precondition's sort makes. -/
theorem pre_cmp (l r : EReal) : (Cert.Pre_well_posed.comparator_f32_d2 (F := Ideal) l r == 1#1) = decide (l < r) := by
  unfold Cert.Pre_well_posed.comparator_f32_d2
  dsimp only
  rw [canon, canon, total_lt, ofBool_beq]

/-- The rows' shape. -/
abbrev Rows : Shape := ⟨3, ![8, 4096, 1024]⟩

/-- Another position of the same row. -/
theorem along_row (b : Fin 8) (n : Fin 4096) (k s : Fin 1024) : Shape.Idx.along (s := Rows) (ix3 b n k) (2 : Fin 3) s = ix3 b n s := by
  unfold Shape.Idx.along
  funext a
  match a with
  | ⟨0, _⟩ => rfl
  | ⟨1, _⟩ => rfl
  | ⟨2, _⟩ => rfl

/-- A sort along an axis, at an index. -/
theorem sort_read {α : Type} {s : Shape} (d : ℕ) (hd : d < s.rank) (cmp : α → α → BitVec 1) (x : s.Idx → α) (j : s.Idx) :
    Host.sort s d cmp x j = x (j.along ⟨d, hd⟩ (sortedFrom (fun k k' => cmp (x (j.along ⟨d, hd⟩ k)) (x (j.along ⟨d, hd⟩ k')) == 1#1) (j ⟨d, hd⟩))) := by
  simp only [Host.sort, dif_pos hd]

/-- A sort of pairs along an axis, the second component at an index. -/
theorem sort2_read {α β : Type} {s : Shape} (d : ℕ) (hd : d < s.rank) (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  simp only [Host.sort2, dif_pos hd]

/-- The precondition's sorted row. -/
theorem sort_at (x : Rows.Idx → EReal) (b : Fin 8) (n : Fin 4096) (k : Fin 1024) :
    Host.sort Rows 2 (Cert.Pre_well_posed.comparator_f32_d2 (F := Ideal)) x (ix3 b n k) = x (ix3 b n (source (fun s => x (ix3 b n s)) k)) := by
  have e : (fun k1 k2 : Fin 1024 => Cert.Pre_well_posed.comparator_f32_d2 (F := Ideal) (x (Shape.Idx.along (s := Rows) (ix3 b n k) (2 : Fin 3) k1)) (x (Shape.Idx.along (s := Rows) (ix3 b n k) (2 : Fin 3) k2)) == 1#1) = before (fun s => x (ix3 b n s)) := by
    funext k1 k2
    refine (pre_cmp _ _).trans ?_
    exact congrArg₂ (fun i j => decide (x i < x j)) (along_row b n k k1) (along_row b n k k2)
  refine (sort_read (s := Rows) 2 (by decide) _ x _).trans ?_
  refine (congrArg x (along_row b n k _)).trans ?_
  exact congrArg (fun F => x (ix3 b n (sortedFrom F k))) e

/-- The reference's argsort. -/
theorem argsort_at (x : Rows.Idx → EReal) (y : Rows.Idx → BitVec 32) (b : Fin 8) (n : Fin 4096) (k : Fin 1024) :
    (Host.sort2 Rows 2 (Cert.ReferenceIdeal.comparator_f32_i32_d2 (F := Ideal)) x y).2 (ix3 b n k) = y (ix3 b n (source (fun s => x (ix3 b n s)) k)) := by
  have e : (fun k1 k2 : Fin 1024 => Cert.ReferenceIdeal.comparator_f32_i32_d2 (F := Ideal) (x (Shape.Idx.along (s := Rows) (ix3 b n k) (2 : Fin 3) k1), y (Shape.Idx.along (s := Rows) (ix3 b n k) (2 : Fin 3) k1)) (x (Shape.Idx.along (s := Rows) (ix3 b n k) (2 : Fin 3) k2), y (Shape.Idx.along (s := Rows) (ix3 b n k) (2 : Fin 3) k2)) == 1#1) = before (fun s => x (ix3 b n s)) := by
    funext k1 k2
    refine (ref_cmp _ _).trans ?_
    exact congrArg₂ (fun i j => decide (x i < x j)) (along_row b n k k1) (along_row b n k k2)
  refine (sort2_read (s := Rows) 2 (by decide) _ x y _).trans ?_
  refine (congrArg y (along_row b n k _)).trans ?_
  exact congrArg (fun F => y (ix3 b n (sortedFrom F k))) e

end Cert.Own
-- ==== Proof.Refs.lean ====
/- The reference, read at an index: over arguments that hold real arrays, its result is the problem's result. -/
module

public import proofs.«01_k».proof.Proof.Sorting
public import proofs.«01_k».proof.Proof.Spec

@[expose] public section

set_option maxRecDepth 16384

noncomputable section

namespace Cert.ReferenceIdeal.Read

open Cert.ReferenceIdeal Cert.ReferenceIdeal.Gen Idealize.ShloMosaic Idealize.ShloMosaic.Pointwise Idealize.ShloMosaic.TcCoe

open Cert.Own

/-! ## The drawn features -/

/-- The gather, at an index whose start words are a batch and a source point. -/
theorem gather_at (x : S8x1024x256.Idx → EReal) (idx : IVec S8x4096x3x2 32) (b : Fin 8) (n : Fin 4096) (j : Fin 3) (k : Fin 256) (s : Fin 1024)
    (h0 : (idx (ix4 b n j 0)).toInt.toNat = b.val) (h1 : (idx (ix4 b n j 1)).toInt.toNat = s.val) :
    Host.gather gather_S8x1024x256_S8x4096x3x2_S8x4096x3x256_3_01_n_n_01_3_11256 x idx (ix4 b n j k) = x (ix3 b s k) := by
  unfold Host.gather
  refine congrArg x ?_
  have si : ∀ c : Fin 2, GatherDims.siIdx gather_S8x1024x256_S8x4096x3x2_S8x4096x3x256_3_01_n_n_01_3_11256 (ix4 b n j k) c = ix4 b n j c := by
    intro c
    funext a
    refine Fin.ext ?_
    match a with
    | ⟨0, _⟩ => rfl
    | ⟨1, _⟩ => rfl
    | ⟨2, _⟩ => rfl
    | ⟨3, _⟩ => rfl
  funext a
  refine Fin.ext ?_
  match a with
  | ⟨0, _⟩ =>
    show min (idx (GatherDims.siIdx gather_S8x1024x256_S8x4096x3x2_S8x4096x3x256_3_01_n_n_01_3_11256 (ix4 b n j k) (0 : Fin 2))).toInt.toNat 7 + 0 + 0 = b.val
    rw [si, h0]
    have := b.isLt
    omega
  | ⟨1, _⟩ =>
    show min (idx (GatherDims.siIdx gather_S8x1024x256_S8x4096x3x2_S8x4096x3x256_3_01_n_n_01_3_11256 (ix4 b n j k) (1 : Fin 2))).toInt.toNat 1023 + 0 + 0 = s.val
    rw [si, h1]
    have := s.isLt
    omega
  | ⟨2, _⟩ =>
    show 0 + 0 + k.val = k.val
    omega

/-- A small word read as a signed integer. -/
theorem word_int (s : ℕ) (h : s < 1024) : (BitVec.ofNat 32 s).toInt = (s : ℤ) := by
  have h1 : (BitVec.ofNat 32 s).toNat = s := by rw [BitVec.toNat_ofNat]; omega
  rw [BitVec.toInt_eq_toNat_of_lt (by rw [h1]; omega), h1]

/-- A small word is not below zero, so it is not wrapped around. -/
theorem word_keep (s : ℕ) (h : s < 1024) (w : BitVec 32) :
    Scalar.select (IntOp.cmpi .slt (BitVec.ofNat 32 s) 0#32) w (BitVec.ofNat 32 s) = BitVec.ofNat 32 s := by
  have e : IntOp.cmpi .slt (BitVec.ofNat 32 s) 0#32 = BitVec.ofBool (decide ((BitVec.ofNat 32 s).toInt < (0#32 : BitVec 32).toInt)) := rfl
  rw [e, word_int s h, decide_eq_false (by simp)]
  rfl

/-- The batch's word. -/
theorem v42_at (b : Fin 8) (n : Fin 4096) (j : Fin 3) : (val_main_v42 (F := Ideal) (ix4 b n j 0)).toInt.toNat = b.val := by
  have e : val_main_v42 (F := Ideal) (ix4 b n j 0)
      = Scalar.select (IntOp.cmpi .slt (BitVec.ofNat 32 b.val) 0#32) (IntOp.addi (BitVec.ofNat 32 b.val) 8#32) (BitVec.ofNat 32 b.val) := by
    pointwise [val_main_v42, val_main_v41, val_main_v35, val_main_v34, val_main_v33, val_main_v32, val_main_v31, val_main_v30, val_main_v29, val_main_c, val_main_c_6]
  have hb : b.val < 1024 := by have := b.isLt; omega
  rw [e, word_keep _ hb, word_int _ hb]
  rfl

/-- The argsort's input numbers the sources. -/
theorem iota_at (b : Fin 8) (n : Fin 4096) (s : Fin 1024) : val_main_call0_v0 (F := Ideal) (ix3 b n s) = BitVec.ofNat 32 s.val := by
  pointwise [val_main_call0_v0]

/-- The argsort, at an index. -/
theorem v17_at (x0 : (⟨S8x3x4096, .f32⟩ : BufTy).Contents (Elt Ideal)) (x1 : (⟨S8x3x1024, .f32⟩ : BufTy).Contents (Elt Ideal)) (b : Fin 8) (n : Fin 4096) (k : Fin 1024) :
    val_main_v17 x0 x1 (ix3 b n k) = BitVec.ofNat 32 (source (fun s => val_main_v16 x0 x1 (ix3 b n s)) k).val := by
  unfold val_main_v17
  exact (argsort_at (val_main_v16 x0 x1) (val_main_call0_v0 (F := Ideal)) b n k).trans (iota_at b n _)

/-- The drawn source's word. -/
theorem v43_at (x0 : (⟨S8x3x4096, .f32⟩ : BufTy).Contents (Elt Ideal)) (x1 : (⟨S8x3x1024, .f32⟩ : BufTy).Contents (Elt Ideal)) (b : Fin 8) (n : Fin 4096) (j : Fin 3) :
    (val_main_v43 x0 x1 (ix4 b n j 0)).toInt.toNat = (nearest (fun s => val_main_v16 x0 x1 (ix3 b n s)) j).val := by
  have e : val_main_v43 x0 x1 (ix4 b n j 0)
      = Scalar.select (IntOp.cmpi .slt (val_main_v17 x0 x1 (ix3 b n (j.castLE (by decide)))) 0#32)
          (IntOp.addi (val_main_v17 x0 x1 (ix3 b n (j.castLE (by decide)))) 1024#32) (val_main_v17 x0 x1 (ix3 b n (j.castLE (by decide)))) := by
    pointwise [val_main_v43, val_main_v40, val_main_v39, val_main_v38, val_main_v37, val_main_v36, val_main_v18, val_main_c_7, val_main_c_8]
    rfl
  rw [e, v17_at, word_keep _ (Fin.isLt _), word_int _ (Fin.isLt _)]
  rfl

/-- The drawn feature. -/
theorem v45_at (x0 : (⟨S8x3x4096, .f32⟩ : BufTy).Contents (Elt Ideal)) (x1 : (⟨S8x3x1024, .f32⟩ : BufTy).Contents (Elt Ideal)) (x3 : (⟨S8x256x1024, .f32⟩ : BufTy).Contents (Elt Ideal)) (b : Fin 8) (n : Fin 4096) (j : Fin 3) (k : Fin 256) :
    val_main_v45 x0 x1 x3 (ix4 b n j k) = x3 (ix3 b k (nearest (fun s => val_main_v16 x0 x1 (ix3 b n s)) j)) := by
  unfold val_main_v45
  have c0 : val_main_v44 x0 x1 (ix4 b n j 0) = val_main_v42 (F := Ideal) (ix4 b n j 0) := by
    pointwise [val_main_v44]
  have c1 : val_main_v44 x0 x1 (ix4 b n j 1) = val_main_v43 x0 x1 (ix4 b n j 0) := by
    pointwise [val_main_v44]
  refine (gather_at (val_main_v2 x3) (val_main_v44 x0 x1) b n j k (nearest (fun s => val_main_v16 x0 x1 (ix3 b n s)) j) ?_ ?_).trans ?_
  · rw [c0]; exact v42_at b n j
  · rw [c1]; exact v43_at x0 x1 b n j
  · pointwise [val_main_v2]

/-! ## A layer's normalisation -/

/-- The channel an entry is summed into. -/
theorem drop (b : Fin 8) (n : Fin 4096) (o p : Fin 256) : reducesTo_S8x256x4096_S256_d0_2.drop (ix3 b o n) = ix1 p ↔ o = p := by
  have e : reducesTo_S8x256x4096_S256_d0_2.drop (ix3 b o n) = ix1 o := by
    funext a
    match a with
    | ⟨0, _⟩ => rfl
  rw [e]
  constructor
  · intro h; exact congrFun h 0
  · rintro rfl; rfl

/-- A sum over the batch and the points, from zero. -/
theorem reduce_at (x : S8x256x4096.Idx → EReal) (o : Fin 256) :
    Ideal.hostReduceAdd reducesTo_S8x256x4096_S256_d0_2 x 0 (ix1 o) = ∑ b : Fin 8, ∑ n : Fin 4096, x (ix3 b o n) := by
  unfold Ideal.hostReduceAdd
  rw [zero_add, Finset.sum_filter, sum_idx3]
  refine Finset.sum_congr rfl fun b _ => ?_
  rw [Finset.sum_comm]
  refine Finset.sum_congr rfl fun n _ => ?_
  simp only [drop]
  rw [Finset.sum_ite_eq' Finset.univ o]
  simp

/-- The count less no degrees of freedom. -/
theorem count_sub : Ideal.ofBits FTy.f32 1191182336#32 - FloatOps.sitofp (F := Ideal) (w := 32) FTy.f32 0#32 = ((32768 : ℝ) : EReal) := by
  rw [bits_count]
  have : FloatOps.sitofp (F := Ideal) (w := 32) FTy.f32 0#32 = ((0 : ℝ) : EReal) := by
    show (((0#32 : BitVec 32).toInt : ℝ) : EReal) = _
    norm_num
  rw [this, ← EReal.coe_sub, sub_zero]

/-- A mean, over the extended reals. -/
theorem mean_coe (y : Fin 8 → Fin 256 → Fin 4096 → ℝ) (o : Fin 256) :
    Ideal.div (∑ b, ∑ n, (y b o n : EReal)) (Ideal.ofBits FTy.f32 1191182336#32) = (mean y o : EReal) := by
  rw [bits_count]
  simp only [← coe_sum]
  rw [div_real _ _ (by norm_num)]
  rfl

/-- A variance, over the extended reals. -/
theorem var_coe (y : Fin 8 → Fin 256 → Fin 4096 → ℝ) (o : Fin 256) :
    Ideal.div (∑ b, ∑ n, ((y b o n : EReal) - (mean y o : EReal)) * ((y b o n : EReal) - (mean y o : EReal))) ((32768 : ℝ) : EReal) = (var y o : EReal) := by
  simp only [← EReal.coe_sub, ← EReal.coe_mul, ← coe_sum]
  rw [div_real _ _ (by norm_num)]
  rfl

/-- The variance's guard is satisfied. -/
theorem var_guard (a c : EReal) : (if 0 < Ideal.ofBits FTy.f32 1191182336#32 - FloatOps.sitofp (F := Ideal) (w := 32) FTy.f32 0#32 then a else c) = a := by
  rw [count_sub]
  exact if_pos (EReal.coe_pos.mpr (by norm_num))

/-- A normalised value, over the extended reals. -/
theorem norm_coe (y : Fin 8 → Fin 256 → Fin 4096 → ℝ) (b : Fin 8) (o : Fin 256) (n : Fin 4096) :
    Ideal.div ((y b o n : EReal) - (mean y o : EReal)) (Ideal.sqrt ((var y o : EReal) + Ideal.ofBits FTy.f32 925353388#32)) = (norm y b o n : EReal) := by
  have hv : 0 < var y o + epsV := add_pos_of_nonneg_of_pos (var_nonneg y o) epsV_pos
  rw [bits_epsV, ← EReal.coe_add, ← EReal.coe_sub, Ideal.sqrt_coe, if_neg (not_lt.mpr hv.le), div_real _ _ (Real.sqrt_pos.mpr hv).ne']
  rfl

/-- The layer's mean. -/
theorem v61_at (x0 : (⟨S8x3x4096, .f32⟩ : BufTy).Contents (Elt Ideal)) (x1 : (⟨S8x3x1024, .f32⟩ : BufTy).Contents (Elt Ideal)) (x2 : (⟨S8x128x4096, .f32⟩ : BufTy).Contents (Elt Ideal)) (x3 : (⟨S8x256x1024, .f32⟩ : BufTy).Contents (Elt Ideal)) (x4 : (⟨S256x384, .f32⟩ : BufTy).Contents (Elt Ideal)) (x5 : (⟨S256, .f32⟩ : BufTy).Contents (Elt Ideal)) (y : Fin 8 → Fin 256 → Fin 4096 → ℝ) (hy : ∀ b o n, val_main_v57 x0 x1 x2 x3 x4 x5 (ix3 b o n) = (y b o n : EReal)) (o : Fin 256) :
    val_main_v61 x0 x1 x2 x3 x4 x5 (ix3 (0 : Fin 1) o (0 : Fin 1)) = (mean y o : EReal) := by
  have e : val_main_v61 x0 x1 x2 x3 x4 x5 (ix3 (0 : Fin 1) o (0 : Fin 1)) = Ideal.div (val_main_v58 x0 x1 x2 x3 x4 x5 (ix1 o)) (Ideal.ofBits FTy.f32 1191182336#32) := by
    pointwise [val_main_v61, val_main_v60, val_main_v59, val_main_cst_11]
  have f : val_main_v58 x0 x1 x2 x3 x4 x5 (ix1 o) = Ideal.hostReduceAdd reducesTo_S8x256x4096_S256_d0_2 (val_main_v57 x0 x1 x2 x3 x4 x5) 0 (ix1 o) := by
    pointwise [val_main_v58, val_main_cst_10]
  rw [e, f, reduce_at]
  simp only [hy]
  exact mean_coe y o

/-- The layer's variance. -/
theorem v62_at (x0 : (⟨S8x3x4096, .f32⟩ : BufTy).Contents (Elt Ideal)) (x1 : (⟨S8x3x1024, .f32⟩ : BufTy).Contents (Elt Ideal)) (x2 : (⟨S8x128x4096, .f32⟩ : BufTy).Contents (Elt Ideal)) (x3 : (⟨S8x256x1024, .f32⟩ : BufTy).Contents (Elt Ideal)) (x4 : (⟨S256x384, .f32⟩ : BufTy).Contents (Elt Ideal)) (x5 : (⟨S256, .f32⟩ : BufTy).Contents (Elt Ideal)) (y : Fin 8 → Fin 256 → Fin 4096 → ℝ) (hy : ∀ b o n, val_main_v57 x0 x1 x2 x3 x4 x5 (ix3 b o n) = (y b o n : EReal)) (o : Fin 256) :
    val_main_v62 x0 x1 x2 x3 x4 x5 (ix3 (0 : Fin 1) o (0 : Fin 1)) = (var y o : EReal) := by
  have e : val_main_v62 x0 x1 x2 x3 x4 x5 (ix3 (0 : Fin 1) o (0 : Fin 1))
      = (if 0 < Ideal.ofBits FTy.f32 1191182336#32 - FloatOps.sitofp (F := Ideal) (w := 32) FTy.f32 0#32 then
          Ideal.div (val_main_call2_v9 x0 x1 x2 x3 x4 x5 (ix1 o)) (Ideal.ofBits FTy.f32 1191182336#32 - FloatOps.sitofp (F := Ideal) (w := 32) FTy.f32 0#32)
        else Ideal.ofBits FTy.f32 2143289344#32) := by
    pointwise [val_main_v62, val_main_call2_call0_v1, val_main_call2_call0_v0, val_main_call2_cst_4, val_main_call2_v13, val_main_call2_cst_3, val_main_call2_v12, val_main_call2_v11, val_main_call2_v10, val_main_call2_v8, val_main_call2_v7, val_main_call2_cst_1, val_main_c_12]
    rfl
  have f : val_main_call2_v9 x0 x1 x2 x3 x4 x5 (ix1 o) = Ideal.hostReduceAdd reducesTo_S8x256x4096_S256_d0_2 (val_main_call2_v6 x0 x1 x2 x3 x4 x5) 0 (ix1 o) := by
    pointwise [val_main_call2_v9, val_main_call2_cst_2]
  have f0 : val_main_call2_v0 x0 x1 x2 x3 x4 x5 (ix1 o) = Ideal.hostReduceAdd reducesTo_S8x256x4096_S256_d0_2 (val_main_v57 x0 x1 x2 x3 x4 x5) 0 (ix1 o) := by
    pointwise [val_main_call2_v0, val_main_call2_cst]
  have m : Ideal.div (val_main_call2_v0 x0 x1 x2 x3 x4 x5 (ix1 o)) (Ideal.ofBits FTy.f32 1191182336#32) = (mean y o : EReal) := by
    rw [f0, reduce_at]
    simp only [hy]
    exact mean_coe y o
  have d : ∀ b n, val_main_call2_v6 x0 x1 x2 x3 x4 x5 (ix3 b o n) = ((y b o n : EReal) - (mean y o : EReal)) * ((y b o n : EReal) - (mean y o : EReal)) := fun b n => by
    have : val_main_call2_v6 x0 x1 x2 x3 x4 x5 (ix3 b o n) = (val_main_v57 x0 x1 x2 x3 x4 x5 (ix3 b o n) - Ideal.div (val_main_call2_v0 x0 x1 x2 x3 x4 x5 (ix1 o)) (Ideal.ofBits FTy.f32 1191182336#32))
        * (val_main_v57 x0 x1 x2 x3 x4 x5 (ix3 b o n) - Ideal.div (val_main_call2_v0 x0 x1 x2 x3 x4 x5 (ix1 o)) (Ideal.ofBits FTy.f32 1191182336#32)) := by
      pointwise [val_main_call2_v6, val_main_call2_v5, val_main_call2_v4, val_main_call2_v3, val_main_call2_v2, val_main_call2_v1, val_main_call2_cst_0]
    rw [this, m, hy]
  rw [e, var_guard, f, reduce_at, count_sub]
  simp only [d]
  exact var_coe y o

/-- The layer's mean. -/
theorem v85_at (x0 : (⟨S8x3x4096, .f32⟩ : BufTy).Contents (Elt Ideal)) (x1 : (⟨S8x3x1024, .f32⟩ : BufTy).Contents (Elt Ideal)) (x2 : (⟨S8x128x4096, .f32⟩ : BufTy).Contents (Elt Ideal)) (x3 : (⟨S8x256x1024, .f32⟩ : BufTy).Contents (Elt Ideal)) (x4 : (⟨S256x384, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (y : Fin 8 → Fin 256 → Fin 4096 → ℝ) (hy : ∀ b o n, val_main_v81 x0 x1 x2 x3 x4 x5 x6 x7 x8 x9 (ix3 b o n) = (y b o n : EReal)) (o : Fin 256) :
    val_main_v85 x0 x1 x2 x3 x4 x5 x6 x7 x8 x9 (ix3 (0 : Fin 1) o (0 : Fin 1)) = (mean y o : EReal) := by
  have e : val_main_v85 x0 x1 x2 x3 x4 x5 x6 x7 x8 x9 (ix3 (0 : Fin 1) o (0 : Fin 1)) = Ideal.div (val_main_v82 x0 x1 x2 x3 x4 x5 x6 x7 x8 x9 (ix1 o)) (Ideal.ofBits FTy.f32 1191182336#32) := by
    pointwise [val_main_v85, val_main_v84, val_main_v83, val_main_cst_15]
  have f : val_main_v82 x0 x1 x2 x3 x4 x5 x6 x7 x8 x9 (ix1 o) = Ideal.hostReduceAdd reducesTo_S8x256x4096_S256_d0_2 (val_main_v81 x0 x1 x2 x3 x4 x5 x6 x7 x8 x9) 0 (ix1 o) := by
    pointwise [val_main_v82, val_main_cst_14]
  rw [e, f, reduce_at]
  simp only [hy]
  exact mean_coe y o

/-- The layer's variance. -/
theorem v86_at (x0 : (⟨S8x3x4096, .f32⟩ : BufTy).Contents (Elt Ideal)) (x1 : (⟨S8x3x1024, .f32⟩ : BufTy).Contents (Elt Ideal)) (x2 : (⟨S8x128x4096, .f32⟩ : BufTy).Contents (Elt Ideal)) (x3 : (⟨S8x256x1024, .f32⟩ : BufTy).Contents (Elt Ideal)) (x4 : (⟨S256x384, .f32⟩ : BufTy).Contents (Elt Ideal)) (x5 : (⟨S256, .f32⟩ : BufTy).Contents (Elt Ideal)) (x6 : (⟨S256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (y : Fin 8 → Fin 256 → Fin 4096 → ℝ) (hy : ∀ b o n, val_main_v81 x0 x1 x2 x3 x4 x5 x6 x7 x8 x9 (ix3 b o n) = (y b o n : EReal)) (o : Fin 256) :
    val_main_v86 x0 x1 x2 x3 x4 x5 x6 x7 x8 x9 (ix3 (0 : Fin 1) o (0 : Fin 1)) = (var y o : EReal) := by
  have e : val_main_v86 x0 x1 x2 x3 x4 x5 x6 x7 x8 x9 (ix3 (0 : Fin 1) o (0 : Fin 1))
      = (if 0 < Ideal.ofBits FTy.f32 1191182336#32 - FloatOps.sitofp (F := Ideal) (w := 32) FTy.f32 0#32 then
          Ideal.div (val_main_call4_v9 x0 x1 x2 x3 x4 x5 x6 x7 x8 x9 (ix1 o)) (Ideal.ofBits FTy.f32 1191182336#32 - FloatOps.sitofp (F := Ideal) (w := 32) FTy.f32 0#32)
        else Ideal.ofBits FTy.f32 2143289344#32) := by
    pointwise [val_main_v86, val_main_call4_call0_v1, val_main_call4_call0_v0, val_main_call4_cst_4, val_main_call4_v13, val_main_call4_cst_3, val_main_call4_v12, val_main_call4_v11, val_main_call4_v10, val_main_call4_v8, val_main_call4_v7, val_main_call4_cst_1, val_main_c_16]
    rfl
  have f : val_main_call4_v9 x0 x1 x2 x3 x4 x5 x6 x7 x8 x9 (ix1 o) = Ideal.hostReduceAdd reducesTo_S8x256x4096_S256_d0_2 (val_main_call4_v6 x0 x1 x2 x3 x4 x5 x6 x7 x8 x9) 0 (ix1 o) := by
    pointwise [val_main_call4_v9, val_main_call4_cst_2]
  have f0 : val_main_call4_v0 x0 x1 x2 x3 x4 x5 x6 x7 x8 x9 (ix1 o) = Ideal.hostReduceAdd reducesTo_S8x256x4096_S256_d0_2 (val_main_v81 x0 x1 x2 x3 x4 x5 x6 x7 x8 x9) 0 (ix1 o) := by
    pointwise [val_main_call4_v0, val_main_call4_cst]
  have m : Ideal.div (val_main_call4_v0 x0 x1 x2 x3 x4 x5 x6 x7 x8 x9 (ix1 o)) (Ideal.ofBits FTy.f32 1191182336#32) = (mean y o : EReal) := by
    rw [f0, reduce_at]
    simp only [hy]
    exact mean_coe y o
  have d : ∀ b n, val_main_call4_v6 x0 x1 x2 x3 x4 x5 x6 x7 x8 x9 (ix3 b o n) = ((y b o n : EReal) - (mean y o : EReal)) * ((y b o n : EReal) - (mean y o : EReal)) := fun b n => by
    have : val_main_call4_v6 x0 x1 x2 x3 x4 x5 x6 x7 x8 x9 (ix3 b o n) = (val_main_v81 x0 x1 x2 x3 x4 x5 x6 x7 x8 x9 (ix3 b o n) - Ideal.div (val_main_call4_v0 x0 x1 x2 x3 x4 x5 x6 x7 x8 x9 (ix1 o)) (Ideal.ofBits FTy.f32 1191182336#32))
        * (val_main_v81 x0 x1 x2 x3 x4 x5 x6 x7 x8 x9 (ix3 b o n) - Ideal.div (val_main_call4_v0 x0 x1 x2 x3 x4 x5 x6 x7 x8 x9 (ix1 o)) (Ideal.ofBits FTy.f32 1191182336#32)) := by
      pointwise [val_main_call4_v6, val_main_call4_v5, val_main_call4_v4, val_main_call4_v3, val_main_call4_v2, val_main_call4_v1, val_main_call4_cst_0]
    rw [this, m, hy]
  rw [e, var_guard, f, reduce_at, count_sub]
  simp only [d]
  exact var_coe y o

/-! ## The result -/

variable {D : Data} {x0 : (⟨S8x3x4096, .f32⟩ : BufTy).Contents (Elt Ideal)} {x1 : (⟨S8x3x1024, .f32⟩ : BufTy).Contents (Elt Ideal)} {x2 : (⟨S8x128x4096, .f32⟩ : BufTy).Contents (Elt Ideal)} {x3 : (⟨S8x256x1024, .f32⟩ : BufTy).Contents (Elt Ideal)} {x4 : (⟨S256x384, .f32⟩ : BufTy).Contents (Elt Ideal)} {x5 : (⟨S256, .f32⟩ : BufTy).Contents (Elt Ideal)} {x6 : (⟨S256, .f32⟩ : BufTy).Contents (Elt Ideal)} {x7 : (⟨S256, .f32⟩ : BufTy).Contents (Elt Ideal)} {x8 : (⟨S256x256, .f32⟩ : BufTy).Contents (Elt Ideal)} {x9 : (⟨S256, .f32⟩ : BufTy).Contents (Elt Ideal)} {x10 : (⟨S256, .f32⟩ : BufTy).Contents (Elt Ideal)} {x11 : (⟨S256, .f32⟩ : BufTy).Contents (Elt Ideal)}

/-- The distances. -/
theorem v16_at (H : D.Held (fun b k n => x0 (ix3 b k n)) (fun b k n => x1 (ix3 b k n)) (fun b k n => x2 (ix3 b k n)) (fun b k n => x3 (ix3 b k n)) (fun o k => x4 (ix2 o k)) (fun o => x5 (ix1 o)) (fun o => x6 (ix1 o)) (fun o => x7 (ix1 o)) (fun o k => x8 (ix2 o k)) (fun o => x9 (ix1 o)) (fun o => x10 (ix1 o)) (fun o => x11 (ix1 o))) (b : Fin 8) (n : Fin 4096) (s : Fin 1024) :
    val_main_v16 x0 x1 (ix3 b n s) = (Own.dist D.X1 D.X2 b n s : EReal) := by
  have e : val_main_v16 x0 x1 (ix3 b n s) = Ideal.ofBits .f32 3221225472#32 * (∑ x, x0 (ix3 b x n) * x1 (ix3 b x s)) + (∑ x, x0 (ix3 b x n) * x0 (ix3 b x n)) + ∑ x, x1 (ix3 b x s) * x1 (ix3 b x s) := by
    pointwise [val_main_v16, val_main_v15, val_main_v14, val_main_v13, val_main_v12, val_main_v11, val_main_v10, val_main_v9, val_main_v8, val_main_v7, val_main_v6, val_main_v5, val_main_v4, val_main_v3, val_main_v1, val_main_v0, val_main_cst, val_main_cst_0, val_main_cst_1]
  have q0 : ∀ b k n, x0 (ix3 b k n) = (D.X1 b k n : EReal) := H.h0
  have q1 : ∀ b k n, x1 (ix3 b k n) = (D.X2 b k n : EReal) := H.h1
  rw [e, bits_neg_two]
  simp only [q0, q1, ← EReal.coe_mul, ← coe_sum, ← EReal.coe_add]
  rfl

/-- The weights. -/
theorem v28_at (H : D.Held (fun b k n => x0 (ix3 b k n)) (fun b k n => x1 (ix3 b k n)) (fun b k n => x2 (ix3 b k n)) (fun b k n => x3 (ix3 b k n)) (fun o k => x4 (ix2 o k)) (fun o => x5 (ix1 o)) (fun o => x6 (ix1 o)) (fun o => x7 (ix1 o)) (fun o k => x8 (ix2 o k)) (fun o => x9 (ix1 o)) (fun o => x10 (ix1 o)) (fun o => x11 (ix1 o))) (b : Fin 8) (n : Fin 4096) (j : Fin 3) :
    val_main_v28 x0 x1 (ix3 b n j) = (weight D.X1 D.X2 b n j : EReal) := by
  have e : val_main_v28 x0 x1 (ix3 b n j)
      = Ideal.div (Ideal.div (Ideal.ofBits .f32 1065353216#32) (if val_main_v16 x0 x1 (ix3 b n (j.castLE (by decide))) < Ideal.ofBits .f32 786163455#32 then Ideal.ofBits .f32 786163455#32 else val_main_v16 x0 x1 (ix3 b n (j.castLE (by decide)))))
          (∑ x : Fin 3, Ideal.div (Ideal.ofBits .f32 1065353216#32) (if val_main_v16 x0 x1 (ix3 b n (x.castLE (by decide))) < Ideal.ofBits .f32 786163455#32 then Ideal.ofBits .f32 786163455#32 else val_main_v16 x0 x1 (ix3 b n (x.castLE (by decide))))) := by
    pointwise [val_main_v28, val_main_v27, val_main_v26, val_main_v25, val_main_v24, val_main_v23, val_main_v22, val_main_v21, val_main_v20, val_main_v19, val_main_call1_v0, val_main_call1_v1, val_main_cst_2, val_main_cst_3, val_main_cst_4, val_main_cst_5]
    rfl
  have q : ∀ x : Fin 3, Ideal.div ((1 : ℝ) : EReal) (if val_main_v16 x0 x1 (ix3 b n (x.castLE (by decide))) < (epsD : EReal) then (epsD : EReal) else val_main_v16 x0 x1 (ix3 b n (x.castLE (by decide)))) = (recip D.X1 D.X2 b n x : EReal) := fun x => by
    rw [v16_at H]
    simp only [EReal.coe_lt_coe_iff]
    exact clamp_recip _
  rw [e, bits_one, bits_epsD]
  simp only [q]
  rw [← coe_sum, div_real _ _ (recips_pos D.X1 D.X2 b n).ne']
  rfl

/-- The drawn sources are the problem's neighbours. -/
def Draws (D : Data) (x0 : (⟨S8x3x4096, .f32⟩ : BufTy).Contents (Elt Ideal)) (x1 : (⟨S8x3x1024, .f32⟩ : BufTy).Contents (Elt Ideal)) : Prop :=
  ∀ b n, D.σ b n = nearest (fun s => val_main_v16 x0 x1 (ix3 b n s))

/-- The interpolated features. -/
theorem v49_at (H : D.Held (fun b k n => x0 (ix3 b k n)) (fun b k n => x1 (ix3 b k n)) (fun b k n => x2 (ix3 b k n)) (fun b k n => x3 (ix3 b k n)) (fun o k => x4 (ix2 o k)) (fun o => x5 (ix1 o)) (fun o => x6 (ix1 o)) (fun o => x7 (ix1 o)) (fun o k => x8 (ix2 o k)) (fun o => x9 (ix1 o)) (fun o => x10 (ix1 o)) (fun o => x11 (ix1 o))) (hσ : Draws D x0 x1) (b : Fin 8) (n : Fin 4096) (k : Fin 256) :
    val_main_v49 x0 x1 x3 (ix3 b n k) = (interp D.X1 D.X2 D.P2 D.σ b k n : EReal) := by
  have e : val_main_v49 x0 x1 x3 (ix3 b n k) = ∑ x : Fin 3, val_main_v45 x0 x1 x3 (ix4 b n x k) * val_main_v28 x0 x1 (ix3 b n x) := by
    pointwise [val_main_v49, val_main_v48, val_main_v47, val_main_v46, val_main_cst_9]
  have q3 : ∀ b k n, x3 (ix3 b k n) = (D.P2 b k n : EReal) := H.h3
  rw [e]
  simp only [v45_at, v28_at H, ← hσ b n, q3, ← EReal.coe_mul, ← coe_sum]
  rfl

/-- The first layer's product. -/
theorem v57_at (H : D.Held (fun b k n => x0 (ix3 b k n)) (fun b k n => x1 (ix3 b k n)) (fun b k n => x2 (ix3 b k n)) (fun b k n => x3 (ix3 b k n)) (fun o k => x4 (ix2 o k)) (fun o => x5 (ix1 o)) (fun o => x6 (ix1 o)) (fun o => x7 (ix1 o)) (fun o k => x8 (ix2 o k)) (fun o => x9 (ix1 o)) (fun o => x10 (ix1 o)) (fun o => x11 (ix1 o))) (hσ : Draws D x0 x1) (b : Fin 8) (o : Fin 256) (n : Fin 4096) :
    val_main_v57 x0 x1 x2 x3 x4 x5 (ix3 b o n) = (D.y0 b o n : EReal) := by
  have e : val_main_v57 x0 x1 x2 x3 x4 x5 (ix3 b o n)
      = (∑ x : Fin 128, x2 (ix3 b x n) * x4 (ix2 o (Fin.castAdd 256 x))) + (∑ x : Fin 256, val_main_v49 x0 x1 x3 (ix3 b n x) * x4 (ix2 o (Fin.natAdd 128 x))) + x5 (ix1 o) := by
    pointwise [val_main_v57, val_main_v56, val_main_v55, val_main_v54, val_main_v53, val_main_v52, val_main_v51, val_main_v50]
    rfl
  have q2 : ∀ b k n, x2 (ix3 b k n) = (D.P1 b k n : EReal) := H.h2
  have q4 : ∀ o k, x4 (ix2 o k) = (D.M0 o k : EReal) := H.h4
  have q5 : ∀ o, x5 (ix1 o) = (D.B0 o : EReal) := H.h5
  rw [e]
  simp only [v49_at H hσ, q2, q4, q5]
  unfold Data.y0
  rw [affine_coe]
  congr 1
  have split := Fin.sum_univ_add (a := 128) (b := 256) fun k : Fin (128 + 256) => (D.M0 o k : EReal) * (feat D.P1 (interp D.X1 D.X2 D.P2 D.σ) b k n : EReal)
  refine Eq.trans ?_ split.symm
  congr 1
  · refine Finset.sum_congr rfl fun k _ => ?_
    rw [mul_comm]
    congr 2
    exact (Fin.addCases_left (m := 128) (n := 256) (motive := fun _ => ℝ) (left := fun k => D.P1 b k n) (right := fun k => Own.interp D.X1 D.X2 D.P2 D.σ b k n) k).symm
  · refine Finset.sum_congr rfl fun k _ => ?_
    rw [mul_comm]
    congr 2
    exact (Fin.addCases_right (m := 128) (n := 256) (motive := fun _ => ℝ) (left := fun k => D.P1 b k n) (right := fun k => Own.interp D.X1 D.X2 D.P2 D.σ b k n) k).symm

/-- The first layer's activation. -/
theorem v76_at (H : D.Held (fun b k n => x0 (ix3 b k n)) (fun b k n => x1 (ix3 b k n)) (fun b k n => x2 (ix3 b k n)) (fun b k n => x3 (ix3 b k n)) (fun o k => x4 (ix2 o k)) (fun o => x5 (ix1 o)) (fun o => x6 (ix1 o)) (fun o => x7 (ix1 o)) (fun o k => x8 (ix2 o k)) (fun o => x9 (ix1 o)) (fun o => x10 (ix1 o)) (fun o => x11 (ix1 o))) (hσ : Draws D x0 x1) (b : Fin 8) (o : Fin 256) (n : Fin 4096) :
    val_main_v76 x0 x1 x2 x3 x4 x5 x6 x7 (ix3 b o n) = (D.z0 b o n : EReal) := by
  have e : val_main_v76 x0 x1 x2 x3 x4 x5 x6 x7 (ix3 b o n)
      = max (Ideal.div (val_main_v57 x0 x1 x2 x3 x4 x5 (ix3 b o n) - val_main_v61 x0 x1 x2 x3 x4 x5 (ix3 0 o 0))
            (Ideal.sqrt (val_main_v62 x0 x1 x2 x3 x4 x5 (ix3 0 o 0) + Ideal.ofBits FTy.f32 925353388#32)) * x6 (ix1 o) + x7 (ix1 o)) 0 := by
    pointwise [val_main_v76, val_main_call3_v0, val_main_call3_cst, val_main_v75, val_main_v74, val_main_v73, val_main_v72, val_main_v71, val_main_v70, val_main_v69, val_main_v68, val_main_v67, val_main_v66, val_main_v65, val_main_v64, val_main_v63, val_main_cst_13]
  have q6 : ∀ o, x6 (ix1 o) = (D.G0 o : EReal) := H.h6
  have q7 : ∀ o, x7 (ix1 o) = (D.E0 o : EReal) := H.h7
  have y := v57_at H hσ
  rw [e, v61_at _ _ _ _ _ _ D.y0 y, v62_at _ _ _ _ _ _ D.y0 y, y, norm_coe, q6, q7]
  unfold Data.z0 act
  rw [coe_max, EReal.coe_add, EReal.coe_mul, EReal.coe_zero]

/-- The second layer's product. -/
theorem v81_at (H : D.Held (fun b k n => x0 (ix3 b k n)) (fun b k n => x1 (ix3 b k n)) (fun b k n => x2 (ix3 b k n)) (fun b k n => x3 (ix3 b k n)) (fun o k => x4 (ix2 o k)) (fun o => x5 (ix1 o)) (fun o => x6 (ix1 o)) (fun o => x7 (ix1 o)) (fun o k => x8 (ix2 o k)) (fun o => x9 (ix1 o)) (fun o => x10 (ix1 o)) (fun o => x11 (ix1 o))) (hσ : Draws D x0 x1) (b : Fin 8) (o : Fin 256) (n : Fin 4096) :
    val_main_v81 x0 x1 x2 x3 x4 x5 x6 x7 x8 x9 (ix3 b o n) = (D.y1 b o n : EReal) := by
  have e : val_main_v81 x0 x1 x2 x3 x4 x5 x6 x7 x8 x9 (ix3 b o n)
      = (∑ x, val_main_v76 x0 x1 x2 x3 x4 x5 x6 x7 (ix3 b x n) * x8 (ix2 o x)) + x9 (ix1 o) := by
    pointwise [val_main_v81, val_main_v80, val_main_v79, val_main_v78, val_main_v77]
  have q8 : ∀ o k, x8 (ix2 o k) = (D.M1 o k : EReal) := H.h8
  have q9 : ∀ o, x9 (ix1 o) = (D.B1 o : EReal) := H.h9
  rw [e]
  simp only [v76_at H hσ, q8, q9]
  unfold Data.y1
  rw [affine_coe]
  congr 1
  exact Finset.sum_congr rfl fun k _ => mul_comm _ _

/-- The result. -/
theorem v100_at (H : D.Held (fun b k n => x0 (ix3 b k n)) (fun b k n => x1 (ix3 b k n)) (fun b k n => x2 (ix3 b k n)) (fun b k n => x3 (ix3 b k n)) (fun o k => x4 (ix2 o k)) (fun o => x5 (ix1 o)) (fun o => x6 (ix1 o)) (fun o => x7 (ix1 o)) (fun o k => x8 (ix2 o k)) (fun o => x9 (ix1 o)) (fun o => x10 (ix1 o)) (fun o => x11 (ix1 o))) (hσ : Draws D x0 x1) (b : Fin 8) (o : Fin 256) (n : Fin 4096) :
    val_main_v100 x0 x1 x2 x3 x4 x5 x6 x7 x8 x9 x10 x11 (ix3 b o n) = D.out b o n := by
  have e : val_main_v100 x0 x1 x2 x3 x4 x5 x6 x7 x8 x9 x10 x11 (ix3 b o n)
      = max (Ideal.div (val_main_v81 x0 x1 x2 x3 x4 x5 x6 x7 x8 x9 (ix3 b o n) - val_main_v85 x0 x1 x2 x3 x4 x5 x6 x7 x8 x9 (ix3 0 o 0))
            (Ideal.sqrt (val_main_v86 x0 x1 x2 x3 x4 x5 x6 x7 x8 x9 (ix3 0 o 0) + Ideal.ofBits FTy.f32 925353388#32)) * x10 (ix1 o) + x11 (ix1 o)) 0 := by
    pointwise [val_main_v100, val_main_call5_v0, val_main_call5_cst, val_main_v99, val_main_v98, val_main_v97, val_main_v96, val_main_v95, val_main_v94, val_main_v93, val_main_v92, val_main_v91, val_main_v90, val_main_v89, val_main_v88, val_main_v87, val_main_cst_17]
  have q10 : ∀ o, x10 (ix1 o) = (D.G1 o : EReal) := H.h10
  have q11 : ∀ o, x11 (ix1 o) = D.E1 o := H.h11
  have y := v81_at H hσ
  rw [e, v85_at _ _ _ _ _ _ _ _ _ _ D.y1 y, v86_at _ _ _ _ _ _ _ _ _ _ D.y1 y, y, norm_coe, q10, q11]
  unfold Data.out actE
  rw [EReal.coe_mul]

end Cert.ReferenceIdeal.Read
-- ==== Proof.Given.lean ====
/- What the precondition gives: the arguments' real values, and a strict rise among the first four sorted distances
   of every query. -/
module

public import proofs.«01_k».proof.Proof.Refs

@[expose] public section

set_option maxRecDepth 16384

noncomputable section

namespace Cert.Pre_well_posed

open Cert.Pre_well_posed.Gen Idealize.ShloMosaic Idealize.ShloMosaic.Pointwise Cert.Own

/-- An array whose magnitudes are all below infinity holds real values. -/
theorem real_of {s : Shape} (hb : S_.BroadcastsInDim s (![] : Fin 0 → Fin s.rank)) (x : FVec Ideal s .f32)
    (h : cmpf (F := Ideal) (φ := .f32) .olt (Host.absf x) (broadcastInDim s ![] hb (constant S_ .f32 0x7F800000#32)) = (fun _ => 1#1)) (i : s.Idx) :
    x i = ((EReal.toReal (x i) : ℝ) : EReal) := by
  have e : BitVec.ofBool (decide (max (x i : EReal) (-(x i : EReal)) < Ideal.ofBits .f32 2139095040#32)) = 1#1 := congrFun h i
  rw [bits_inf] at e
  have l : max (x i : EReal) (-(x i : EReal)) < ⊤ := by
    by_contra q
    rw [decide_eq_false q] at e
    exact absurd e (by decide)
  have t : (x i : EReal) ≠ ⊤ := (lt_of_le_of_lt (le_max_left _ _) l).ne
  have u : (x i : EReal) ≠ ⊥ := fun q => by
    have : -(x i : EReal) < ⊤ := lt_of_le_of_lt (le_max_right _ _) l
    rw [q, EReal.neg_bot] at this
    exact lt_irrefl _ this
  exact (EReal.coe_toReal t u).symm

variable (a0 : FVec Ideal S8x3x4096 .f32) (a1 : FVec Ideal S8x3x1024 .f32) (a2 : FVec Ideal S8x128x4096 .f32) (a3 : FVec Ideal S8x256x1024 .f32) (a4 : FVec Ideal S256x384 .f32) (a5 : FVec Ideal S256 .f32) (a6 : FVec Ideal S256 .f32) (a7 : FVec Ideal S256 .f32) (a8 : FVec Ideal S256x256 .f32) (a9 : FVec Ideal S256 .f32) (a10 : FVec Ideal S256 .f32) (a11 : FVec Ideal S256 .f32)

/-- The distances the precondition sorts are the reference's. -/
theorem first_eq : (fn (F := Ideal) a0 a1 a2 a3 a4 a5 a6 a7 a8 a9 a10 a11).1
    = cmpf (F := Ideal) (φ := .f32) .olt
        (extractStridedSlice S8x4096x3 ![0, 0, 0] (Host.sort S8x4096x1024 2 (comparator_f32_d2 (F := Ideal)) (Cert.ReferenceIdeal.Read.val_main_v16 (F := Ideal) a0 a1)) slices_S8x4096x1024_S8x4096x3_0_0_0)
        (extractStridedSlice S8x4096x3 ![0, 0, 1] (Host.sort S8x4096x1024 2 (comparator_f32_d2 (F := Ideal)) (Cert.ReferenceIdeal.Read.val_main_v16 (F := Ideal) a0 a1)) slices_S8x4096x1024_S8x4096x3_0_0_1) := rfl

/-- A comparison that holds. -/
theorem lt_of_bit (x y : EReal) (h : BitVec.ofBool (decide (x < y)) = 1#1) : x < y := by
  by_contra q
  rw [decide_eq_false q] at h
  exact absurd h (by decide)

/-- The first slice. -/
theorem slice0 (x : S8x4096x1024.Idx → EReal) (b : Fin 8) (n : Fin 4096) (j : Fin 3) :
    extractStridedSlice S8x4096x3 ![0, 0, 0] x slices_S8x4096x1024_S8x4096x3_0_0_0 (ix3 b n j) = x (ix3 b n ⟨j.val, by omega⟩) := by
  pointwise []

/-- The second slice. -/
theorem slice1 (x : S8x4096x1024.Idx → EReal) (b : Fin 8) (n : Fin 4096) (j : Fin 3) :
    extractStridedSlice S8x4096x3 ![0, 0, 1] x slices_S8x4096x1024_S8x4096x3_0_0_1 (ix3 b n j) = x (ix3 b n ⟨1 + j.val, by omega⟩) := by
  pointwise []

/-- First sources over reals, from their extended reals. -/
theorem firsts_coe (d : Fin 1024 → EReal) (r : Fin 1024 → ℝ) (σ : Fin 3 → Fin 1024) (e : ∀ s, d s = ((r s : ℝ) : EReal)) (f : Firsts d σ) : Firsts r σ := by
  have l : ∀ i j, d i < d j → r i < r j := fun i j h => by
    rw [e, e] at h
    exact EReal.coe_lt_coe_iff.mp h
  exact ⟨l _ _ f.h01, l _ _ f.h12, fun s n0 n1 n2 => l _ _ (f.rest s n0 n1 n2)⟩

/-- Sorted distance 0 lies strictly below sorted distance 1. -/
theorem rise0 (h : (fn (F := Ideal) a0 a1 a2 a3 a4 a5 a6 a7 a8 a9 a10 a11).1 = (fun _ => 1#1)) (b : Fin 8) (n : Fin 4096) :
    (fun s => Cert.ReferenceIdeal.Read.val_main_v16 (F := Ideal) a0 a1 (ix3 b n s)) (source (fun s => Cert.ReferenceIdeal.Read.val_main_v16 (F := Ideal) a0 a1 (ix3 b n s)) 0) < (fun s => Cert.ReferenceIdeal.Read.val_main_v16 (F := Ideal) a0 a1 (ix3 b n s)) (source (fun s => Cert.ReferenceIdeal.Read.val_main_v16 (F := Ideal) a0 a1 (ix3 b n s)) 1) := by
  have e := congrFun ((first_eq a0 a1 a2 a3 a4 a5 a6 a7 a8 a9 a10 a11).symm.trans h) (ix3 b n (0 : Fin 3))
  have g := lt_of_bit _ _ e
  rw [slice0, slice1] at g
  exact lt_of_eq_of_lt (sort_at _ b n 0).symm (lt_of_lt_of_eq g (sort_at _ b n 1))

/-- Sorted distance 1 lies strictly below sorted distance 2. -/
theorem rise1 (h : (fn (F := Ideal) a0 a1 a2 a3 a4 a5 a6 a7 a8 a9 a10 a11).1 = (fun _ => 1#1)) (b : Fin 8) (n : Fin 4096) :
    (fun s => Cert.ReferenceIdeal.Read.val_main_v16 (F := Ideal) a0 a1 (ix3 b n s)) (source (fun s => Cert.ReferenceIdeal.Read.val_main_v16 (F := Ideal) a0 a1 (ix3 b n s)) 1) < (fun s => Cert.ReferenceIdeal.Read.val_main_v16 (F := Ideal) a0 a1 (ix3 b n s)) (source (fun s => Cert.ReferenceIdeal.Read.val_main_v16 (F := Ideal) a0 a1 (ix3 b n s)) 2) := by
  have e := congrFun ((first_eq a0 a1 a2 a3 a4 a5 a6 a7 a8 a9 a10 a11).symm.trans h) (ix3 b n (1 : Fin 3))
  have g := lt_of_bit _ _ e
  rw [slice0, slice1] at g
  exact lt_of_eq_of_lt (sort_at _ b n 1).symm (lt_of_lt_of_eq g (sort_at _ b n 2))

/-- Sorted distance 2 lies strictly below sorted distance 3. -/
theorem rise2 (h : (fn (F := Ideal) a0 a1 a2 a3 a4 a5 a6 a7 a8 a9 a10 a11).1 = (fun _ => 1#1)) (b : Fin 8) (n : Fin 4096) :
    (fun s => Cert.ReferenceIdeal.Read.val_main_v16 (F := Ideal) a0 a1 (ix3 b n s)) (source (fun s => Cert.ReferenceIdeal.Read.val_main_v16 (F := Ideal) a0 a1 (ix3 b n s)) 2) < (fun s => Cert.ReferenceIdeal.Read.val_main_v16 (F := Ideal) a0 a1 (ix3 b n s)) (source (fun s => Cert.ReferenceIdeal.Read.val_main_v16 (F := Ideal) a0 a1 (ix3 b n s)) 3) := by
  have e := congrFun ((first_eq a0 a1 a2 a3 a4 a5 a6 a7 a8 a9 a10 a11).symm.trans h) (ix3 b n (2 : Fin 3))
  have g := lt_of_bit _ _ e
  rw [slice0, slice1] at g
  exact lt_of_eq_of_lt (sort_at _ b n 2).symm (lt_of_lt_of_eq g (sort_at _ b n 3))

/-- The sorted distances' first three sources are the row's first three. -/
theorem firsts (h : (fn (F := Ideal) a0 a1 a2 a3 a4 a5 a6 a7 a8 a9 a10 a11).1 = (fun _ => 1#1)) (b : Fin 8) (n : Fin 4096) :
    Firsts (fun s => Cert.ReferenceIdeal.Read.val_main_v16 (F := Ideal) a0 a1 (ix3 b n s)) (nearest (fun s => Cert.ReferenceIdeal.Read.val_main_v16 (F := Ideal) a0 a1 (ix3 b n s))) :=
  nearest_firsts _ (rise0 a0 a1 a2 a3 a4 a5 a6 a7 a8 a9 a10 a11 h b n) (rise1 a0 a1 a2 a3 a4 a5 a6 a7 a8 a9 a10 a11 h b n) (rise2 a0 a1 a2 a3 a4 a5 a6 a7 a8 a9 a10 a11 h b n)

/-- The problem's arguments, read off the arrays. -/
def data : Data where
  X1 := fun b k n => EReal.toReal (a0 (ix3 b k n))
  X2 := fun b k n => EReal.toReal (a1 (ix3 b k n))
  P1 := fun b k n => EReal.toReal (a2 (ix3 b k n))
  P2 := fun b k n => EReal.toReal (a3 (ix3 b k n))
  M0 := fun o k => EReal.toReal (a4 (ix2 o k))
  B0 := fun o => EReal.toReal (a5 (ix1 o))
  G0 := fun o => EReal.toReal (a6 (ix1 o))
  E0 := fun o => EReal.toReal (a7 (ix1 o))
  M1 := fun o k => EReal.toReal (a8 (ix2 o k))
  B1 := fun o => EReal.toReal (a9 (ix1 o))
  G1 := fun o => EReal.toReal (a10 (ix1 o))
  E1 := fun o => a11 (ix1 o)
  σ := fun b n => nearest (fun s => Cert.ReferenceIdeal.Read.val_main_v16 (F := Ideal) a0 a1 (ix3 b n s))

/-- Every component of the precondition holds. -/
def Good : Prop :=
  (fn (F := Ideal) a0 a1 a2 a3 a4 a5 a6 a7 a8 a9 a10 a11).1 = (fun _ => 1#1)
  ∧ (fn (F := Ideal) a0 a1 a2 a3 a4 a5 a6 a7 a8 a9 a10 a11).2.1 = (fun _ => 1#1)
  ∧ (fn (F := Ideal) a0 a1 a2 a3 a4 a5 a6 a7 a8 a9 a10 a11).2.2.1 = (fun _ => 1#1)
  ∧ (fn (F := Ideal) a0 a1 a2 a3 a4 a5 a6 a7 a8 a9 a10 a11).2.2.2.1 = (fun _ => 1#1)
  ∧ (fn (F := Ideal) a0 a1 a2 a3 a4 a5 a6 a7 a8 a9 a10 a11).2.2.2.2.1 = (fun _ => 1#1)
  ∧ (fn (F := Ideal) a0 a1 a2 a3 a4 a5 a6 a7 a8 a9 a10 a11).2.2.2.2.2.1 = (fun _ => 1#1)
  ∧ (fn (F := Ideal) a0 a1 a2 a3 a4 a5 a6 a7 a8 a9 a10 a11).2.2.2.2.2.2.1 = (fun _ => 1#1)
  ∧ (fn (F := Ideal) a0 a1 a2 a3 a4 a5 a6 a7 a8 a9 a10 a11).2.2.2.2.2.2.2.1 = (fun _ => 1#1)
  ∧ (fn (F := Ideal) a0 a1 a2 a3 a4 a5 a6 a7 a8 a9 a10 a11).2.2.2.2.2.2.2.2.1 = (fun _ => 1#1)
  ∧ (fn (F := Ideal) a0 a1 a2 a3 a4 a5 a6 a7 a8 a9 a10 a11).2.2.2.2.2.2.2.2.2.1 = (fun _ => 1#1)
  ∧ (fn (F := Ideal) a0 a1 a2 a3 a4 a5 a6 a7 a8 a9 a10 a11).2.2.2.2.2.2.2.2.2.2.1 = (fun _ => 1#1)
  ∧ (fn (F := Ideal) a0 a1 a2 a3 a4 a5 a6 a7 a8 a9 a10 a11).2.2.2.2.2.2.2.2.2.2.2 = (fun _ => 1#1)

/-- Component 1 asks that argument 0 be finite. -/
theorem comp0 : (fn (F := Ideal) a0 a1 a2 a3 a4 a5 a6 a7 a8 a9 a10 a11).2.1 = cmpf (F := Ideal) (φ := .f32) .olt (Host.absf a0) (broadcastInDim S8x3x4096 ![] bcast_S_S8x3x4096 (constant S_ .f32 0x7F800000#32)) := rfl

/-- Argument 0 holds reals. -/
theorem real0 (h : Good a0 a1 a2 a3 a4 a5 a6 a7 a8 a9 a10 a11) (i : S8x3x4096.Idx) : a0 i = ((EReal.toReal (a0 i) : ℝ) : EReal) :=
  real_of bcast_S_S8x3x4096 a0 ((comp0 a0 a1 a2 a3 a4 a5 a6 a7 a8 a9 a10 a11).symm.trans h.2.1) i

/-- Component 2 asks that argument 1 be finite. -/
theorem comp1 : (fn (F := Ideal) a0 a1 a2 a3 a4 a5 a6 a7 a8 a9 a10 a11).2.2.1 = cmpf (F := Ideal) (φ := .f32) .olt (Host.absf a1) (broadcastInDim S8x3x1024 ![] bcast_S_S8x3x1024 (constant S_ .f32 0x7F800000#32)) := rfl

/-- Argument 1 holds reals. -/
theorem real1 (h : Good a0 a1 a2 a3 a4 a5 a6 a7 a8 a9 a10 a11) (i : S8x3x1024.Idx) : a1 i = ((EReal.toReal (a1 i) : ℝ) : EReal) :=
  real_of bcast_S_S8x3x1024 a1 ((comp1 a0 a1 a2 a3 a4 a5 a6 a7 a8 a9 a10 a11).symm.trans h.2.2.1) i

/-- Component 3 asks that argument 2 be finite. -/
theorem comp2 : (fn (F := Ideal) a0 a1 a2 a3 a4 a5 a6 a7 a8 a9 a10 a11).2.2.2.1 = cmpf (F := Ideal) (φ := .f32) .olt (Host.absf a2) (broadcastInDim S8x128x4096 ![] bcast_S_S8x128x4096 (constant S_ .f32 0x7F800000#32)) := rfl

/-- Argument 2 holds reals. -/
theorem real2 (h : Good a0 a1 a2 a3 a4 a5 a6 a7 a8 a9 a10 a11) (i : S8x128x4096.Idx) : a2 i = ((EReal.toReal (a2 i) : ℝ) : EReal) :=
  real_of bcast_S_S8x128x4096 a2 ((comp2 a0 a1 a2 a3 a4 a5 a6 a7 a8 a9 a10 a11).symm.trans h.2.2.2.1) i

/-- Component 4 asks that argument 3 be finite. -/
theorem comp3 : (fn (F := Ideal) a0 a1 a2 a3 a4 a5 a6 a7 a8 a9 a10 a11).2.2.2.2.1 = cmpf (F := Ideal) (φ := .f32) .olt (Host.absf a3) (broadcastInDim S8x256x1024 ![] bcast_S_S8x256x1024 (constant S_ .f32 0x7F800000#32)) := rfl

/-- Argument 3 holds reals. -/
theorem real3 (h : Good a0 a1 a2 a3 a4 a5 a6 a7 a8 a9 a10 a11) (i : S8x256x1024.Idx) : a3 i = ((EReal.toReal (a3 i) : ℝ) : EReal) :=
  real_of bcast_S_S8x256x1024 a3 ((comp3 a0 a1 a2 a3 a4 a5 a6 a7 a8 a9 a10 a11).symm.trans h.2.2.2.2.1) i

/-- Component 5 asks that argument 4 be finite. -/
theorem comp4 : (fn (F := Ideal) a0 a1 a2 a3 a4 a5 a6 a7 a8 a9 a10 a11).2.2.2.2.2.1 = cmpf (F := Ideal) (φ := .f32) .olt (Host.absf a4) (broadcastInDim S256x384 ![] bcast_S_S256x384 (constant S_ .f32 0x7F800000#32)) := rfl

/-- Argument 4 holds reals. -/
theorem real4 (h : Good a0 a1 a2 a3 a4 a5 a6 a7 a8 a9 a10 a11) (i : S256x384.Idx) : a4 i = ((EReal.toReal (a4 i) : ℝ) : EReal) :=
  real_of bcast_S_S256x384 a4 ((comp4 a0 a1 a2 a3 a4 a5 a6 a7 a8 a9 a10 a11).symm.trans h.2.2.2.2.2.1) i

/-- Component 6 asks that argument 5 be finite. -/
theorem comp5 : (fn (F := Ideal) a0 a1 a2 a3 a4 a5 a6 a7 a8 a9 a10 a11).2.2.2.2.2.2.1 = cmpf (F := Ideal) (φ := .f32) .olt (Host.absf a5) (broadcastInDim S256 ![] bcast_S_S256 (constant S_ .f32 0x7F800000#32)) := rfl

/-- Argument 5 holds reals. -/
theorem real5 (h : Good a0 a1 a2 a3 a4 a5 a6 a7 a8 a9 a10 a11) (i : S256.Idx) : a5 i = ((EReal.toReal (a5 i) : ℝ) : EReal) :=
  real_of bcast_S_S256 a5 ((comp5 a0 a1 a2 a3 a4 a5 a6 a7 a8 a9 a10 a11).symm.trans h.2.2.2.2.2.2.1) i

/-- Component 7 asks that argument 6 be finite. -/
theorem comp6 : (fn (F := Ideal) a0 a1 a2 a3 a4 a5 a6 a7 a8 a9 a10 a11).2.2.2.2.2.2.2.1 = cmpf (F := Ideal) (φ := .f32) .olt (Host.absf a6) (broadcastInDim S256 ![] bcast_S_S256 (constant S_ .f32 0x7F800000#32)) := rfl

/-- Argument 6 holds reals. -/
theorem real6 (h : Good a0 a1 a2 a3 a4 a5 a6 a7 a8 a9 a10 a11) (i : S256.Idx) : a6 i = ((EReal.toReal (a6 i) : ℝ) : EReal) :=
  real_of bcast_S_S256 a6 ((comp6 a0 a1 a2 a3 a4 a5 a6 a7 a8 a9 a10 a11).symm.trans h.2.2.2.2.2.2.2.1) i

/-- Component 8 asks that argument 7 be finite. -/
theorem comp7 : (fn (F := Ideal) a0 a1 a2 a3 a4 a5 a6 a7 a8 a9 a10 a11).2.2.2.2.2.2.2.2.1 = cmpf (F := Ideal) (φ := .f32) .olt (Host.absf a7) (broadcastInDim S256 ![] bcast_S_S256 (constant S_ .f32 0x7F800000#32)) := rfl

/-- Argument 7 holds reals. -/
theorem real7 (h : Good a0 a1 a2 a3 a4 a5 a6 a7 a8 a9 a10 a11) (i : S256.Idx) : a7 i = ((EReal.toReal (a7 i) : ℝ) : EReal) :=
  real_of bcast_S_S256 a7 ((comp7 a0 a1 a2 a3 a4 a5 a6 a7 a8 a9 a10 a11).symm.trans h.2.2.2.2.2.2.2.2.1) i

/-- Component 9 asks that argument 8 be finite. -/
theorem comp8 : (fn (F := Ideal) a0 a1 a2 a3 a4 a5 a6 a7 a8 a9 a10 a11).2.2.2.2.2.2.2.2.2.1 = cmpf (F := Ideal) (φ := .f32) .olt (Host.absf a8) (broadcastInDim S256x256 ![] bcast_S_S256x256 (constant S_ .f32 0x7F800000#32)) := rfl

/-- Argument 8 holds reals. -/
theorem real8 (h : Good a0 a1 a2 a3 a4 a5 a6 a7 a8 a9 a10 a11) (i : S256x256.Idx) : a8 i = ((EReal.toReal (a8 i) : ℝ) : EReal) :=
  real_of bcast_S_S256x256 a8 ((comp8 a0 a1 a2 a3 a4 a5 a6 a7 a8 a9 a10 a11).symm.trans h.2.2.2.2.2.2.2.2.2.1) i

/-- Component 10 asks that argument 9 be finite. -/
theorem comp9 : (fn (F := Ideal) a0 a1 a2 a3 a4 a5 a6 a7 a8 a9 a10 a11).2.2.2.2.2.2.2.2.2.2.1 = cmpf (F := Ideal) (φ := .f32) .olt (Host.absf a9) (broadcastInDim S256 ![] bcast_S_S256 (constant S_ .f32 0x7F800000#32)) := rfl

/-- Argument 9 holds reals. -/
theorem real9 (h : Good a0 a1 a2 a3 a4 a5 a6 a7 a8 a9 a10 a11) (i : S256.Idx) : a9 i = ((EReal.toReal (a9 i) : ℝ) : EReal) :=
  real_of bcast_S_S256 a9 ((comp9 a0 a1 a2 a3 a4 a5 a6 a7 a8 a9 a10 a11).symm.trans h.2.2.2.2.2.2.2.2.2.2.1) i

/-- Component 11 asks that argument 10 be finite. -/
theorem comp10 : (fn (F := Ideal) a0 a1 a2 a3 a4 a5 a6 a7 a8 a9 a10 a11).2.2.2.2.2.2.2.2.2.2.2 = cmpf (F := Ideal) (φ := .f32) .olt (Host.absf a10) (broadcastInDim S256 ![] bcast_S_S256 (constant S_ .f32 0x7F800000#32)) := rfl

/-- Argument 10 holds reals. -/
theorem real10 (h : Good a0 a1 a2 a3 a4 a5 a6 a7 a8 a9 a10 a11) (i : S256.Idx) : a10 i = ((EReal.toReal (a10 i) : ℝ) : EReal) :=
  real_of bcast_S_S256 a10 ((comp10 a0 a1 a2 a3 a4 a5 a6 a7 a8 a9 a10 a11).symm.trans h.2.2.2.2.2.2.2.2.2.2.2) i

/-- The arrays hold those arguments. -/
theorem data_held (h : Good a0 a1 a2 a3 a4 a5 a6 a7 a8 a9 a10 a11) : (data a0 a1 a2 a3 a4 a5 a6 a7 a8 a9 a10 a11).Held (fun b k n => a0 (ix3 b k n)) (fun b k n => a1 (ix3 b k n)) (fun b k n => a2 (ix3 b k n)) (fun b k n => a3 (ix3 b k n)) (fun o k => a4 (ix2 o k)) (fun o => a5 (ix1 o)) (fun o => a6 (ix1 o)) (fun o => a7 (ix1 o)) (fun o k => a8 (ix2 o k)) (fun o => a9 (ix1 o)) (fun o => a10 (ix1 o)) (fun o => a11 (ix1 o)) where
  h0 := fun b k n => real0 a0 a1 a2 a3 a4 a5 a6 a7 a8 a9 a10 a11 h (ix3 b k n)
  h1 := fun b k n => real1 a0 a1 a2 a3 a4 a5 a6 a7 a8 a9 a10 a11 h (ix3 b k n)
  h2 := fun b k n => real2 a0 a1 a2 a3 a4 a5 a6 a7 a8 a9 a10 a11 h (ix3 b k n)
  h3 := fun b k n => real3 a0 a1 a2 a3 a4 a5 a6 a7 a8 a9 a10 a11 h (ix3 b k n)
  h4 := fun o k => real4 a0 a1 a2 a3 a4 a5 a6 a7 a8 a9 a10 a11 h (ix2 o k)
  h5 := fun o => real5 a0 a1 a2 a3 a4 a5 a6 a7 a8 a9 a10 a11 h (ix1 o)
  h6 := fun o => real6 a0 a1 a2 a3 a4 a5 a6 a7 a8 a9 a10 a11 h (ix1 o)
  h7 := fun o => real7 a0 a1 a2 a3 a4 a5 a6 a7 a8 a9 a10 a11 h (ix1 o)
  h8 := fun o k => real8 a0 a1 a2 a3 a4 a5 a6 a7 a8 a9 a10 a11 h (ix2 o k)
  h9 := fun o => real9 a0 a1 a2 a3 a4 a5 a6 a7 a8 a9 a10 a11 h (ix1 o)
  h10 := fun o => real10 a0 a1 a2 a3 a4 a5 a6 a7 a8 a9 a10 a11 h (ix1 o)
  h11 := fun o => rfl

/-- The neighbours are the reference's draws. -/
theorem data_draws : Cert.ReferenceIdeal.Read.Draws (data a0 a1 a2 a3 a4 a5 a6 a7 a8 a9 a10 a11) a0 a1 := by
  intro b n
  simp only [data]

/-- The neighbours are the three nearest keys. -/
theorem data_firsts (h : Good a0 a1 a2 a3 a4 a5 a6 a7 a8 a9 a10 a11) (b : Fin 8) (n : Fin 4096) :
    Firsts (Own.dist (data a0 a1 a2 a3 a4 a5 a6 a7 a8 a9 a10 a11).X1 (data a0 a1 a2 a3 a4 a5 a6 a7 a8 a9 a10 a11).X2 b n) ((data a0 a1 a2 a3 a4 a5 a6 a7 a8 a9 a10 a11).σ b n) := by
  have f := firsts a0 a1 a2 a3 a4 a5 a6 a7 a8 a9 a10 a11 h.1 b n
  have e : ∀ s, Cert.ReferenceIdeal.Read.val_main_v16 (F := Ideal) a0 a1 (ix3 b n s) = ((Own.dist (data a0 a1 a2 a3 a4 a5 a6 a7 a8 a9 a10 a11).X1 (data a0 a1 a2 a3 a4 a5 a6 a7 a8 a9 a10 a11).X2 b n s : ℝ) : EReal) :=
    fun s => Cert.ReferenceIdeal.Read.v16_at (data_held a0 a1 a2 a3 a4 a5 a6 a7 a8 a9 a10 a11 h) b n s
  rw [data_draws a0 a1 a2 a3 a4 a5 a6 a7 a8 a9 a10 a11 b n]
  exact firsts_coe _ _ _ e f

end Cert.Pre_well_posed
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_well_posed
public import proofs.«01_k».proof.Proof.KRun
public import proofs.«01_k».proof.Proof.Whole
public import proofs.«01_k».proof.Proof.Given
public import Idealize.ShloMosaic.Adequacy
public import Idealize.ShloMosaic.Init

@[expose] public section

noncomputable section

namespace Cert.Proof

open Idealize.ShloMosaic Idealize.SL.Sem Cert.Kernel

/-- The reference's frame, read off its run: it names no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same frame under the precondition. -/
theorem frame_ri_pre : Cert.quiescent_ReferenceIdeal_pre_well_posed := fun m ρ _ => frame_ri m ρ trivial

/-- Over arguments that meet the precondition, the kernel's last array is the reference's result. -/
theorem value_eq (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (h : Cert.Pre_well_posed.Good (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) :
    Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.KernelIdeal.Gen.W4 m ρ c (Proc.devRef .tc Cert.KernelIdeal.main_v0) := by
  funext i
  obtain ⟨b, o, n, rfl⟩ : ∃ (b : Fin 8) (o : Fin 256) (n : Fin 4096), i = ix3 b o n :=
    ⟨i 0, i 1, i 2, by
      funext a
      match a with
      | ⟨0, _⟩ => rfl
      | ⟨1, _⟩ => rfl
      | ⟨2, _⟩ => rfl⟩
  have H := Cert.Pre_well_posed.data_held _ _ _ _ _ _ _ _ _ _ _ _ h
  exact (Cert.ReferenceIdeal.Read.v100_at H (Cert.Pre_well_posed.data_draws _ _ _ _ _ _ _ _ _ _ _ _) b o n).trans
    (Cert.KernelIdeal.Gen.result_at ρ H (Cert.Pre_well_posed.data_firsts _ _ _ _ _ _ _ _ _ _ _ _ h) b o n).symm

/-- The reference's result over equal arguments. -/
theorem same {x0 y0 : (⟨Cert.ReferenceIdeal.S8x3x4096, .f32⟩ : BufTy).Contents (Elt Ideal)} {x1 y1 : (⟨Cert.ReferenceIdeal.S8x3x1024, .f32⟩ : BufTy).Contents (Elt Ideal)} {x2 y2 : (⟨Cert.ReferenceIdeal.S8x128x4096, .f32⟩ : BufTy).Contents (Elt Ideal)} {x3 y3 : (⟨Cert.ReferenceIdeal.S8x256x1024, .f32⟩ : BufTy).Contents (Elt Ideal)} {x4 y4 : (⟨Cert.ReferenceIdeal.S256x384, .f32⟩ : BufTy).Contents (Elt Ideal)} {x5 y5 : (⟨Cert.ReferenceIdeal.S256, .f32⟩ : BufTy).Contents (Elt Ideal)} {x6 y6 : (⟨Cert.ReferenceIdeal.S256, .f32⟩ : BufTy).Contents (Elt Ideal)} {x7 y7 : (⟨Cert.ReferenceIdeal.S256, .f32⟩ : BufTy).Contents (Elt Ideal)} {x8 y8 : (⟨Cert.ReferenceIdeal.S256x256, .f32⟩ : BufTy).Contents (Elt Ideal)} {x9 y9 : (⟨Cert.ReferenceIdeal.S256, .f32⟩ : BufTy).Contents (Elt Ideal)} {x10 y10 : (⟨Cert.ReferenceIdeal.S256, .f32⟩ : BufTy).Contents (Elt Ideal)} {x11 y11 : (⟨Cert.ReferenceIdeal.S256, .f32⟩ : BufTy).Contents (Elt Ideal)} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    Cert.ReferenceIdeal.Read.val_main_v100 (F := Ideal) x0 x1 x2 x3 x4 x5 x6 x7 x8 x9 x10 x11 = Cert.ReferenceIdeal.Read.val_main_v100 (F := Ideal) y0 y1 y2 y3 y4 y5 y6 y7 y8 y9 y10 y11 := by
  subst h0 h1 h2 h3 h4 h5 h6 h7 h8 h9 h10 h11
  rfl

/-- The value claim. -/
theorem algebraic : Cert.algebraic_KernelIdeal_ReferenceIdeal_pre_well_posed := by
  intro m g m' g' hP hA
  refine ⟨fun c => Cert.KernelIdeal.Gen.W4 m g c (Proc.devRef .tc Cert.KernelIdeal.main_v0), Cert.KernelIdeal.Gen.run_value m g, ?_⟩
  refine (θ_run Cert.ReferenceIdeal.defs _ _).mono (fun r h c => ?_) (Cert.ReferenceIdeal.Value.run (F := Ideal) m' g')
  obtain ⟨e0, e1, e2, e3, e4, e5, e6, e7, e8, e9, e10, e11⟩ := hA c
  have q : Cert.ReferenceIdeal.Read.val_main_v100 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      = Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) :=
    same e0 e1 e2 e3 e4 e5 e6 e7 e8 e9 e10 e11
  exact ⟨((h c).1.trans (Cert.ReferenceIdeal.Read.val_main_v100_eq (StableHlo.launchContents m' c))).trans (q.trans (value_eq m g c (hP c))), (h c).2⟩

/-- Every claim of the certificate. -/
theorem claim : Cert.Claim := ⟨Cert.Kernel.Gen.facts, Cert.KernelIdeal.Gen.facts, Cert.ReferenceIdeal.Gen.facts, Cert.Pre_well_posed.Gen.facts,
  fun m ρ _ => Cert.Kernel.Gen.frame m ρ, fun m ρ _ => Cert.KernelIdeal.Gen.frame m ρ, fun m ρ _ => Cert.KernelIdeal.Gen.frame m ρ,
  frame_ri, frame_ri_pre, trivial, algebraic⟩

end Cert.Proof

end
